-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_weights [hPre_finite_weights : Cert.Pre_finite_weights.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_weights.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_weights [hPre_finite_weights : Cert.Pre_finite_weights.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_weights.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Kernel3Ideal_pre_finite_weights [hKernel3Ideal : Cert.Kernel3Ideal.Facts] [hPre_finite_weights : Cert.Pre_finite_weights.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_weights m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Reference3Ideal_pre_finite_weights [hReference3Ideal : Cert.Reference3Ideal.Facts] [hPre_finite_weights : Cert.Pre_finite_weights.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_weights m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "scale2" .f32 0x3DD53B95#32 (((Real.sqrt 192)⁻¹ * (Real.log 2)⁻¹ : ℝ) : EReal)

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v14)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v14) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v63) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal_pre_finite_weights [hKernel3Ideal : Cert.Kernel3Ideal.Facts] [hReference3Ideal : Cert.Reference3Ideal.Facts] [hPre_finite_weights : Cert.Pre_finite_weights.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_weights m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v56_0)) (v1 : (c : Dev Cert.Kernel3Ideal.nD) → Buf (Elt Ideal) ((c.tc : Thread Cert.Kernel3Ideal.nD Cert.Kernel3Ideal.τ).loc Cert.Kernel3Ideal.main_v56_1)) (v2 : (c : Dev Cert.Kernel3Ideal.nD) → Buf (Elt Ideal) ((c.tc : Thread Cert.Kernel3Ideal.nD Cert.Kernel3Ideal.τ).loc Cert.Kernel3Ideal.main_v56_2)) (v3 : (c : Dev Cert.Kernel3Ideal.nD) → Buf (Elt Ideal) ((c.tc : Thread Cert.Kernel3Ideal.nD Cert.Kernel3Ideal.τ).loc Cert.Kernel3Ideal.main_v56_3)) (v4 : (c : Dev Cert.Kernel3Ideal.nD) → Buf (Elt Ideal) ((c.tc : Thread Cert.Kernel3Ideal.nD Cert.Kernel3Ideal.τ).loc Cert.Kernel3Ideal.main_v56_4)) (v5 : (c : Dev Cert.Kernel3Ideal.nD) → Buf (Elt Ideal) ((c.tc : Thread Cert.Kernel3Ideal.nD Cert.Kernel3Ideal.τ).loc Cert.Kernel3Ideal.main_v56_5)) (v6 : (c : Dev Cert.Kernel3Ideal.nD) → Buf (Elt Ideal) ((c.tc : Thread Cert.Kernel3Ideal.nD Cert.Kernel3Ideal.τ).loc Cert.Kernel3Ideal.main_v56_6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v56_0) = v0 c
          ∧ r.2.mem ((c.tc : Thread Cert.Kernel3Ideal.nD Cert.Kernel3Ideal.τ).loc Cert.Kernel3Ideal.main_v56_1) = v1 c
          ∧ r.2.mem ((c.tc : Thread Cert.Kernel3Ideal.nD Cert.Kernel3Ideal.τ).loc Cert.Kernel3Ideal.main_v56_2) = v2 c
          ∧ r.2.mem ((c.tc : Thread Cert.Kernel3Ideal.nD Cert.Kernel3Ideal.τ).loc Cert.Kernel3Ideal.main_v56_3) = v3 c
          ∧ r.2.mem ((c.tc : Thread Cert.Kernel3Ideal.nD Cert.Kernel3Ideal.τ).loc Cert.Kernel3Ideal.main_v56_4) = v4 c
          ∧ r.2.mem ((c.tc : Thread Cert.Kernel3Ideal.nD Cert.Kernel3Ideal.τ).loc Cert.Kernel3Ideal.main_v56_5) = v5 c
          ∧ r.2.mem ((c.tc : Thread Cert.Kernel3Ideal.nD Cert.Kernel3Ideal.τ).loc Cert.Kernel3Ideal.main_v56_6) = v6 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v81) = v0 c
          ∧ r.2.mem ((c.tc : Thread Cert.Reference3Ideal.nD Cert.Reference3Ideal.τ).loc Cert.Reference3Ideal.main_v116) = v1 c
          ∧ r.2.mem ((c.tc : Thread Cert.Reference3Ideal.nD Cert.Reference3Ideal.τ).loc Cert.Reference3Ideal.main_v122) = v2 c
          ∧ r.2.mem ((c.tc : Thread Cert.Reference3Ideal.nD Cert.Reference3Ideal.τ).loc Cert.Reference3Ideal.main_v123) = v3 c
          ∧ r.2.mem ((c.tc : Thread Cert.Reference3Ideal.nD Cert.Reference3Ideal.τ).loc Cert.Reference3Ideal.main_v124) = v4 c
          ∧ r.2.mem ((c.tc : Thread Cert.Reference3Ideal.nD Cert.Reference3Ideal.τ).loc Cert.Reference3Ideal.main_v125) = v5 c
          ∧ r.2.mem ((c.tc : Thread Cert.Reference3Ideal.nD Cert.Reference3Ideal.τ).loc Cert.Reference3Ideal.main_v126) = v6 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  IdealRules.named_const.Statement Cert.Kernel4Ideal.κ "log2e" .f32 0x3FB8AA3B#32 (((Real.log 2)⁻¹ : ℝ) : EReal)
  ∧ IdealRules.named_const.Statement Cert.Kernel4Ideal.κ "mask" .f32 0xF149F2CA#32 ⊥

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v3_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3_1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v51) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_inputs : Cert.Pre_finite_inputs.Facts) (hPre_finite_weights : Cert.Pre_finite_weights.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite_weights (hKernel3Ideal := hKernel3Ideal) (hPre_finite_weights := hPre_finite_weights)
    ∧ quiescent_Reference3Ideal (hReference3Ideal := hReference3Ideal)
    ∧ quiescent_Reference3Ideal_pre_finite_weights (hReference3Ideal := hReference3Ideal) (hPre_finite_weights := hPre_finite_weights)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite_weights (hKernel3Ideal := hKernel3Ideal) (hReference3Ideal := hReference3Ideal) (hPre_finite_weights := hPre_finite_weights)
    ∧ preserves_Kernel4_Kernel4Ideal
    ∧ algebraic_Kernel4Ideal_Reference4Ideal (hKernel4Ideal := hKernel4Ideal) (hReference4Ideal := hReference4Ideal)
-- ==== Pre_finite_inputs.lean ====
abbrev S16384x1024 : Shape := ⟨2, ![16384, 1024]⟩
abbrev S16384x256 : Shape := ⟨2, ![16384, 256]⟩
abbrev S16384x64 : Shape := ⟨2, ![16384, 64]⟩
abbrev S256x4x256 : Shape := ⟨3, ![256, 4, 256]⟩
abbrev S_ : Shape := ⟨0, ![]⟩

class Facts : Prop where
  bitsLt_bf16_f32 : FTy.bits .bf16 < FTy.bits .f32
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S16384x256 : S_.BroadcastsInDim S16384x256 (![] : Fin 0 → Fin S16384x256.rank)
  reducesTo_S16384x256_S_d0_1 : S16384x256.ReducesTo [0, 1] S_
  bcast_S_S16384x64 : S_.BroadcastsInDim S16384x64 (![] : Fin 0 → Fin S16384x64.rank)
  reducesTo_S16384x64_S_d0_1 : S16384x64.ReducesTo [0, 1] S_

variable [Facts]

def fn_part1 {F : FTy → Type} [FloatOps F] (main_v16 : IVec S_ 1) (main_v17 : FVec F S16384x64 .f32) : IVec S_ 1 :=
  let main_v18 : FVec F S16384x64 .f32 := Host.absf main_v17
  let main_cst_4 : FVec F S_ .f32 := constant S_ .f32 0x7F800000#32
  let main_v19 : FVec F S16384x64 .f32 := broadcastInDim S16384x64 ![] bcast_S_S16384x64 main_cst_4
  let main_v20 : IVec S16384x64 1 := cmpf .olt main_v18 main_v19
  let main_c_5 : IVec S_ 1 := constantI S_ 1 1#1
  let main_v21 : IVec S_ 1 := (fun x v => Host.reduce IntOp.andi x v reducesTo_S16384x64_S_d0_1 h_S_) main_v20 main_c_5
  let main_v22 : IVec S_ 1 := andi main_v16 main_v21
  main_v22

def fn {F : FTy → Type} [FloatOps F] (main_arg0 : FVec F S16384x1024 .bf16) (main_arg1 : FVec F S16384x256 .bf16) (main_arg2 : FVec F S16384x256 .bf16) (main_arg3 : FVec F S16384x64 .bf16) (main_arg4 : FVec F S256x4x256 .f32) : IVec S_ 1 :=
  let main_v0 : FVec F S16384x1024 .f32 := (extf .f32 · bitsLt_bf16_f32) main_arg0
  let main_v1 : FVec F S16384x1024 .f32 := Host.absf main_v0
  let main_cst : FVec F S_ .f32 := constant S_ .f32 0x7F800000#32
  let main_v2 : FVec F S16384x1024 .f32 := broadcastInDim S16384x1024 ![] bcast_S_S16384x1024 main_cst
  let main_v3 : IVec S16384x1024 1 := cmpf .olt main_v1 main_v2
  let main_c : IVec S_ 1 := constantI S_ 1 1#1
  let main_v4 : IVec S_ 1 := (fun x v => Host.reduce IntOp.andi x v reducesTo_S16384x1024_S_d0_1 h_S_) main_v3 main_c
  let main_v5 : FVec F S16384x256 .f32 := (extf .f32 · bitsLt_bf16_f32) main_arg1
  let main_v6 : FVec F S16384x256 .f32 := Host.absf main_v5
  let main_cst_0 : FVec F S_ .f32 := constant S_ .f32 0x7F800000#32
  let main_v7 : FVec F S16384x256 .f32 := broadcastInDim S16384x256 ![] bcast_S_S16384x256 main_cst_0
  let main_v8 : IVec S16384x256 1 := cmpf .olt main_v6 main_v7
  let main_c_1 : IVec S_ 1 := constantI S_ 1 1#1
  let main_v9 : IVec S_ 1 := (fun x v => Host.reduce IntOp.andi x v reducesTo_S16384x256_S_d0_1 h_S_) main_v8 main_c_1
  let main_v10 : IVec S_ 1 := andi main_v4 main_v9
  let main_v11 : FVec F S16384x256 .f32 := (extf .f32 · bitsLt_bf16_f32) main_arg2
  let main_v12 : FVec F S16384x256 .f32 := Host.absf main_v11
  let main_cst_2 : FVec F S_ .f32 := constant S_ .f32 0x7F800000#32
  let main_v13 : FVec F S16384x256 .f32 := broadcastInDim S16384x256 ![] bcast_S_S16384x256 main_cst_2
  let main_v14 : IVec S16384x256 1 := cmpf .olt main_v12 main_v13
  let main_c_3 : IVec S_ 1 := constantI S_ 1 1#1
  let main_v15 : IVec S_ 1 := (fun x v => Host.reduce IntOp.andi x v reducesTo_S16384x256_S_d0_1 h_S_) main_v14 main_c_3
  let main_v16 : IVec S_ 1 := andi main_v10 main_v15
  let main_v17 : FVec F S16384x64 .f32 := (extf .f32 · bitsLt_bf16_f32) main_arg3
  fn_part1 (F := F) main_v16 main_v17
-- ==== Pre_finite_weights.lean ====
abbrev S16384x1024 : Shape := ⟨2, ![16384, 1024]⟩
abbrev S2048 : Shape := ⟨1, ![2048]⟩
abbrev S6x1024 : Shape := ⟨2, ![6, 1024]⟩
abbrev S1024x3136 : Shape := ⟨2, ![1024, 3136]⟩
abbrev S768 : Shape := ⟨1, ![768]⟩
abbrev S768x4x192 : Shape := ⟨3, ![768, 4, 192]⟩
abbrev S256 : Shape := ⟨1, ![256]⟩
abbrev S256x4x256 : Shape := ⟨3, ![256, 4, 256]⟩
abbrev S_ : Shape := ⟨0, ![]⟩

class Facts : Prop where
  bcast_S_S6x1024 : S_.BroadcastsInDim S6x1024 (![] : Fin 0 → Fin S6x1024.rank)
  reducesTo_S6x1024_S_d0_1 : S6x1024.ReducesTo [0, 1] S_
  h_S_ : 0 < S_.numel
  bcast_S_S1024x3136 : S_.BroadcastsInDim S1024x3136 (![] : Fin 0 → Fin S1024x3136.rank)
  reducesTo_S1024x3136_S_d0_1 : S1024x3136.ReducesTo [0, 1] S_
  bcast_S_S768 : S_.BroadcastsInDim S768 (![] : Fin 0 → Fin S768.rank)
  reducesTo_S768_S_d0 : S768.ReducesTo [0] S_
  bcast_S_S768x4x192 : S_.BroadcastsInDim S768x4x192 (![] : Fin 0 → Fin S768x4x192.rank)
  reducesTo_S768x4x192_S_d0_1_2 : S768x4x192.ReducesTo [0, 1, 2] S_

variable [Facts]

def fn_part1 {F : FTy → Type} [FloatOps F] (main_v13 : IVec S_ 1) (main_v16 : IVec S768x4x192 1) : IVec S_ 1 :=
  let main_c_5 : IVec S_ 1 := constantI S_ 1 1#1
  let main_v17 : IVec S_ 1 := (fun x v => Host.reduce IntOp.andi x v reducesTo_S768x4x192_S_d0_1_2 h_S_) main_v16 main_c_5
  let main_v18 : IVec S_ 1 := andi main_v13 main_v17
  main_v18

def fn {F : FTy → Type} [FloatOps F] (main_arg0 : FVec F S16384x1024 .f32) (main_arg1 : IVec S2048 32) (main_arg2 : FVec F S6x1024 .f32) (main_arg3 : FVec F S1024x3136 .f32) (main_arg4 : FVec F S768 .f32) (main_arg5 : FVec F S768x4x192 .f32) (main_arg6 : FVec F S256 .f32) (main_arg7 : FVec F S256x4x256 .f32) : IVec S_ 1 :=
  let main_v0 : FVec F S6x1024 .f32 := Host.absf main_arg2
  let main_cst : FVec F S_ .f32 := constant S_ .f32 0x7F800000#32
  let main_v1 : FVec F S6x1024 .f32 := broadcastInDim S6x1024 ![] bcast_S_S6x1024 main_cst
  let main_v2 : IVec S6x1024 1 := cmpf .olt main_v0 main_v1
  let main_c : IVec S_ 1 := constantI S_ 1 1#1
  let main_v3 : IVec S_ 1 := (fun x v => Host.reduce IntOp.andi x v reducesTo_S6x1024_S_d0_1 h_S_) main_v2 main_c
  let main_v4 : FVec F S1024x3136 .f32 := Host.absf main_arg3
  let main_cst_0 : FVec F S_ .f32 := constant S_ .f32 0x7F800000#32
  let main_v5 : FVec F S1024x3136 .f32 := broadcastInDim S1024x3136 ![] bcast_S_S1024x3136 main_cst_0
  let main_v6 : IVec S1024x3136 1 := cmpf .olt main_v4 main_v5
  let main_c_1 : IVec S_ 1 := constantI S_ 1 1#1
  let main_v7 : IVec S_ 1 := (fun x v => Host.reduce IntOp.andi x v reducesTo_S1024x3136_S_d0_1 h_S_) main_v6 main_c_1
  let main_v8 : IVec S_ 1 := andi main_v3 main_v7
  let main_v9 : FVec F S768 .f32 := Host.absf main_arg4
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S768x4x192 .f32 := Host.absf main_arg5
  let main_cst_4 : FVec F S_ .f32 := constant S_ .f32 0x7F800000#32
  let main_v15 : FVec F S768x4x192 .f32 := broadcastInDim S768x4x192 ![] bcast_S_S768x4x192 main_cst_4
  let main_v16 : IVec S768x4x192 1 := cmpf .olt main_v14 main_v15
  fn_part1 (F := F) main_v13 main_v16
-- ==== Kernel.lean ====
abbrev S16384x1024 : Shape := ⟨2, ![16384, 1024]⟩
abbrev S16384x256 : Shape := ⟨2, ![16384, 256]⟩
abbrev S16384x64 : Shape := ⟨2, ![16384, 64]⟩
abbrev S256x4x256 : Shape := ⟨3, ![256, 4, 256]⟩
abbrev S256x4x128 : Shape := ⟨3, ![256, 4, 128]⟩
abbrev S4x256x128 : Shape := ⟨3, ![4, 256, 128]⟩
abbrev S16384x512 : Shape := ⟨2, ![16384, 512]⟩
abbrev S256x1024 : Shape := ⟨2, ![256, 1024]⟩
abbrev S256x256 : Shape := ⟨2, ![256, 256]⟩
abbrev S2048x256 : Shape := ⟨2, ![2048, 256]⟩
abbrev S2048x64 : Shape := ⟨2, ![2048, 64]⟩
abbrev S256x512 : Shape := ⟨2, ![256, 512]⟩
abbrev S1024x128 : Shape := ⟨2, ![1024, 128]⟩
abbrev S1024x256 : Shape := ⟨2, ![1024, 256]⟩
abbrev S2x1024x256 : Shape := ⟨3, ![2, 1024, 256]⟩
abbrev S256x64 : Shape := ⟨2, ![256, 64]⟩
abbrev S1024x64 : Shape := ⟨2, ![1024, 64]⟩
abbrev S1x1024x256 : Shape := ⟨3, ![1, 1024, 256]⟩
abbrev S1024 : Shape := ⟨1, ![1024]⟩
abbrev S1024x1 : Shape := ⟨2, ![1024, 1]⟩
abbrev S1x256x128 : Shape := ⟨3, ![1, 256, 128]⟩
abbrev S256x128 : Shape := ⟨2, ![256, 128]⟩

abbrev nBuf : Space → Nat
  | .hbm => 9
  | .vmem => 17
  | .smem => 0
  | _ => 0

abbrev bufTy : (tb : Table) → Fin (tcTables nBuf tb) → BufTy
  | .hbm, ⟨0, _⟩ => ⟨S16384x1024, .bf16⟩
  | .hbm, ⟨1, _⟩ => ⟨S16384x256, .bf16⟩
  | .hbm, ⟨2, _⟩ => ⟨S16384x256, .bf16⟩
  | .hbm, ⟨3, _⟩ => ⟨S16384x64, .bf16⟩
  | .hbm, ⟨4, _⟩ => ⟨S256x4x256, .f32⟩
  | .hbm, ⟨5, _⟩ => ⟨S256x4x128, .f32⟩
  | .hbm, ⟨6, _⟩ => ⟨S4x256x128, .f32⟩
  | .hbm, ⟨7, _⟩ => ⟨S4x256x128, .bf16⟩
  | .hbm, ⟨8, _⟩ => ⟨S16384x512, .bf16⟩
  | .local _ .vmem, ⟨0, _⟩ => ⟨S256x1024, .bf16⟩
  | .local _ .vmem, ⟨1, _⟩ => ⟨S256x1024, .bf16⟩
  | .local _ .vmem, ⟨2, _⟩ => ⟨S256x256, .bf16⟩
  | .local _ .vmem, ⟨3, _⟩ => ⟨S256x256, .bf16⟩
  | .local _ .vmem, ⟨4, _⟩ => ⟨S2048x256, .bf16⟩
  | .local _ .vmem, ⟨5, _⟩ => ⟨S2048x256, .bf16⟩
  | .local _ .vmem, ⟨6, _⟩ => ⟨S2048x64, .bf16⟩
  | .local _ .vmem, ⟨7, _⟩ => ⟨S2048x64, .bf16⟩
  | .local _ .vmem, ⟨8, _⟩ => ⟨S4x256x128, .bf16⟩
  | .local _ .vmem, ⟨9, _⟩ => ⟨S256x512, .bf16⟩
  | .local _ .vmem, ⟨10, _⟩ => ⟨S256x512, .bf16⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x256, .f32⟩
  | .local _ .vmem, ⟨15, _⟩ => ⟨S2x1024x256, .f32⟩
  | .local _ .vmem, ⟨16, _⟩ => ⟨S2x1024x256, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_scratch5 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 8], ![false, false]⟩

def k0_mult1 : BitVec 32 :=
  let c0_i32 : BitVec 32 := 0#32
  c0_i32
def k0_mult2 : BitVec 32 :=
  let c0_i32_25 : BitVec 32 := 0#32
  c0_i32_25
@[reducible] def k0_t1_loop (i : grid0.Coords) : Scf.Loop 32 :=
  let c0_i32_33 : BitVec 32 := 0#32
  let arg1 : BitVec 32 := BitVec.ofNat 32 (i 1).val
  let c1_i32 : BitVec 32 := 1#32
  let v44 : BitVec 32 := Scalar.shrsi arg1 c1_i32
  let v45 : BitVec 32 := Scalar.subi v44 c0_i32_33
  let c1_i32_34 : BitVec 32 := 1#32
  let v47 : BitVec 32 := Scalar.divsi v45 c1_i32_34
  let v48 : BitVec 32 := Scalar.muli v47 c1_i32_34
  let v49 : BitVec 32 := Scalar.addi c0_i32_33 v48
  let c1_i32_35 : BitVec 32 := 1#32
  ⟨c0_i32_33, v49, c1_i32_35⟩
def k0_mult3 (i : grid0.Coords) (k0_t1 : Fin (k0_t1_loop i).trips) : BitVec 32 :=
  let c2_i32 : BitVec 32 := 2#32
  let c0_i32_33 : BitVec 32 := 0#32
  let c1_i32_35 : BitVec 32 := 1#32
  let arg14 : BitVec 32 := Scf.iv c0_i32_33 c1_i32_35 k0_t1
  let v87 : BitVec 32 := Scalar.muli c2_i32 arg14
  let c1_i32_68 : BitVec 32 := 1#32
  let v88 : BitVec 32 := Scalar.addi v87 c1_i32_68
  let c256_i32 : BitVec 32 := 256#32
  let v89 : BitVec 32 := Scalar.muli v88 c256_i32
  v89
def k0_off1 (i : grid0.Coords) (k0_t1 : Fin (k0_t1_loop i).trips) : Fin 2 → Nat :=
  let c2_i32 : BitVec 32 := 2#32
  let c0_i32_33 : BitVec 32 := 0#32
  let c1_i32_35 : BitVec 32 := 1#32
  let arg14 : BitVec 32 := Scf.iv c0_i32_33 c1_i32_35 k0_t1
  let v87 : BitVec 32 := Scalar.muli c2_i32 arg14
  let c1_i32_68 : BitVec 32 := 1#32
  let v88 : BitVec 32 := Scalar.addi v87 c1_i32_68
  let c256_i32 : BitVec 32 := 256#32
  let v89 : BitVec 32 := Scalar.muli v88 c256_i32
  let v90 : BitVec 32 := v89
  let v91 : Index := Scalar.indexCast v90
  let c0_69 : Index := 0#32
  ![v91.toNat, 0]
def k0_mult4 (i : grid0.Coords) (k0_t1 : Fin (k0_t1_loop i).trips) : BitVec 32 :=
  let c2_i32 : BitVec 32 := 2#32
  let c0_i32_33 : BitVec 32 := 0#32
  let c1_i32_35 : BitVec 32 := 1#32
  let arg14 : BitVec 32 := Scf.iv c0_i32_33 c1_i32_35 k0_t1
  let v87 : BitVec 32 := Scalar.muli c2_i32 arg14
  let c1_i32_68 : BitVec 32 := 1#32
  let v88 : BitVec 32 := Scalar.addi v87 c1_i32_68
  let c256_i32_71 : BitVec 32 := 256#32
  let v94 : BitVec 32 := Scalar.muli v88 c256_i32_71
  v94
def k0_off2 (i : grid0.Coords) (k0_t1 : Fin (k0_t1_loop i).trips) : Fin 2 → Nat :=
  let c2_i32 : BitVec 32 := 2#32
  let c0_i32_33 : BitVec 32 := 0#32
  let c1_i32_35 : BitVec 32 := 1#32
  let arg14 : BitVec 32 := Scf.iv c0_i32_33 c1_i32_35 k0_t1
  let v87 : BitVec 32 := Scalar.muli c2_i32 arg14
  let c1_i32_68 : BitVec 32 := 1#32
  let v88 : BitVec 32 := Scalar.addi v87 c1_i32_68
  let c256_i32_71 : BitVec 32 := 256#32
  let v94 : BitVec 32 := Scalar.muli v88 c256_i32_71
  let v95 : BitVec 32 := v94
  let v96 : Index := Scalar.indexCast v95
  let c0_72 : Index := 0#32
  ![v96.toNat, 0]
def k0_mult5 (i : grid0.Coords) (k0_t1 : Fin (k0_t1_loop i).trips) : BitVec 32 :=
  let c2_i32 : BitVec 32 := 2#32
  let c0_i32_33 : BitVec 32 := 0#32
  let c1_i32_35 : BitVec 32 := 1#32
  let arg14 : BitVec 32 := Scf.iv c0_i32_33 c1_i32_35 k0_t1
  let v87 : BitVec 32 := Scalar.muli c2_i32 arg14
  let c1_i32_78 : BitVec 32 := 1#32
  let v105 : BitVec 32 := Scalar.subi v87 c1_i32_78
  let c0_i32_79 : BitVec 32 := 0#32
  let v106 : BitVec 32 := Scalar.maxsi v105 c0_i32_79
  let c256_i32_87 : BitVec 32 := 256#32
  let v113 : BitVec 32 := Scalar.muli v106 c256_i32_87
  v113
def k0_off3 (i : grid0.Coords) (k0_t1 : Fin (k0_t1_loop i).trips) : Fin 2 → Nat :=
  let c2_i32 : BitVec 32 := 2#32
  let c0_i32_33 : BitVec 32 := 0#32
  let c1_i32_35 : BitVec 32 := 1#32
  let arg14 : BitVec 32 := Scf.iv c0_i32_33 c1_i32_35 k0_t1
  let v87 : BitVec 32 := Scalar.muli c2_i32 arg14
  let c1_i32_78 : BitVec 32 := 1#32
  let v105 : BitVec 32 := Scalar.subi v87 c1_i32_78
  let c0_i32_79 : BitVec 32 := 0#32
  let v106 : BitVec 32 := Scalar.maxsi v105 c0_i32_79
  let c256_i32_87 : BitVec 32 := 256#32
  let v113 : BitVec 32 := Scalar.muli v106 c256_i32_87
  let v114 : BitVec 32 := v113
  let v115 : Index := Scalar.indexCast v114
  let c0_88 : Index := 0#32
  ![v115.toNat, 0]
def k0_mult6 (i : grid0.Coords) (k0_t1 : Fin (k0_t1_loop i).trips) : BitVec 32 :=
  let c2_i32_110 : BitVec 32 := 2#32
  let c0_i32_33 : BitVec 32 := 0#32
  let c1_i32_35 : BitVec 32 := 1#32
  let arg14 : BitVec 32 := Scf.iv c0_i32_33 c1_i32_35 k0_t1
  let v153 : BitVec 32 := Scalar.muli c2_i32_110 arg14
  let c1_i32_111 : BitVec 32 := 1#32
  let v154 : BitVec 32 := Scalar.addi v153 c1_i32_111
  let c1_i32_112 : BitVec 32 := 1#32
  let v155 : BitVec 32 := Scalar.addi v154 c1_i32_112
  let c256_i32_113 : BitVec 32 := 256#32
  let v156 : BitVec 32 := Scalar.muli v155 c256_i32_113
  v156
def k0_off4 (i : grid0.Coords) (k0_t1 : Fin (k0_t1_loop i).trips) : Fin 2 → Nat :=
  let c2_i32_110 : BitVec 32 := 2#32
  let c0_i32_33 : BitVec 32 := 0#32
  let c1_i32_35 : BitVec 32 := 1#32
  let arg14 : BitVec 32 := Scf.iv c0_i32_33 c1_i32_35 k0_t1
  let v153 : BitVec 32 := Scalar.muli c2_i32_110 arg14
  let c1_i32_111 : BitVec 32 := 1#32
  let v154 : BitVec 32 := Scalar.addi v153 c1_i32_111
  let c1_i32_112 : BitVec 32 := 1#32
  let v155 : BitVec 32 := Scalar.addi v154 c1_i32_112
  let c256_i32_113 : BitVec 32 := 256#32
  let v156 : BitVec 32 := Scalar.muli v155 c256_i32_113
  let v157 : BitVec 32 := v156
  let v158 : Index := Scalar.indexCast v157
  let c0_114 : Index := 0#32
  ![v158.toNat, 0]
def k0_mult7 (i : grid0.Coords) (k0_t1 : Fin (k0_t1_loop i).trips) : BitVec 32 :=
  let c2_i32_110 : BitVec 32 := 2#32
  let c0_i32_33 : BitVec 32 := 0#32
  let c1_i32_35 : BitVec 32 := 1#32
  let arg14 : BitVec 32 := Scf.iv c0_i32_33 c1_i32_35 k0_t1
  let v153 : BitVec 32 := Scalar.muli c2_i32_110 arg14
  let c1_i32_111 : BitVec 32 := 1#32
  let v154 : BitVec 32 := Scalar.addi v153 c1_i32_111
  let c1_i32_112 : BitVec 32 := 1#32
  let v155 : BitVec 32 := Scalar.addi v154 c1_i32_112
  let c256_i32_116 : BitVec 32 := 256#32
  let v161 : BitVec 32 := Scalar.muli v155 c256_i32_116
  v161
def k0_off5 (i : grid0.Coords) (k0_t1 : Fin (k0_t1_loop i).trips) : Fin 2 → Nat :=
  let c2_i32_110 : BitVec 32 := 2#32
  let c0_i32_33 : BitVec 32 := 0#32
  let c1_i32_35 : BitVec 32 := 1#32
  let arg14 : BitVec 32 := Scf.iv c0_i32_33 c1_i32_35 k0_t1
  let v153 : BitVec 32 := Scalar.muli c2_i32_110 arg14
  let c1_i32_111 : BitVec 32 := 1#32
  let v154 : BitVec 32 := Scalar.addi v153 c1_i32_111
  let c1_i32_112 : BitVec 32 := 1#32
  let v155 : BitVec 32 := Scalar.addi v154 c1_i32_112
  let c256_i32_116 : BitVec 32 := 256#32
  let v161 : BitVec 32 := Scalar.muli v155 c256_i32_116
  let v162 : BitVec 32 := v161
  let v163 : Index := Scalar.indexCast v162
  let c0_117 : Index := 0#32
  ![v163.toNat, 0]
def k0_mult8 (i : grid0.Coords) (k0_t1 : Fin (k0_t1_loop i).trips) : BitVec 32 :=
  let c2_i32_110 : BitVec 32 := 2#32
  let c0_i32_33 : BitVec 32 := 0#32
  let c1_i32_35 : BitVec 32 := 1#32
  let arg14 : BitVec 32 := Scf.iv c0_i32_33 c1_i32_35 k0_t1
  let v153 : BitVec 32 := Scalar.muli c2_i32_110 arg14
  let c1_i32_111 : BitVec 32 := 1#32
  let v154 : BitVec 32 := Scalar.addi v153 c1_i32_111
  let c1_i32_123 : BitVec 32 := 1#32
  let v172 : BitVec 32 := Scalar.subi v154 c1_i32_123
  let c0_i32_124 : BitVec 32 := 0#32
  let v173 : BitVec 32 := Scalar.maxsi v172 c0_i32_124
  let c256_i32_132 : BitVec 32 := 256#32
  let v180 : BitVec 32 := Scalar.muli v173 c256_i32_132
  v180
def k0_off6 (i : grid0.Coords) (k0_t1 : Fin (k0_t1_loop i).trips) : Fin 2 → Nat :=
  let c2_i32_110 : BitVec 32 := 2#32
  let c0_i32_33 : BitVec 32 := 0#32
  let c1_i32_35 : BitVec 32 := 1#32
  let arg14 : BitVec 32 := Scf.iv c0_i32_33 c1_i32_35 k0_t1
  let v153 : BitVec 32 := Scalar.muli c2_i32_110 arg14
  let c1_i32_111 : BitVec 32 := 1#32
  let v154 : BitVec 32 := Scalar.addi v153 c1_i32_111
  let c1_i32_123 : BitVec 32 := 1#32
  let v172 : BitVec 32 := Scalar.subi v154 c1_i32_123
  let c0_i32_124 : BitVec 32 := 0#32
  let v173 : BitVec 32 := Scalar.maxsi v172 c0_i32_124
  let c256_i32_132 : BitVec 32 := 256#32
  let v180 : BitVec 32 := Scalar.muli v173 c256_i32_132
  let v181 : BitVec 32 := v180
  let v182 : Index := Scalar.indexCast v181
  let c0_133 : Index := 0#32
  ![v182.toNat, 0]
@[reducible] def k0_t2_loop (i : grid0.Coords) : Scf.Loop 32 :=
  let c0_i32_33 : BitVec 32 := 0#32
  let arg1 : BitVec 32 := BitVec.ofNat 32 (i 1).val
  let c1_i32 : BitVec 32 := 1#32
  let v44 : BitVec 32 := Scalar.shrsi arg1 c1_i32
  let v45 : BitVec 32 := Scalar.subi v44 c0_i32_33
  let c1_i32_34 : BitVec 32 := 1#32
  let v47 : BitVec 32 := Scalar.divsi v45 c1_i32_34
  let v48 : BitVec 32 := Scalar.muli v47 c1_i32_34
  let v49 : BitVec 32 := Scalar.addi c0_i32_33 v48
  let v46 : BitVec 32 := Scalar.addi c0_i32_33 v45
  let c1_i32_36 : BitVec 32 := 1#32
  ⟨v49, v46, c1_i32_36⟩
def k0_mult9 (i : grid0.Coords) (k0_t2 : Fin (k0_t2_loop i).trips) : BitVec 32 :=
  let c2_i32 : BitVec 32 := 2#32
  let c0_i32_33 : BitVec 32 := 0#32
  let arg1 : BitVec 32 := BitVec.ofNat 32 (i 1).val
  let c1_i32 : BitVec 32 := 1#32
  let v44 : BitVec 32 := Scalar.shrsi arg1 c1_i32
  let v45 : BitVec 32 := Scalar.subi v44 c0_i32_33
  let c1_i32_34 : BitVec 32 := 1#32
  let v47 : BitVec 32 := Scalar.divsi v45 c1_i32_34
  let v48 : BitVec 32 := Scalar.muli v47 c1_i32_34
  let v49 : BitVec 32 := Scalar.addi c0_i32_33 v48
  let c1_i32_36 : BitVec 32 := 1#32
  let arg14 : BitVec 32 := Scf.iv v49 c1_i32_36 k0_t2
  let v87 : BitVec 32 := Scalar.muli c2_i32 arg14
  let c1_i32_68 : BitVec 32 := 1#32
  let v88 : BitVec 32 := Scalar.addi v87 c1_i32_68
  let c256_i32 : BitVec 32 := 256#32
  let v89 : BitVec 32 := Scalar.muli v88 c256_i32
  v89
def k0_off7 (i : grid0.Coords) (k0_t2 : Fin (k0_t2_loop i).trips) : Fin 2 → Nat :=
  let c2_i32 : BitVec 32 := 2#32
  let c0_i32_33 : BitVec 32 := 0#32
  let arg1 : BitVec 32 := BitVec.ofNat 32 (i 1).val
  let c1_i32 : BitVec 32 := 1#32
  let v44 : BitVec 32 := Scalar.shrsi arg1 c1_i32
  let v45 : BitVec 32 := Scalar.subi v44 c0_i32_33
  let c1_i32_34 : BitVec 32 := 1#32
  let v47 : BitVec 32 := Scalar.divsi v45 c1_i32_34
  let v48 : BitVec 32 := Scalar.muli v47 c1_i32_34
  let v49 : BitVec 32 := Scalar.addi c0_i32_33 v48
  let c1_i32_36 : BitVec 32 := 1#32
  let arg14 : BitVec 32 := Scf.iv v49 c1_i32_36 k0_t2
  let v87 : BitVec 32 := Scalar.muli c2_i32 arg14
  let c1_i32_68 : BitVec 32 := 1#32
  let v88 : BitVec 32 := Scalar.addi v87 c1_i32_68
  let c256_i32 : BitVec 32 := 256#32
  let v89 : BitVec 32 := Scalar.muli v88 c256_i32
  let v90 : BitVec 32 := v89
  let v91 : Index := Scalar.indexCast v90
  let c0_69 : Index := 0#32
  ![v91.toNat, 0]
def k0_mult10 (i : grid0.Coords) (k0_t2 : Fin (k0_t2_loop i).trips) : BitVec 32 :=
  let c2_i32 : BitVec 32 := 2#32
  let c0_i32_33 : BitVec 32 := 0#32
  let arg1 : BitVec 32 := BitVec.ofNat 32 (i 1).val
  let c1_i32 : BitVec 32 := 1#32
  let v44 : BitVec 32 := Scalar.shrsi arg1 c1_i32
  let v45 : BitVec 32 := Scalar.subi v44 c0_i32_33
  let c1_i32_34 : BitVec 32 := 1#32
  let v47 : BitVec 32 := Scalar.divsi v45 c1_i32_34
  let v48 : BitVec 32 := Scalar.muli v47 c1_i32_34
  let v49 : BitVec 32 := Scalar.addi c0_i32_33 v48
  let c1_i32_36 : BitVec 32 := 1#32
  let arg14 : BitVec 32 := Scf.iv v49 c1_i32_36 k0_t2
  let v87 : BitVec 32 := Scalar.muli c2_i32 arg14
  let c1_i32_68 : BitVec 32 := 1#32
  let v88 : BitVec 32 := Scalar.addi v87 c1_i32_68
  let c256_i32_71 : BitVec 32 := 256#32
  let v94 : BitVec 32 := Scalar.muli v88 c256_i32_71
  v94
def k0_off8 (i : grid0.Coords) (k0_t2 : Fin (k0_t2_loop i).trips) : Fin 2 → Nat :=
  let c2_i32 : BitVec 32 := 2#32
  let c0_i32_33 : BitVec 32 := 0#32
  let arg1 : BitVec 32 := BitVec.ofNat 32 (i 1).val
  let c1_i32 : BitVec 32 := 1#32
  let v44 : BitVec 32 := Scalar.shrsi arg1 c1_i32
  let v45 : BitVec 32 := Scalar.subi v44 c0_i32_33
  let c1_i32_34 : BitVec 32 := 1#32
  let v47 : BitVec 32 := Scalar.divsi v45 c1_i32_34
  let v48 : BitVec 32 := Scalar.muli v47 c1_i32_34
  let v49 : BitVec 32 := Scalar.addi c0_i32_33 v48
  let c1_i32_36 : BitVec 32 := 1#32
  let arg14 : BitVec 32 := Scf.iv v49 c1_i32_36 k0_t2
  let v87 : BitVec 32 := Scalar.muli c2_i32 arg14
  let c1_i32_68 : BitVec 32 := 1#32
  let v88 : BitVec 32 := Scalar.addi v87 c1_i32_68
  let c256_i32_71 : BitVec 32 := 256#32
  let v94 : BitVec 32 := Scalar.muli v88 c256_i32_71
  let v95 : BitVec 32 := v94
  let v96 : Index := Scalar.indexCast v95
  let c0_72 : Index := 0#32
  ![v96.toNat, 0]
def k0_mult11 (i : grid0.Coords) (k0_t2 : Fin (k0_t2_loop i).trips) : BitVec 32 :=
  let c2_i32 : BitVec 32 := 2#32
  let c0_i32_33 : BitVec 32 := 0#32
  let arg1 : BitVec 32 := BitVec.ofNat 32 (i 1).val
  let c1_i32 : BitVec 32 := 1#32
  let v44 : BitVec 32 := Scalar.shrsi arg1 c1_i32
  let v45 : BitVec 32 := Scalar.subi v44 c0_i32_33
  let c1_i32_34 : BitVec 32 := 1#32
  let v47 : BitVec 32 := Scalar.divsi v45 c1_i32_34
  let v48 : BitVec 32 := Scalar.muli v47 c1_i32_34
  let v49 : BitVec 32 := Scalar.addi c0_i32_33 v48
  let c1_i32_36 : BitVec 32 := 1#32
  let arg14 : BitVec 32 := Scf.iv v49 c1_i32_36 k0_t2
  let v87 : BitVec 32 := Scalar.muli c2_i32 arg14
  let c1_i32_78 : BitVec 32 := 1#32
  let v105 : BitVec 32 := Scalar.subi v87 c1_i32_78
  let c0_i32_79 : BitVec 32 := 0#32
  let v106 : BitVec 32 := Scalar.maxsi v105 c0_i32_79
  let c256_i32_87 : BitVec 32 := 256#32
  let v113 : BitVec 32 := Scalar.muli v106 c256_i32_87
  v113
def k0_off9 (i : grid0.Coords) (k0_t2 : Fin (k0_t2_loop i).trips) : Fin 2 → Nat :=
  let c2_i32 : BitVec 32 := 2#32
  let c0_i32_33 : BitVec 32 := 0#32
  let arg1 : BitVec 32 := BitVec.ofNat 32 (i 1).val
  let c1_i32 : BitVec 32 := 1#32
  let v44 : BitVec 32 := Scalar.shrsi arg1 c1_i32
  let v45 : BitVec 32 := Scalar.subi v44 c0_i32_33
  let c1_i32_34 : BitVec 32 := 1#32
  let v47 : BitVec 32 := Scalar.divsi v45 c1_i32_34
  let v48 : BitVec 32 := Scalar.muli v47 c1_i32_34
  let v49 : BitVec 32 := Scalar.addi c0_i32_33 v48
  let c1_i32_36 : BitVec 32 := 1#32
  let arg14 : BitVec 32 := Scf.iv v49 c1_i32_36 k0_t2
  let v87 : BitVec 32 := Scalar.muli c2_i32 arg14
  let c1_i32_78 : BitVec 32 := 1#32
  let v105 : BitVec 32 := Scalar.subi v87 c1_i32_78
  let c0_i32_79 : BitVec 32 := 0#32
  let v106 : BitVec 32 := Scalar.maxsi v105 c0_i32_79
  let c256_i32_87 : BitVec 32 := 256#32
  let v113 : BitVec 32 := Scalar.muli v106 c256_i32_87
  let v114 : BitVec 32 := v113
  let v115 : Index := Scalar.indexCast v114
  let c0_88 : Index := 0#32
  ![v115.toNat, 0]
def k0_mult12 (i : grid0.Coords) (k0_t2 : Fin (k0_t2_loop i).trips) : BitVec 32 :=
  let c2_i32_110 : BitVec 32 := 2#32
  let c0_i32_33 : BitVec 32 := 0#32
  let arg1 : BitVec 32 := BitVec.ofNat 32 (i 1).val
  let c1_i32 : BitVec 32 := 1#32
  let v44 : BitVec 32 := Scalar.shrsi arg1 c1_i32
  let v45 : BitVec 32 := Scalar.subi v44 c0_i32_33
  let c1_i32_34 : BitVec 32 := 1#32
  let v47 : BitVec 32 := Scalar.divsi v45 c1_i32_34
  let v48 : BitVec 32 := Scalar.muli v47 c1_i32_34
  let v49 : BitVec 32 := Scalar.addi c0_i32_33 v48
  let c1_i32_36 : BitVec 32 := 1#32
  let arg14 : BitVec 32 := Scf.iv v49 c1_i32_36 k0_t2
  let v153 : BitVec 32 := Scalar.muli c2_i32_110 arg14
  let c1_i32_111 : BitVec 32 := 1#32
  let v154 : BitVec 32 := Scalar.addi v153 c1_i32_111
  let c1_i32_112 : BitVec 32 := 1#32
  let v155 : BitVec 32 := Scalar.addi v154 c1_i32_112
  let c256_i32_113 : BitVec 32 := 256#32
  let v156 : BitVec 32 := Scalar.muli v155 c256_i32_113
  v156
def k0_off10 (i : grid0.Coords) (k0_t2 : Fin (k0_t2_loop i).trips) : Fin 2 → Nat :=
  let c2_i32_110 : BitVec 32 := 2#32
  let c0_i32_33 : BitVec 32 := 0#32
  let arg1 : BitVec 32 := BitVec.ofNat 32 (i 1).val
  let c1_i32 : BitVec 32 := 1#32
  let v44 : BitVec 32 := Scalar.shrsi arg1 c1_i32
  let v45 : BitVec 32 := Scalar.subi v44 c0_i32_33
  let c1_i32_34 : BitVec 32 := 1#32
  let v47 : BitVec 32 := Scalar.divsi v45 c1_i32_34
  let v48 : BitVec 32 := Scalar.muli v47 c1_i32_34
  let v49 : BitVec 32 := Scalar.addi c0_i32_33 v48
  let c1_i32_36 : BitVec 32 := 1#32
  let arg14 : BitVec 32 := Scf.iv v49 c1_i32_36 k0_t2
  let v153 : BitVec 32 := Scalar.muli c2_i32_110 arg14
  let c1_i32_111 : BitVec 32 := 1#32
  let v154 : BitVec 32 := Scalar.addi v153 c1_i32_111
  let c1_i32_112 : BitVec 32 := 1#32
  let v155 : BitVec 32 := Scalar.addi v154 c1_i32_112
  let c256_i32_113 : BitVec 32 := 256#32
  let v156 : BitVec 32 := Scalar.muli v155 c256_i32_113
  let v157 : BitVec 32 := v156
  let v158 : Index := Scalar.indexCast v157
  let c0_114 : Index := 0#32
  ![v158.toNat, 0]
def k0_mult13 (i : grid0.Coords) (k0_t2 : Fin (k0_t2_loop i).trips) : BitVec 32 :=
  let c2_i32_110 : BitVec 32 := 2#32
  let c0_i32_33 : BitVec 32 := 0#32
  let arg1 : BitVec 32 := BitVec.ofNat 32 (i 1).val
  let c1_i32 : BitVec 32 := 1#32
  let v44 : BitVec 32 := Scalar.shrsi arg1 c1_i32
  let v45 : BitVec 32 := Scalar.subi v44 c0_i32_33
  let c1_i32_34 : BitVec 32 := 1#32
  let v47 : BitVec 32 := Scalar.divsi v45 c1_i32_34
  let v48 : BitVec 32 := Scalar.muli v47 c1_i32_34
  let v49 : BitVec 32 := Scalar.addi c0_i32_33 v48
  let c1_i32_36 : BitVec 32 := 1#32
  let arg14 : BitVec 32 := Scf.iv v49 c1_i32_36 k0_t2
  let v153 : BitVec 32 := Scalar.muli c2_i32_110 arg14
  let c1_i32_111 : BitVec 32 := 1#32
  let v154 : BitVec 32 := Scalar.addi v153 c1_i32_111
  let c1_i32_112 : BitVec 32 := 1#32
  let v155 : BitVec 32 := Scalar.addi v154 c1_i32_112
  let c256_i32_116 : BitVec 32 := 256#32
  let v161 : BitVec 32 := Scalar.muli v155 c256_i32_116
  v161
def k0_off11 (i : grid0.Coords) (k0_t2 : Fin (k0_t2_loop i).trips) : Fin 2 → Nat :=
  let c2_i32_110 : BitVec 32 := 2#32
  let c0_i32_33 : BitVec 32 := 0#32
  let arg1 : BitVec 32 := BitVec.ofNat 32 (i 1).val
  let c1_i32 : BitVec 32 := 1#32
  let v44 : BitVec 32 := Scalar.shrsi arg1 c1_i32
  let v45 : BitVec 32 := Scalar.subi v44 c0_i32_33
  let c1_i32_34 : BitVec 32 := 1#32
  let v47 : BitVec 32 := Scalar.divsi v45 c1_i32_34
  let v48 : BitVec 32 := Scalar.muli v47 c1_i32_34
  let v49 : BitVec 32 := Scalar.addi c0_i32_33 v48
  let c1_i32_36 : BitVec 32 := 1#32
  let arg14 : BitVec 32 := Scf.iv v49 c1_i32_36 k0_t2
  let v153 : BitVec 32 := Scalar.muli c2_i32_110 arg14
  let c1_i32_111 : BitVec 32 := 1#32
  let v154 : BitVec 32 := Scalar.addi v153 c1_i32_111
  let c1_i32_112 : BitVec 32 := 1#32
  let v155 : BitVec 32 := Scalar.addi v154 c1_i32_112
  let c256_i32_116 : BitVec 32 := 256#32
  let v161 : BitVec 32 := Scalar.muli v155 c256_i32_116
  let v162 : BitVec 32 := v161
  let v163 : Index := Scalar.indexCast v162
  let c0_117 : Index := 0#32
  ![v163.toNat, 0]
def k0_mult14 (i : grid0.Coords) (k0_t2 : Fin (k0_t2_loop i).trips) : BitVec 32 :=
  let c2_i32_110 : BitVec 32 := 2#32
  let c0_i32_33 : BitVec 32 := 0#32
  let arg1 : BitVec 32 := BitVec.ofNat 32 (i 1).val
  let c1_i32 : BitVec 32 := 1#32
  let v44 : BitVec 32 := Scalar.shrsi arg1 c1_i32
  let v45 : BitVec 32 := Scalar.subi v44 c0_i32_33
  let c1_i32_34 : BitVec 32 := 1#32
  let v47 : BitVec 32 := Scalar.divsi v45 c1_i32_34
  let v48 : BitVec 32 := Scalar.muli v47 c1_i32_34
  let v49 : BitVec 32 := Scalar.addi c0_i32_33 v48
  let c1_i32_36 : BitVec 32 := 1#32
  let arg14 : BitVec 32 := Scf.iv v49 c1_i32_36 k0_t2
  let v153 : BitVec 32 := Scalar.muli c2_i32_110 arg14
  let c1_i32_111 : BitVec 32 := 1#32
  let v154 : BitVec 32 := Scalar.addi v153 c1_i32_111
  let c1_i32_123 : BitVec 32 := 1#32
  let v172 : BitVec 32 := Scalar.subi v154 c1_i32_123
  let c0_i32_124 : BitVec 32 := 0#32
  let v173 : BitVec 32 := Scalar.maxsi v172 c0_i32_124
  let c256_i32_132 : BitVec 32 := 256#32
  let v180 : BitVec 32 := Scalar.muli v173 c256_i32_132
  v180
def k0_off12 (i : grid0.Coords) (k0_t2 : Fin (k0_t2_loop i).trips) : Fin 2 → Nat :=
  let c2_i32_110 : BitVec 32 := 2#32
  let c0_i32_33 : BitVec 32 := 0#32
  let arg1 : BitVec 32 := BitVec.ofNat 32 (i 1).val
  let c1_i32 : BitVec 32 := 1#32
  let v44 : BitVec 32 := Scalar.shrsi arg1 c1_i32
  let v45 : BitVec 32 := Scalar.subi v44 c0_i32_33
  let c1_i32_34 : BitVec 32 := 1#32
  let v47 : BitVec 32 := Scalar.divsi v45 c1_i32_34
  let v48 : BitVec 32 := Scalar.muli v47 c1_i32_34
  let v49 : BitVec 32 := Scalar.addi c0_i32_33 v48
  let c1_i32_36 : BitVec 32 := 1#32
  let arg14 : BitVec 32 := Scf.iv v49 c1_i32_36 k0_t2
  let v153 : BitVec 32 := Scalar.muli c2_i32_110 arg14
  let c1_i32_111 : BitVec 32 := 1#32
  let v154 : BitVec 32 := Scalar.addi v153 c1_i32_111
  let c1_i32_123 : BitVec 32 := 1#32
  let v172 : BitVec 32 := Scalar.subi v154 c1_i32_123
  let c0_i32_124 : BitVec 32 := 0#32
  let v173 : BitVec 32 := Scalar.maxsi v172 c0_i32_124
  let c256_i32_132 : BitVec 32 := 256#32
  let v180 : BitVec 32 := Scalar.muli v173 c256_i32_132
  let v181 : BitVec 32 := v180
  let v182 : Index := Scalar.indexCast v181
  let c0_133 : Index := 0#32
  ![v182.toNat, 0]
def k0_cond1 (i : grid0.Coords) : BitVec 1 :=
  let arg1 : BitVec 32 := BitVec.ofNat 32 (i 1).val
  let c1_i32_37 : BitVec 32 := 1#32
  let v50 : BitVec 32 := Scalar.andi arg1 c1_i32_37
  let c1_i32_38 : BitVec 32 := 1#32
  let v51 : BitVec 1 := Scalar.cmpi .eq v50 c1_i32_38
  let v52 : BitVec 32 := Scalar.extui v51
  let c0_i32_39 : BitVec 32 := 0#32
  let v53 : BitVec 1 := Scalar.cmpi .ne v52 c0_i32_39
  v53

def k0_mult15 (i : grid0.Coords) : BitVec 32 :=
  let arg1 : BitVec 32 := BitVec.ofNat 32 (i 1).val
  let c1_i32_68 : BitVec 32 := 1#32
  let v87 : BitVec 32 := Scalar.subi arg1 c1_i32_68
  let c1_i32_69 : BitVec 32 := 1#32
  let v88 : BitVec 32 := Scalar.addi v87 c1_i32_69
  let c256_i32 : BitVec 32 := 256#32
  let v89 : BitVec 32 := Scalar.muli v88 c256_i32
  v89
def k0_off13 (i : grid0.Coords) : Fin 2 → Nat :=
  let arg1 : BitVec 32 := BitVec.ofNat 32 (i 1).val
  let c1_i32_68 : BitVec 32 := 1#32
  let v87 : BitVec 32 := Scalar.subi arg1 c1_i32_68
  let c1_i32_69 : BitVec 32 := 1#32
  let v88 : BitVec 32 := Scalar.addi v87 c1_i32_69
  let c256_i32 : BitVec 32 := 256#32
  let v89 : BitVec 32 := Scalar.muli v88 c256_i32
  let v90 : BitVec 32 := v89
  let v91 : Index := Scalar.indexCast v90
  let c0_70 : Index := 0#32
  ![v91.toNat, 0]
def k0_mult16 (i : grid0.Coords) : BitVec 32 :=
  let arg1 : BitVec 32 := BitVec.ofNat 32 (i 1).val
  let c1_i32_68 : BitVec 32 := 1#32
  let v87 : BitVec 32 := Scalar.subi arg1 c1_i32_68
  let c1_i32_69 : BitVec 32 := 1#32
  let v88 : BitVec 32 := Scalar.addi v87 c1_i32_69
  let c256_i32_72 : BitVec 32 := 256#32
  let v94 : BitVec 32 := Scalar.muli v88 c256_i32_72
  v94
def k0_off14 (i : grid0.Coords) : Fin 2 → Nat :=
  let arg1 : BitVec 32 := BitVec.ofNat 32 (i 1).val
  let c1_i32_68 : BitVec 32 := 1#32
  let v87 : BitVec 32 := Scalar.subi arg1 c1_i32_68
  let c1_i32_69 : BitVec 32 := 1#32
  let v88 : BitVec 32 := Scalar.addi v87 c1_i32_69
  let c256_i32_72 : BitVec 32 := 256#32
  let v94 : BitVec 32 := Scalar.muli v88 c256_i32_72
  let v95 : BitVec 32 := v94
  let v96 : Index := Scalar.indexCast v95
  let c0_73 : Index := 0#32
  ![v96.toNat, 0]
def k0_mult17 (i : grid0.Coords) : BitVec 32 :=
  let arg1 : BitVec 32 := BitVec.ofNat 32 (i 1).val
  let c1_i32_68 : BitVec 32 := 1#32
  let v87 : BitVec 32 := Scalar.subi arg1 c1_i32_68
  let c1_i32_79 : BitVec 32 := 1#32
  let v105 : BitVec 32 := Scalar.subi v87 c1_i32_79
  let c0_i32_80 : BitVec 32 := 0#32
  let v106 : BitVec 32 := Scalar.maxsi v105 c0_i32_80
  let c256_i32_88 : BitVec 32 := 256#32
  let v113 : BitVec 32 := Scalar.muli v106 c256_i32_88
  v113
def k0_off15 (i : grid0.Coords) : Fin 2 → Nat :=
  let arg1 : BitVec 32 := BitVec.ofNat 32 (i 1).val
  let c1_i32_68 : BitVec 32 := 1#32
  let v87 : BitVec 32 := Scalar.subi arg1 c1_i32_68
  let c1_i32_79 : BitVec 32 := 1#32
  let v105 : BitVec 32 := Scalar.subi v87 c1_i32_79
  let c0_i32_80 : BitVec 32 := 0#32
  let v106 : BitVec 32 := Scalar.maxsi v105 c0_i32_80
  let c256_i32_88 : BitVec 32 := 256#32
  let v113 : BitVec 32 := Scalar.muli v106 c256_i32_88
  let v114 : BitVec 32 := v113
  let v115 : Index := Scalar.indexCast v114
  let c0_89 : Index := 0#32
  ![v115.toNat, 0]
def k0_mult18 (i : grid0.Coords) : BitVec 32 :=
  let arg1 : BitVec 32 := BitVec.ofNat 32 (i 1).val
  let c1_i32_111 : BitVec 32 := 1#32
  let v153 : BitVec 32 := Scalar.subi arg1 c1_i32_111
  let c0_i32_112 : BitVec 32 := 0#32
  let v154 : BitVec 32 := Scalar.maxsi v153 c0_i32_112
  let c256_i32_120 : BitVec 32 := 256#32
  let v161 : BitVec 32 := Scalar.muli v154 c256_i32_120
  v161
def k0_off16 (i : grid0.Coords) : Fin 2 → Nat :=
  let arg1 : BitVec 32 := BitVec.ofNat 32 (i 1).val
  let c1_i32_111 : BitVec 32 := 1#32
  let v153 : BitVec 32 := Scalar.subi arg1 c1_i32_111
  let c0_i32_112 : BitVec 32 := 0#32
  let v154 : BitVec 32 := Scalar.maxsi v153 c0_i32_112
  let c256_i32_120 : BitVec 32 := 256#32
  let v161 : BitVec 32 := Scalar.muli v154 c256_i32_120
  let v162 : BitVec 32 := v161
  let v163 : Index := Scalar.indexCast v162
  let c0_121 : Index := 0#32
  ![v163.toNat, 0]
def k0_mult19 (i : grid0.Coords) : BitVec 32 :=
  let arg1 : BitVec 32 := BitVec.ofNat 32 (i 1).val
  let c256_i32_151 : BitVec 32 := 256#32
  let v214 : BitVec 32 := Scalar.muli arg1 c256_i32_151
  v214
def k0_off17 (i : grid0.Coords) : Fin 2 → Nat :=
  let arg1 : BitVec 32 := BitVec.ofNat 32 (i 1).val
  let c256_i32_151 : BitVec 32 := 256#32
  let v214 : BitVec 32 := Scalar.muli arg1 c256_i32_151
  let v215 : BitVec 32 := v214
  let v216 : Index := Scalar.indexCast v215
  let c0_152 : Index := 0#32
  ![v216.toNat, 0]
def k0_cond2 (i : grid0.Coords) : BitVec 1 :=
  let arg1 : BitVec 32 := BitVec.ofNat 32 (i 1).val
  let c1_i32_40 : BitVec 32 := 1#32
  let v54 : BitVec 32 := Scalar.andi arg1 c1_i32_40
  let c0_i32_41 : BitVec 32 := 0#32
  let v55 : BitVec 1 := Scalar.cmpi .eq v54 c0_i32_41
  let v56 : BitVec 32 := Scalar.extui v55
  let c0_i32_42 : BitVec 32 := 0#32
  let v57 : BitVec 1 := Scalar.cmpi .ne v56 c0_i32_42
  v57

def k0_mult20 (i : grid0.Coords) : BitVec 32 :=
  let arg1 : BitVec 32 := BitVec.ofNat 32 (i 1).val
  let c1_i32_68 : BitVec 32 := 1#32
  let v87 : BitVec 32 := Scalar.subi arg1 c1_i32_68
  let c0_i32_69 : BitVec 32 := 0#32
  let v88 : BitVec 32 := Scalar.maxsi v87 c0_i32_69
  let c256_i32 : BitVec 32 := 256#32
  let v95 : BitVec 32 := Scalar.muli v88 c256_i32
  v95
def k0_off18 (i : grid0.Coords) : Fin 2 → Nat :=
  let arg1 : BitVec 32 := BitVec.ofNat 32 (i 1).val
  let c1_i32_68 : BitVec 32 := 1#32
  let v87 : BitVec 32 := Scalar.subi arg1 c1_i32_68
  let c0_i32_69 : BitVec 32 := 0#32
  let v88 : BitVec 32 := Scalar.maxsi v87 c0_i32_69
  let c256_i32 : BitVec 32 := 256#32
  let v95 : BitVec 32 := Scalar.muli v88 c256_i32
  let v96 : BitVec 32 := v95
  let v97 : Index := Scalar.indexCast v96
  let c0_77 : Index := 0#32
  ![v97.toNat, 0]
def k0_mult21 (i : grid0.Coords) : BitVec 32 :=
  let arg1 : BitVec 32 := BitVec.ofNat 32 (i 1).val
  let c256_i32_107 : BitVec 32 := 256#32
  let v148 : BitVec 32 := Scalar.muli arg1 c256_i32_107
  v148
def k0_off19 (i : grid0.Coords) : Fin 2 → Nat :=
  let arg1 : BitVec 32 := BitVec.ofNat 32 (i 1).val
  let c256_i32_107 : BitVec 32 := 256#32
  let v148 : BitVec 32 := Scalar.muli arg1 c256_i32_107
  let v149 : BitVec 32 := v148
  let v150 : Index := Scalar.indexCast v149
  let c0_108 : Index := 0#32
  ![v150.toNat, 0]
def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S4x256x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "mask" => some ⊥
  | "scale2" => some (((Real.sqrt 192)⁻¹ * (Real.log 2)⁻¹ : ℝ) : EReal)
  | _ => none
-- ==== ReferenceIdeal.lean ====
abbrev S16384x1024 : Shape := ⟨2, ![16384, 1024]⟩
abbrev S16384x256 : Shape := ⟨2, ![16384, 256]⟩
abbrev S16384x64 : Shape := ⟨2, ![16384, 64]⟩
abbrev S256x4x256 : Shape := ⟨3, ![256, 4, 256]⟩
abbrev S8x2048x4x256 : Shape := ⟨4, ![8, 2048, 4, 256]⟩
abbrev S8x2048x4x64 : Shape := ⟨4, ![8, 2048, 4, 64]⟩
abbrev S8x2048x256 : Shape := ⟨3, ![8, 2048, 256]⟩
abbrev S8x2048x64 : Shape := ⟨3, ![8, 2048, 64]⟩
abbrev S8x2048x2048x4 : Shape := ⟨4, ![8, 2048, 2048, 4]⟩
abbrev S8x4x2048x2048 : Shape := ⟨4, ![8, 4, 2048, 2048]⟩
abbrev S_ : Shape := ⟨0, ![]⟩
abbrev S2048 : Shape := ⟨1, ![2048]⟩
abbrev S1x1x1x2048 : Shape := ⟨4, ![1, 1, 1, 2048]⟩
abbrev S1x1x2048x1 : Shape := ⟨4, ![1, 1, 2048, 1]⟩
abbrev S1x1x2048x2048 : Shape := ⟨4, ![1, 1, 2048, 2048]⟩
abbrev S8x4x2048 : Shape := ⟨3, ![8, 4, 2048]⟩
abbrev S8x4x2048x1 : Shape := ⟨4, ![8, 4, 2048, 1]⟩
abbrev S8x256x4x2048 : Shape := ⟨4, ![8, 256, 4, 2048]⟩
abbrev S256x4x128 : Shape := ⟨3, ![256, 4, 128]⟩
abbrev S4x128x8x2048 : Shape := ⟨4, ![4, 128, 8, 2048]⟩
abbrev S8x2048x4x128 : Shape := ⟨4, ![8, 2048, 4, 128]⟩
abbrev S16384x512 : Shape := ⟨2, ![16384, 512]⟩

abbrev nBuf : Space → Nat
  | .hbm => 54
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x256, .bf16⟩
  | .hbm, ⟨2, _⟩ => ⟨S16384x256, .bf16⟩
  | .hbm, ⟨3, _⟩ => ⟨S16384x64, .bf16⟩
  | .hbm, ⟨4, _⟩ => ⟨S256x4x256, .f32⟩
  | .hbm, ⟨5, _⟩ => ⟨S16384x1024, .f32⟩
  | .hbm, ⟨6, _⟩ => ⟨S8x2048x4x256, .f32⟩
  | .hbm, ⟨7, _⟩ => ⟨S16384x256, .f32⟩
  | .hbm, ⟨8, _⟩ => ⟨S8x2048x4x64, .f32⟩
  | .hbm, ⟨9, _⟩ => ⟨S16384x256, .f32⟩
  | .hbm, ⟨10, _⟩ => ⟨S8x2048x256, .f32⟩
  | .hbm, ⟨11, _⟩ => ⟨S16384x64, .f32⟩
  | .hbm, ⟨12, _⟩ => ⟨S8x2048x64, .f32⟩
  | .hbm, ⟨13, _⟩ => ⟨S8x2048x2048x4, .f32⟩
  | .hbm, ⟨14, _⟩ => ⟨S8x4x2048x2048, .f32⟩
  | .hbm, ⟨15, _⟩ => ⟨S8x2048x2048x4, .f32⟩
  | .hbm, ⟨16, _⟩ => ⟨S8x4x2048x2048, .f32⟩
  | .hbm, ⟨17, _⟩ => ⟨S8x4x2048x2048, .f32⟩
  | .hbm, ⟨18, _⟩ => ⟨S_, .f32⟩
  | .hbm, ⟨19, _⟩ => ⟨S_, .f32⟩
  | .hbm, ⟨20, _⟩ => ⟨S8x4x2048x2048, .f32⟩
  | .hbm, ⟨21, _⟩ => ⟨S8x4x2048x2048, .f32⟩
  | .hbm, ⟨22, _⟩ => ⟨S2048, .i32⟩
  | .hbm, ⟨23, _⟩ => ⟨S1x1x1x2048, .i32⟩
  | .hbm, ⟨24, _⟩ => ⟨S1x1x2048x1, .i32⟩
  | .hbm, ⟨25, _⟩ => ⟨S1x1x2048x2048, .i32⟩
  | .hbm, ⟨26, _⟩ => ⟨S1x1x2048x2048, .i32⟩
  | .hbm, ⟨27, _⟩ => ⟨S1x1x2048x2048, .i1⟩
  | .hbm, ⟨28, _⟩ => ⟨S_, .f32⟩
  | .hbm, ⟨29, _⟩ => ⟨S_, .f32⟩
  | .hbm, ⟨30, _⟩ => ⟨S8x4x2048x2048, .i1⟩
  | .hbm, ⟨31, _⟩ => ⟨S8x4x2048x2048, .f32⟩
  | .hbm, ⟨32, _⟩ => ⟨S8x4x2048x2048, .f32⟩
  | .hbm, ⟨33, _⟩ => ⟨S_, .f32⟩
  | .hbm, ⟨34, _⟩ => ⟨S8x4x2048, .f32⟩
  | .hbm, ⟨35, _⟩ => ⟨S_, .f32⟩
  | .hbm, ⟨36, _⟩ => ⟨S8x4x2048, .f32⟩
  | .hbm, ⟨37, _⟩ => ⟨S8x4x2048, .f32⟩
  | .hbm, ⟨38, _⟩ => ⟨S8x4x2048x1, .f32⟩
  | .hbm, ⟨39, _⟩ => ⟨S8x4x2048x2048, .f32⟩
  | .hbm, ⟨40, _⟩ => ⟨S8x4x2048x2048, .f32⟩
  | .hbm, ⟨41, _⟩ => ⟨S8x4x2048x2048, .f32⟩
  | .hbm, ⟨42, _⟩ => ⟨S_, .f32⟩
  | .hbm, ⟨43, _⟩ => ⟨S8x4x2048, .f32⟩
  | .hbm, ⟨44, _⟩ => ⟨S8x4x2048x1, .f32⟩
  | .hbm, ⟨45, _⟩ => ⟨S8x4x2048x2048, .f32⟩
  | .hbm, ⟨46, _⟩ => ⟨S8x4x2048x2048, .f32⟩
  | .hbm, ⟨47, _⟩ => ⟨S8x256x4x2048, .f32⟩
  | .hbm, ⟨48, _⟩ => ⟨S8x2048x4x256, .f32⟩
  | .hbm, ⟨49, _⟩ => ⟨S256x4x128, .f32⟩
  | .hbm, ⟨50, _⟩ => ⟨S4x128x8x2048, .f32⟩
  | .hbm, ⟨51, _⟩ => ⟨S8x2048x4x128, .f32⟩
  | .hbm, ⟨52, _⟩ => ⟨S16384x512, .f32⟩
  | .hbm, ⟨53, _⟩ => ⟨S16384x512, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_0 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v22 : Ref sig .tc := ⟨.hbm, 32, rfl⟩
abbrev main_cst_1 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_3 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== Kernel2.lean ====
abbrev S16384x1024 : Shape := ⟨2, ![16384, 1024]⟩
abbrev S16384x512 : Shape := ⟨2, ![16384, 512]⟩
abbrev S6x1024 : Shape := ⟨2, ![6, 1024]⟩
abbrev S2x1024x2816 : Shape := ⟨3, ![2, 1024, 2816]⟩
abbrev S2x2816x1024 : Shape := ⟨3, ![2, 2816, 1024]⟩
abbrev S1024x1024 : Shape := ⟨2, ![1024, 1024]⟩
abbrev S6x1x1024 : Shape := ⟨3, ![6, 1, 1024]⟩
abbrev S1x1x1024 : Shape := ⟨3, ![1, 1, 1024]⟩
abbrev S1x1024 : Shape := ⟨2, ![1, 1024]⟩
abbrev S512x1024 : Shape := ⟨2, ![512, 1024]⟩
abbrev S1024x512 : Shape := ⟨2, ![1024, 512]⟩
abbrev S1x1024x2816 : Shape := ⟨3, ![1, 1024, 2816]⟩
abbrev S1x2816x1024 : Shape := ⟨3, ![1, 2816, 1024]⟩
abbrev S512x512 : Shape := ⟨2, ![512, 512]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 23
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S6x1024, .f32⟩
  | .hbm, ⟨4, _⟩ => ⟨S2x1024x2816, .f32⟩
  | .hbm, ⟨5, _⟩ => ⟨S2x1024x2816, .f32⟩
  | .hbm, ⟨6, _⟩ => ⟨S2x2816x1024, .f32⟩
  | .hbm, ⟨7, _⟩ => ⟨S1024x1024, .f32⟩
  | .hbm, ⟨8, _⟩ => ⟨S6x1x1024, .f32⟩
  | .hbm, ⟨9, _⟩ => ⟨S1x1x1024, .f32⟩
  | .hbm, ⟨10, _⟩ => ⟨S1x1024, .f32⟩
  | .hbm, ⟨11, _⟩ => ⟨S1x1x1024, .f32⟩
  | .hbm, ⟨12, _⟩ => ⟨S1x1024, .f32⟩
  | .hbm, ⟨13, _⟩ => ⟨S2x1024x2816, .bf16⟩
  | .hbm, ⟨14, _⟩ => ⟨S2x1024x2816, .bf16⟩
  | .hbm, ⟨15, _⟩ => ⟨S2x2816x1024, .bf16⟩
  | .hbm, ⟨16, _⟩ => ⟨S512x1024, .f32⟩
  | .hbm, ⟨17, _⟩ => ⟨S512x1024, .bf16⟩
  | .hbm, ⟨18, _⟩ => ⟨S512x1024, .f32⟩
  | .hbm, ⟨19, _⟩ => ⟨S512x1024, .bf16⟩
  | .hbm, ⟨20, _⟩ => ⟨S1x1x1024, .f32⟩
  | .hbm, ⟨21, _⟩ => ⟨S1x1024, .f32⟩
  | .hbm, ⟨22, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024x2816, .bf16⟩
  | .local _ .vmem, ⟨12, _⟩ => ⟨S1x1024x2816, .bf16⟩
  | .local _ .vmem, ⟨13, _⟩ => ⟨S1x2816x1024, .bf16⟩
  | .local _ .vmem, ⟨14, _⟩ => ⟨S1024x1024, .f32⟩
  | .local _ .vmem, ⟨15, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference2Ideal.lean ====
abbrev S16384x1024 : Shape := ⟨2, ![16384, 1024]⟩
abbrev S16384x512 : Shape := ⟨2, ![16384, 512]⟩
abbrev S6x1024 : Shape := ⟨2, ![6, 1024]⟩
abbrev S2x1024x2816 : Shape := ⟨3, ![2, 1024, 2816]⟩
abbrev S2x2816x1024 : Shape := ⟨3, ![2, 2816, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S16384x2816 : Shape := ⟨2, ![16384, 2816]⟩

abbrev nBuf : Space → Nat
  | .hbm => 90
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S6x1024, .f32⟩
  | .hbm, ⟨4, _⟩ => ⟨S2x1024x2816, .f32⟩
  | .hbm, ⟨5, _⟩ => ⟨S2x1024x2816, .f32⟩
  | .hbm, ⟨6, _⟩ => ⟨S2x2816x1024, .f32⟩
  | .hbm, ⟨7, _⟩ => ⟨S1024x1024, .f32⟩
  | .hbm, ⟨8, _⟩ => ⟨S16384x512, .f32⟩
  | .hbm, ⟨9, _⟩ => ⟨S16384x512, .f32⟩
  | .hbm, ⟨10, _⟩ => ⟨S16384x1024, .f32⟩
  | .hbm, ⟨11, _⟩ => ⟨S16384x1024, .f32⟩
  | .hbm, ⟨12, _⟩ => ⟨S1x1024, .f32⟩
  | .hbm, ⟨13, _⟩ => ⟨S1024, .f32⟩
  | .hbm, ⟨14, _⟩ => ⟨S16384x1024, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x1, .f32⟩
  | .hbm, ⟨25, _⟩ => ⟨S16384x1024, .f32⟩
  | .hbm, ⟨26, _⟩ => ⟨S16384x1024, .f32⟩
  | .hbm, ⟨27, _⟩ => ⟨S1x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S1x1024, .f32⟩
  | .hbm, ⟨32, _⟩ => ⟨S1024, .f32⟩
  | .hbm, ⟨33, _⟩ => ⟨S16384x1024, .f32⟩
  | .hbm, ⟨34, _⟩ => ⟨S_, .f32⟩
  | .hbm, ⟨35, _⟩ => ⟨S16384, .f32⟩
  | .hbm, ⟨36, _⟩ => ⟨S16384x1, .f32⟩
  | .hbm, ⟨37, _⟩ => ⟨S_, .f32⟩
  | .hbm, ⟨38, _⟩ => ⟨S16384x1, .f32⟩
  | .hbm, ⟨39, _⟩ => ⟨S16384x1, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S16384x1, .f32⟩
  | .hbm, ⟨44, _⟩ => ⟨S16384x1024, .f32⟩
  | .hbm, ⟨45, _⟩ => ⟨S16384x1024, .f32⟩
  | .hbm, ⟨46, _⟩ => ⟨S1x1024, .f32⟩
  | .hbm, ⟨47, _⟩ => ⟨S16384x1024, .f32⟩
  | .hbm, ⟨48, _⟩ => ⟨S16384x1024, .f32⟩
  | .hbm, ⟨49, _⟩ => ⟨S1x1024x2816, .f32⟩
  | .hbm, ⟨50, _⟩ => ⟨S1024x2816, .f32⟩
  | .hbm, ⟨51, _⟩ => ⟨S1x1024x2816, .f32⟩
  | .hbm, ⟨52, _⟩ => ⟨S1024x2816, .f32⟩
  | .hbm, ⟨53, _⟩ => ⟨S1x2816x1024, .f32⟩
  | .hbm, ⟨54, _⟩ => ⟨S2816x1024, .f32⟩
  | .hbm, ⟨55, _⟩ => ⟨S16384x2816, .f32⟩
  | .hbm, ⟨56, _⟩ => ⟨S16384x2816, .f32⟩
  | .hbm, ⟨57, _⟩ => ⟨S16384x2816, .f32⟩
  | .hbm, ⟨58, _⟩ => ⟨S_, .f32⟩
  | .hbm, ⟨59, _⟩ => ⟨S16384x2816, .f32⟩
  | .hbm, ⟨60, _⟩ => ⟨S16384x2816, .f32⟩
  | .hbm, ⟨61, _⟩ => ⟨S_, .f32⟩
  | .hbm, ⟨62, _⟩ => ⟨S16384x2816, .f32⟩
  | .hbm, ⟨63, _⟩ => ⟨S16384x2816, .f32⟩
  | .hbm, ⟨64, _⟩ => ⟨S16384x2816, .f32⟩
  | .hbm, ⟨65, _⟩ => ⟨S16384x2816, .f32⟩
  | .hbm, ⟨66, _⟩ => ⟨S16384x2816, .f32⟩
  | .hbm, ⟨67, _⟩ => ⟨S16384x1024, .f32⟩
  | .hbm, ⟨68, _⟩ => ⟨S1x1024, .f32⟩
  | .hbm, ⟨69, _⟩ => ⟨S1024, .f32⟩
  | .hbm, ⟨70, _⟩ => ⟨S16384x1024, .f32⟩
  | .hbm, ⟨71, _⟩ => ⟨S_, .f32⟩
  | .hbm, ⟨72, _⟩ => ⟨S16384, .f32⟩
  | .hbm, ⟨73, _⟩ => ⟨S16384x1, .f32⟩
  | .hbm, ⟨74, _⟩ => ⟨S_, .f32⟩
  | .hbm, ⟨75, _⟩ => ⟨S16384x1, .f32⟩
  | .hbm, ⟨76, _⟩ => ⟨S16384x1, .f32⟩
  | .hbm, ⟨77, _⟩ => ⟨S_, .f32⟩
  | .hbm, ⟨78, _⟩ => ⟨S16384x1, .f32⟩
  | .hbm, ⟨79, _⟩ => ⟨S16384x1, .f32⟩
  | .hbm, ⟨80, _⟩ => ⟨S16384x1, .f32⟩
  | .hbm, ⟨81, _⟩ => ⟨S16384x1024, .f32⟩
  | .hbm, ⟨82, _⟩ => ⟨S16384x1024, .f32⟩
  | .hbm, ⟨83, _⟩ => ⟨S1x1024, .f32⟩
  | .hbm, ⟨84, _⟩ => ⟨S16384x1024, .f32⟩
  | .hbm, ⟨85, _⟩ => ⟨S16384x1024, .f32⟩
  | .hbm, ⟨86, _⟩ => ⟨S_, .f32⟩
  | .hbm, ⟨87, _⟩ => ⟨S16384x1024, .f32⟩
  | .hbm, ⟨88, _⟩ => ⟨S16384x1024, .f32⟩
  | .hbm, ⟨89, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_call0_v0 : Ref sig .tc := ⟨.hbm, 56, rfl⟩
abbrev main_call0_v1 : Ref sig .tc := ⟨.hbm, 57, rfl⟩
abbrev main_call0_cst : Ref sig .tc := ⟨.hbm, 58, rfl⟩
abbrev main_call0_v2 : Ref sig .tc := ⟨.hbm, 59, rfl⟩
abbrev main_call0_v3 : Ref sig .tc := ⟨.hbm, 60, rfl⟩
abbrev main_call0_cst_0 : Ref sig .tc := ⟨.hbm, 61, rfl⟩
abbrev main_call0_v4 : Ref sig .tc := ⟨.hbm, 62, rfl⟩
abbrev main_call0_v5 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_5 : Ref sig .tc := ⟨.hbm, 71, rfl⟩
abbrev main_v49 : Ref sig .tc := ⟨.hbm, 72, rfl⟩
abbrev main_v50 : Ref sig .tc := ⟨.hbm, 73, rfl⟩
abbrev main_cst_6 : Ref sig .tc := ⟨.hbm, 74, rfl⟩
abbrev main_v51 : Ref sig .tc := ⟨.hbm, 75, rfl⟩
abbrev main_v52 : Ref sig .tc := ⟨.hbm, 76, rfl⟩
abbrev main_cst_7 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_8 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩

abbrev nD : Nat := 1
abbrev τ : Topo := Topo.v7x

variable {F : FTy → Type} [FloatOps F]
-- ==== Kernel3.lean ====
abbrev S16384x1024 : Shape := ⟨2, ![16384, 1024]⟩
abbrev S2048 : Shape := ⟨1, ![2048]⟩
abbrev S6x1024 : Shape := ⟨2, ![6, 1024]⟩
abbrev S1024x3136 : Shape := ⟨2, ![1024, 3136]⟩
abbrev S768 : Shape := ⟨1, ![768]⟩
abbrev S768x4x192 : Shape := ⟨3, ![768, 4, 192]⟩
abbrev S256 : Shape := ⟨1, ![256]⟩
abbrev S256x4x256 : Shape := ⟨3, ![256, 4, 256]⟩
abbrev S1024x768 : Shape := ⟨2, ![1024, 768]⟩
abbrev S1024x256 : Shape := ⟨2, ![1024, 256]⟩
abbrev S1024x64 : Shape := ⟨2, ![1024, 64]⟩
abbrev S768x4x64 : Shape := ⟨3, ![768, 4, 64]⟩
abbrev S1024x32 : Shape := ⟨2, ![1024, 32]⟩
abbrev S1024x128 : Shape := ⟨2, ![1024, 128]⟩
abbrev S1x768 : Shape := ⟨2, ![1, 768]⟩
abbrev S1x256 : Shape := ⟨2, ![1, 256]⟩
abbrev S768x4x128 : Shape := ⟨3, ![768, 4, 128]⟩
abbrev S768x512 : Shape := ⟨2, ![768, 512]⟩
abbrev S768x256 : Shape := ⟨2, ![768, 256]⟩
abbrev S768x4x32 : Shape := ⟨3, ![768, 4, 32]⟩
abbrev S256x4x128 : Shape := ⟨3, ![256, 4, 128]⟩
abbrev S4x128x256 : Shape := ⟨3, ![4, 128, 256]⟩
abbrev S1x1024 : Shape := ⟨2, ![1, 1024]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S1x2048x1x32 : Shape := ⟨4, ![1, 2048, 1, 32]⟩
abbrev S1x2048x2x32 : Shape := ⟨4, ![1, 2048, 2, 32]⟩
abbrev S2048x64 : Shape := ⟨2, ![2048, 64]⟩
abbrev S2048x128 : Shape := ⟨2, ![2048, 128]⟩
abbrev S1x2048x1x64 : Shape := ⟨4, ![1, 2048, 1, 64]⟩
abbrev S1x2048x4x64 : Shape := ⟨4, ![1, 2048, 4, 64]⟩
abbrev S2048x256 : Shape := ⟨2, ![2048, 256]⟩
abbrev S16384x256 : Shape := ⟨2, ![16384, 256]⟩
abbrev S16384x64 : Shape := ⟨2, ![16384, 64]⟩
abbrev S1024x1024 : Shape := ⟨2, ![1024, 1024]⟩
abbrev S1024 : Shape := ⟨1, ![1024]⟩
abbrev S1024x1 : Shape := ⟨2, ![1024, 1]⟩
abbrev S1024x512 : Shape := ⟨2, ![1024, 512]⟩
abbrev S1x128x256 : Shape := ⟨3, ![1, 128, 256]⟩
abbrev S128x256 : Shape := ⟨2, ![128, 256]⟩

abbrev nBuf : Space → Nat
  | .hbm => 73
  | .vmem => 32
  | .smem => 0
  | _ => 0

abbrev bufTy : (tb : Table) → Fin (tcTables nBuf tb) → BufTy
  | .hbm, ⟨0, _⟩ => ⟨S16384x1024, .f32⟩
  | .hbm, ⟨1, _⟩ => ⟨S2048, .i32⟩
  | .hbm, ⟨2, _⟩ => ⟨S6x1024, .f32⟩
  | .hbm, ⟨3, _⟩ => ⟨S1024x3136, .f32⟩
  | .hbm, ⟨4, _⟩ => ⟨S768, .f32⟩
  | .hbm, ⟨5, _⟩ => ⟨S768x4x192, .f32⟩
  | .hbm, ⟨6, _⟩ => ⟨S256, .f32⟩
  | .hbm, ⟨7, _⟩ => ⟨S256x4x256, .f32⟩
  | .hbm, ⟨8, _⟩ => ⟨S1024x768, .f32⟩
  | .hbm, ⟨9, _⟩ => ⟨S1024x256, .f32⟩
  | .hbm, ⟨10, _⟩ => ⟨S1024x64, .f32⟩
  | .hbm, ⟨11, _⟩ => ⟨S768x4x64, .f32⟩
  | .hbm, ⟨12, _⟩ => ⟨S1024x768, .bf16⟩
  | .hbm, ⟨13, _⟩ => ⟨S1024x256, .bf16⟩
  | .hbm, ⟨14, _⟩ => ⟨S1024x32, .f32⟩
  | .hbm, ⟨15, _⟩ => ⟨S1024x32, .f32⟩
  | .hbm, ⟨16, _⟩ => ⟨S1024x32, .f32⟩
  | .hbm, ⟨17, _⟩ => ⟨S1024x64, .f32⟩
  | .hbm, ⟨18, _⟩ => ⟨S1024x128, .f32⟩
  | .hbm, ⟨19, _⟩ => ⟨S1024x128, .bf16⟩
  | .hbm, ⟨20, _⟩ => ⟨S1x768, .f32⟩
  | .hbm, ⟨21, _⟩ => ⟨S1x256, .f32⟩
  | .hbm, ⟨22, _⟩ => ⟨S768x4x128, .f32⟩
  | .hbm, ⟨23, _⟩ => ⟨S768x512, .f32⟩
  | .hbm, ⟨24, _⟩ => ⟨S768x512, .bf16⟩
  | .hbm, ⟨25, _⟩ => ⟨S768x256, .f32⟩
  | .hbm, ⟨26, _⟩ => ⟨S768x256, .bf16⟩
  | .hbm, ⟨27, _⟩ => ⟨S768x4x32, .f32⟩
  | .hbm, ⟨28, _⟩ => ⟨S768x4x32, .f32⟩
  | .hbm, ⟨29, _⟩ => ⟨S768x4x32, .f32⟩
  | .hbm, ⟨30, _⟩ => ⟨S768x4x64, .f32⟩
  | .hbm, ⟨31, _⟩ => ⟨S768x256, .f32⟩
  | .hbm, ⟨32, _⟩ => ⟨S768x256, .bf16⟩
  | .hbm, ⟨33, _⟩ => ⟨S256x4x128, .f32⟩
  | .hbm, ⟨34, _⟩ => ⟨S4x128x256, .f32⟩
  | .hbm, ⟨35, _⟩ => ⟨S4x128x256, .bf16⟩
  | .hbm, ⟨36, _⟩ => ⟨S1x1024, .f32⟩
  | .hbm, ⟨37, _⟩ => ⟨S32, .f32⟩
  | .hbm, ⟨38, _⟩ => ⟨S32, .f32⟩
  | .hbm, ⟨39, _⟩ => ⟨S_, .f32⟩
  | .hbm, ⟨40, _⟩ => ⟨S32, .f32⟩
  | .hbm, ⟨41, _⟩ => ⟨S32, .f32⟩
  | .hbm, ⟨42, _⟩ => ⟨S_, .f32⟩
  | .hbm, ⟨43, _⟩ => ⟨S32, .f32⟩
  | .hbm, ⟨44, _⟩ => ⟨S32, .f32⟩
  | .hbm, ⟨45, _⟩ => ⟨S2048, .f32⟩
  | .hbm, ⟨46, _⟩ => ⟨S2048x1, .f32⟩
  | .hbm, ⟨47, _⟩ => ⟨S1x32, .f32⟩
  | .hbm, ⟨48, _⟩ => ⟨S2048x32, .f32⟩
  | .hbm, ⟨49, _⟩ => ⟨S2048x32, .f32⟩
  | .hbm, ⟨50, _⟩ => ⟨S2048x32, .f32⟩
  | .hbm, ⟨51, _⟩ => ⟨S2048x32, .f32⟩
  | .hbm, ⟨52, _⟩ => ⟨S1x2048x1x32, .f32⟩
  | .hbm, ⟨53, _⟩ => ⟨S1x2048x2x32, .f32⟩
  | .hbm, ⟨54, _⟩ => ⟨S2048x64, .f32⟩
  | .hbm, ⟨55, _⟩ => ⟨S2048x32, .f32⟩
  | .hbm, ⟨56, _⟩ => ⟨S1x2048x1x32, .f32⟩
  | .hbm, ⟨57, _⟩ => ⟨S1x2048x2x32, .f32⟩
  | .hbm, ⟨58, _⟩ => ⟨S2048x64, .f32⟩
  | .hbm, ⟨59, _⟩ => ⟨S2048x128, .f32⟩
  | .hbm, ⟨60, _⟩ => ⟨S1x2048x1x64, .f32⟩
  | .hbm, ⟨61, _⟩ => ⟨S1x2048x4x64, .f32⟩
  | .hbm, ⟨62, _⟩ => ⟨S2048x256, .f32⟩
  | .hbm, ⟨63, _⟩ => ⟨S1x2048x1x64, .f32⟩
  | .hbm, ⟨64, _⟩ => ⟨S1x2048x4x64, .f32⟩
  | .hbm, ⟨65, _⟩ => ⟨S2048x256, .f32⟩
  | .hbm, ⟨66, _⟩ => ⟨S16384x256, .f32⟩
  | .hbm, ⟨67, _⟩ => ⟨S16384x64, .f32⟩
  | .hbm, ⟨68, _⟩ => ⟨S16384x256, .bf16⟩
  | .hbm, ⟨69, _⟩ => ⟨S16384x64, .bf16⟩
  | .hbm, ⟨70, _⟩ => ⟨S16384x1024, .bf16⟩
  | .hbm, ⟨71, _⟩ => ⟨S16384x256, .bf16⟩
  | .hbm, ⟨72, _⟩ => ⟨S16384x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x128, .f32⟩
  | .local _ .vmem, ⟨4, _⟩ => ⟨S1024x128, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | .local _ .vmem, ⟨9, _⟩ => ⟨S1024x768, .bf16⟩
  | .local _ .vmem, ⟨10, _⟩ => ⟨S1024x256, .bf16⟩
  | .local _ .vmem, ⟨11, _⟩ => ⟨S1024x128, .bf16⟩
  | .local _ .vmem, ⟨12, _⟩ => ⟨S1x768, .f32⟩
  | .local _ .vmem, ⟨13, _⟩ => ⟨S1x256, .f32⟩
  | .local _ .vmem, ⟨14, _⟩ => ⟨S768x512, .bf16⟩
  | .local _ .vmem, ⟨15, _⟩ => ⟨S768x256, .bf16⟩
  | .local _ .vmem, ⟨16, _⟩ => ⟨S768x256, .bf16⟩
  | .local _ .vmem, ⟨17, _⟩ => ⟨S4x128x256, .bf16⟩
  | .local _ .vmem, ⟨18, _⟩ => ⟨S1024x256, .f32⟩
  | .local _ .vmem, ⟨19, _⟩ => ⟨S1024x256, .f32⟩
  | .local _ .vmem, ⟨20, _⟩ => ⟨S1024x64, .f32⟩
  | .local _ .vmem, ⟨21, _⟩ => ⟨S1024x64, .f32⟩
  | .local _ .vmem, ⟨22, _⟩ => ⟨S1024x256, .bf16⟩
  | .local _ .vmem, ⟨23, _⟩ => ⟨S1024x256, .bf16⟩
  | .local _ .vmem, ⟨24, _⟩ => ⟨S1024x64, .bf16⟩
  | .local _ .vmem, ⟨25, _⟩ => ⟨S1024x64, .bf16⟩
  | .local _ .vmem, ⟨26, _⟩ => ⟨S1024x1024, .bf16⟩
  | .local _ .vmem, ⟨27, _⟩ => ⟨S1024x1024, .bf16⟩
  | .local _ .vmem, ⟨28, _⟩ => ⟨S1024x256, .bf16⟩
  | .local _ .vmem, ⟨29, _⟩ => ⟨S1024x256, .bf16⟩
  | .local _ .vmem, ⟨30, _⟩ => ⟨S1024x1024, .bf16⟩
  | .local _ .vmem, ⟨31, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst : Ref sig .tc := ⟨.hbm, 39, rfl⟩
abbrev main_v31 : Ref sig .tc := ⟨.hbm, 40, rfl⟩
abbrev main_v32 : Ref sig .tc := ⟨.hbm, 41, rfl⟩
abbrev main_cst_0 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56_0 : Ref sig .tc := ⟨.hbm, 66, rfl⟩
abbrev main_v56_1 : Ref sig .tc := ⟨.hbm, 67, rfl⟩
abbrev main_v56_2 : Ref sig .tc := ⟨.hbm, 68, rfl⟩
abbrev main_v56_3 : Ref sig .tc := ⟨.hbm, 69, rfl⟩
abbrev main_v56_4 : Ref sig .tc := ⟨.hbm, 70, rfl⟩
abbrev main_v56_5 : Ref sig .tc := ⟨.hbm, 71, rfl⟩
abbrev main_v56_6 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg19_1 : Ref sig .tc := ⟨.vmem, 29, rfl⟩
abbrev cc0_stg20_0 : Ref sig .tc := ⟨.vmem, 30, rfl⟩
abbrev cc0_stg20_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27
abbrev cc0_sem19_0 : DmaSem sig := 28
abbrev cc0_sem19_1 : DmaSem sig := 29
abbrev cc0_sem20_0 : DmaSem sig := 30
abbrev cc0_sem20_1 : DmaSem sig := 31

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S768x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S768x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S768x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S4x128x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1024x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x64 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1024x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1024x64 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1024x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1024x256 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1024x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== Reference3Ideal.lean ====
abbrev S16384x1024 : Shape := ⟨2, ![16384, 1024]⟩
abbrev S2048 : Shape := ⟨1, ![2048]⟩
abbrev S6x1024 : Shape := ⟨2, ![6, 1024]⟩
abbrev S1024x3136 : Shape := ⟨2, ![1024, 3136]⟩
abbrev S768 : Shape := ⟨1, ![768]⟩
abbrev S768x4x192 : Shape := ⟨3, ![768, 4, 192]⟩
abbrev S256 : Shape := ⟨1, ![256]⟩
abbrev S256x4x256 : Shape := ⟨3, ![256, 4, 256]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S16384x3136 : Shape := ⟨2, ![16384, 3136]⟩
abbrev S16384x768 : Shape := ⟨2, ![16384, 768]⟩
abbrev S16384x256 : Shape := ⟨2, ![16384, 256]⟩
abbrev S16384x64 : Shape := ⟨2, ![16384, 64]⟩
abbrev S1x768 : Shape := ⟨2, ![1, 768]⟩
abbrev S16384x4x192 : Shape := ⟨3, ![16384, 4, 192]⟩
abbrev S16384x4x64 : Shape := ⟨3, ![16384, 4, 64]⟩
abbrev S8x2048x4x64 : Shape := ⟨4, ![8, 2048, 4, 64]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S2048x1x32 : Shape := ⟨3, ![2048, 1, 32]⟩
abbrev S8x2048x4x32 : Shape := ⟨4, ![8, 2048, 4, 32]⟩
abbrev S1x2048x1x32 : Shape := ⟨4, ![1, 2048, 1, 32]⟩
abbrev S1x256 : Shape := ⟨2, ![1, 256]⟩
abbrev S8x2048x1x64 : Shape := ⟨4, ![8, 2048, 1, 64]⟩
abbrev S8x2048x1x32 : Shape := ⟨4, ![8, 2048, 1, 32]⟩
abbrev S16384x4x128 : Shape := ⟨3, ![16384, 4, 128]⟩
abbrev S256x4x128 : Shape := ⟨3, ![256, 4, 128]⟩
abbrev S4x256x16384 : Shape := ⟨3, ![4, 256, 16384]⟩
abbrev S16384x4x256 : Shape := ⟨3, ![16384, 4, 256]⟩

abbrev nBuf : Space → Nat
  | .hbm => 148
  | .vmem => 0
  | .smem => 0
  | _ => 0

abbrev hbmTy0_0 (i : Nat) : BufTy := match i % 128 with
  | 0 => ⟨S16384x1024, .f32⟩
  | 1 => ⟨S2048, .i32⟩
  | 2 => ⟨S6x1024, .f32⟩
  | 3 => ⟨S1024x3136, .f32⟩
  | 4 => ⟨S768, .f32⟩
  | 5 => ⟨S768x4x192, .f32⟩
  | 6 => ⟨S256, .f32⟩
  | 7 => ⟨S256x4x256, .f32⟩
  | 8 => ⟨S1x1024, .f32⟩
  | 9 => ⟨S1024, .f32⟩
  | 10 => ⟨S16384x1024, .f32⟩
  | 11 => ⟨S_, .f32⟩
  | 12 => ⟨S16384, .f32⟩
  | 13 => ⟨S16384x1, .f32⟩
  | 14 => ⟨S_, .f32⟩
  | 15 => ⟨S16384x1, .f32⟩
  | 16 => ⟨S16384x1, .f32⟩
  | 17 => ⟨S_, .f32⟩
  | 18 => ⟨S16384x1, .f32⟩
  | 19 => ⟨S16384x1, .f32⟩
  | 20 => ⟨S16384x1, .f32⟩
  | 21 => ⟨S16384x1024, .f32⟩
  | 22 => ⟨S16384x1024, .f32⟩
  | 23 => ⟨S1x1024, .f32⟩
  | 24 => ⟨S16384x1024, .f32⟩
  | 25 => ⟨S16384x1024, .f32⟩
  | 26 => ⟨S16384x3136, .f32⟩
  | 27 => ⟨S16384x768, .f32⟩
  | 28 => ⟨S16384x256, .f32⟩
  | 29 => ⟨S16384x64, .f32⟩
  | 30 => ⟨S16384x768, .f32⟩
  | 31 => ⟨S_, .f32⟩
  | 32 => ⟨S16384, .f32⟩
  | 33 => ⟨S16384x1, .f32⟩
  | 34 => ⟨S_, .f32⟩
  | 35 => ⟨S16384x1, .f32⟩
  | 36 => ⟨S16384x1, .f32⟩
  | 37 => ⟨S_, .f32⟩
  | 38 => ⟨S16384x1, .f32⟩
  | 39 => ⟨S16384x1, .f32⟩
  | 40 => ⟨S16384x1, .f32⟩
  | 41 => ⟨S16384x768, .f32⟩
  | 42 => ⟨S16384x768, .f32⟩
  | 43 => ⟨S1x768, .f32⟩
  | 44 => ⟨S16384x768, .f32⟩
  | 45 => ⟨S16384x768, .f32⟩
  | 46 => ⟨S16384x4x192, .f32⟩
  | 47 => ⟨S16384x4x64, .f32⟩
  | 48 => ⟨S8x2048x4x64, .f32⟩
  | 49 => ⟨S32, .f32⟩
  | 50 => ⟨S32, .f32⟩
  | 51 => ⟨S_, .f32⟩
  | 52 => ⟨S32, .f32⟩
  | 53 => ⟨S32, .f32⟩
  | 54 => ⟨S_, .f32⟩
  | 55 => ⟨S32, .f32⟩
  | 56 => ⟨S32, .f32⟩
  | 57 => ⟨S2048, .f32⟩
  | 58 => ⟨S2048x1, .f32⟩
  | 59 => ⟨S1x32, .f32⟩
  | 60 => ⟨S2048x32, .f32⟩
  | 61 => ⟨S2048x32, .f32⟩
  | 62 => ⟨S2048x32, .f32⟩
  | 63 => ⟨S2048x32, .f32⟩
  | 64 => ⟨S2048x1x32, .f32⟩
  | 65 => ⟨S2048x32, .f32⟩
  | 66 => ⟨S2048x1x32, .f32⟩
  | 67 => ⟨S8x2048x4x32, .f32⟩
  | 68 => ⟨S8x2048x4x32, .f32⟩
  | 69 => ⟨S1x2048x1x32, .f32⟩
  | 70 => ⟨S8x2048x4x32, .f32⟩
  | 71 => ⟨S8x2048x4x32, .f32⟩
  | 72 => ⟨S1x2048x1x32, .f32⟩
  | 73 => ⟨S8x2048x4x32, .f32⟩
  | 74 => ⟨S8x2048x4x32, .f32⟩
  | 75 => ⟨S8x2048x4x32, .f32⟩
  | 76 => ⟨S1x2048x1x32, .f32⟩
  | 77 => ⟨S8x2048x4x32, .f32⟩
  | 78 => ⟨S8x2048x4x32, .f32⟩
  | 79 => ⟨S1x2048x1x32, .f32⟩
  | 80 => ⟨S8x2048x4x32, .f32⟩
  | 81 => ⟨S8x2048x4x32, .f32⟩
  | 82 => ⟨S8x2048x4x32, .f32⟩
  | 83 => ⟨S8x2048x4x64, .f32⟩
  | 84 => ⟨S16384x256, .f32⟩
  | 85 => ⟨S16384x256, .f32⟩
  | 86 => ⟨S_, .f32⟩
  | 87 => ⟨S16384, .f32⟩
  | 88 => ⟨S16384x1, .f32⟩
  | 89 => ⟨S_, .f32⟩
  | 90 => ⟨S16384x1, .f32⟩
  | 91 => ⟨S16384x1, .f32⟩
  | 92 => ⟨S_, .f32⟩
  | 93 => ⟨S16384x1, .f32⟩
  | 94 => ⟨S16384x1, .f32⟩
  | 95 => ⟨S16384x1, .f32⟩
  | 96 => ⟨S16384x256, .f32⟩
  | 97 => ⟨S16384x256, .f32⟩
  | 98 => ⟨S1x256, .f32⟩
  | 99 => ⟨S16384x256, .f32⟩
  | 100 => ⟨S16384x256, .f32⟩
  | 101 => ⟨S8x2048x1x64, .f32⟩
  | 102 => ⟨S32, .f32⟩
  | 103 => ⟨S32, .f32⟩
  | 104 => ⟨S_, .f32⟩
  | 105 => ⟨S32, .f32⟩
  | 106 => ⟨S32, .f32⟩
  | 107 => ⟨S_, .f32⟩
  | 108 => ⟨S32, .f32⟩
  | 109 => ⟨S32, .f32⟩
  | 110 => ⟨S2048, .f32⟩
  | 111 => ⟨S2048x1, .f32⟩
  | 112 => ⟨S1x32, .f32⟩
  | 113 => ⟨S2048x32, .f32⟩
  | 114 => ⟨S2048x32, .f32⟩
  | 115 => ⟨S2048x32, .f32⟩
  | 116 => ⟨S2048x32, .f32⟩
  | 117 => ⟨S2048x1x32, .f32⟩
  | 118 => ⟨S2048x32, .f32⟩
  | 119 => ⟨S2048x1x32, .f32⟩
  | 120 => ⟨S8x2048x1x32, .f32⟩
  | 121 => ⟨S8x2048x1x32, .f32⟩
  | 122 => ⟨S1x2048x1x32, .f32⟩
  | 123 => ⟨S8x2048x1x32, .f32⟩
  | 124 => ⟨S8x2048x1x32, .f32⟩
  | 125 => ⟨S1x2048x1x32, .f32⟩
  | 126 => ⟨S8x2048x1x32, .f32⟩
  | 127 => ⟨S8x2048x1x32, .f32⟩
  | _ => ⟨S16384x1024, .f32⟩

abbrev hbmTy0_1 (i : Nat) : BufTy := match i % 128 with
  | 0 => ⟨S8x2048x1x32, .f32⟩
  | 1 => ⟨S1x2048x1x32, .f32⟩
  | 2 => ⟨S8x2048x1x32, .f32⟩
  | 3 => ⟨S8x2048x1x32, .f32⟩
  | 4 => ⟨S1x2048x1x32, .f32⟩
  | 5 => ⟨S8x2048x1x32, .f32⟩
  | 6 => ⟨S8x2048x1x32, .f32⟩
  | 7 => ⟨S8x2048x1x32, .f32⟩
  | 8 => ⟨S8x2048x1x64, .f32⟩
  | 9 => ⟨S16384x64, .f32⟩
  | 10 => ⟨S16384x4x128, .f32⟩
  | 11 => ⟨S256x4x128, .f32⟩
  | 12 => ⟨S4x256x16384, .f32⟩
  | 13 => ⟨S16384x4x256, .f32⟩
  | 14 => ⟨S16384x1024, .f32⟩
  | 15 => ⟨S16384x256, .bf16⟩
  | 16 => ⟨S16384x64, .bf16⟩
  | 17 => ⟨S16384x1024, .bf16⟩
  | 18 => ⟨S16384x256, .bf16⟩
  | 19 => ⟨S16384x1024, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_cst_7 : Ref sig .tc := ⟨.hbm, 86, rfl⟩
abbrev main_v70 : Ref sig .tc := ⟨.hbm, 87, rfl⟩
abbrev main_v71 : Ref sig .tc := ⟨.hbm, 88, rfl⟩
abbrev main_cst_8 : Ref sig .tc := ⟨.hbm, 89, rfl⟩
abbrev main_v72 : Ref sig .tc := ⟨.hbm, 90, rfl⟩
abbrev main_v73 : Ref sig .tc := ⟨.hbm, 91, rfl⟩
abbrev main_cst_9 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_cst_10 : Ref sig .tc := ⟨.hbm, 104, rfl⟩
abbrev main_v85 : Ref sig .tc := ⟨.hbm, 105, rfl⟩
abbrev main_v86 : Ref sig .tc := ⟨.hbm, 106, rfl⟩
abbrev main_cst_11 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩

abbrev nD : Nat := 1
abbrev τ : Topo := Topo.v7x

variable {F : FTy → Type} [FloatOps F]
-- ==== Kernel4.lean ====
abbrev S128x2048 : Shape := ⟨2, ![128, 2048]⟩
abbrev S32x4x128x128 : Shape := ⟨4, ![32, 4, 128, 128]⟩
abbrev S2x512 : Shape := ⟨2, ![2, 512]⟩
abbrev S128 : Shape := ⟨1, ![128]⟩
abbrev S32x4x2048 : Shape := ⟨3, ![32, 4, 2048]⟩
abbrev S_ : Shape := ⟨0, ![]⟩
abbrev S32x8x2048 : Shape := ⟨3, ![32, 8, 2048]⟩
abbrev S1x128 : Shape := ⟨2, ![1, 128]⟩
abbrev S32x8x512 : Shape := ⟨3, ![32, 8, 512]⟩
abbrev S4x8x512 : Shape := ⟨3, ![4, 8, 512]⟩
abbrev S4x4x128x128 : Shape := ⟨4, ![4, 4, 128, 128]⟩
abbrev S16x128x128 : Shape := ⟨3, ![16, 128, 128]⟩
abbrev S16x8x128 : Shape := ⟨3, ![16, 8, 128]⟩
abbrev S1x1x128x128 : Shape := ⟨4, ![1, 1, 128, 128]⟩
abbrev S128x128 : Shape := ⟨2, ![128, 128]⟩
abbrev S1x128x128 : Shape := ⟨3, ![1, 128, 128]⟩
abbrev S512 : Shape := ⟨1, ![512]⟩
abbrev S1x512 : Shape := ⟨2, ![1, 512]⟩
abbrev S8x8 : Shape := ⟨2, ![8, 8]⟩
abbrev S8x128 : Shape := ⟨2, ![8, 128]⟩
abbrev S1x8x128 : Shape := ⟨3, ![1, 8, 128]⟩
abbrev S1x1x128 : Shape := ⟨3, ![1, 1, 128]⟩
abbrev S64x128 : Shape := ⟨2, ![64, 128]⟩
abbrev S8 : Shape := ⟨1, ![8]⟩
abbrev S8x1 : Shape := ⟨2, ![8, 1]⟩

abbrev nBuf : Space → Nat
  | .hbm => 11
  | .vmem => 19
  | .smem => 0
  | _ => 0

abbrev bufTy : (tb : Table) → Fin (tcTables nBuf tb) → BufTy
  | .hbm, ⟨0, _⟩ => ⟨S128x2048, .f32⟩
  | .hbm, ⟨1, _⟩ => ⟨S32x4x128x128, .f32⟩
  | .hbm, ⟨2, _⟩ => ⟨S2x512, .f32⟩
  | .hbm, ⟨3, _⟩ => ⟨S128, .f32⟩
  | .hbm, ⟨4, _⟩ => ⟨S32x4x2048, .f32⟩
  | .hbm, ⟨5, _⟩ => ⟨S_, .i32⟩
  | .hbm, ⟨6, _⟩ => ⟨S_, .f32⟩
  | .hbm, ⟨7, _⟩ => ⟨S32x8x2048, .f32⟩
  | .hbm, ⟨8, _⟩ => ⟨S1x128, .f32⟩
  | .hbm, ⟨9, _⟩ => ⟨S32x8x512, .bf16⟩
  | .hbm, ⟨10, _⟩ => ⟨S32x4x128x128, .f32⟩
  | .local _ .vmem, ⟨0, _⟩ => ⟨S4x8x512, .f32⟩
  | .local _ .vmem, ⟨1, _⟩ => ⟨S4x8x512, .f32⟩
  | .local _ .vmem, ⟨2, _⟩ => ⟨S4x8x512, .f32⟩
  | .local _ .vmem, ⟨3, _⟩ => ⟨S4x8x512, .f32⟩
  | .local _ .vmem, ⟨4, _⟩ => ⟨S4x8x512, .f32⟩
  | .local _ .vmem, ⟨5, _⟩ => ⟨S4x8x512, .f32⟩
  | .local _ .vmem, ⟨6, _⟩ => ⟨S4x8x512, .f32⟩
  | .local _ .vmem, ⟨7, _⟩ => ⟨S4x8x512, .f32⟩
  | .local _ .vmem, ⟨8, _⟩ => ⟨S2x512, .f32⟩
  | .local _ .vmem, ⟨9, _⟩ => ⟨S1x128, .f32⟩
  | .local _ .vmem, ⟨10, _⟩ => ⟨S4x4x128x128, .f32⟩
  | .local _ .vmem, ⟨11, _⟩ => ⟨S4x4x128x128, .f32⟩
  | .local _ .vmem, ⟨12, _⟩ => ⟨S4x8x512, .bf16⟩
  | .local _ .vmem, ⟨13, _⟩ => ⟨S4x8x512, .bf16⟩
  | .local _ .vmem, ⟨14, _⟩ => ⟨S4x4x128x128, .f32⟩
  | .local _ .vmem, ⟨15, _⟩ => ⟨S4x4x128x128, .f32⟩
  | .local _ .vmem, ⟨16, _⟩ => ⟨S16x128x128, .f32⟩
  | .local _ .vmem, ⟨17, _⟩ => ⟨S16x8x128, .f32⟩
  | .local _ .vmem, ⟨18, _⟩ => ⟨S16x8x128, .f32⟩
  | _, _ => ⟨S128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![8, 1], ![false, false]⟩

def k0_mult1 : BitVec 32 :=
  let c0_i32_6 : BitVec 32 := 0#32
  let c8_i32 : BitVec 32 := 8#32
  let v22 : BitVec 32 := Scalar.muli c0_i32_6 c8_i32
  v22
def k0_off1 : Fin 3 → Nat :=
  let c0_7 : Index := 0#32
  let c0_i32_6 : BitVec 32 := 0#32
  let c8_i32 : BitVec 32 := 8#32
  let v22 : BitVec 32 := Scalar.muli c0_i32_6 c8_i32
  let v23 : BitVec 32 := v22
  let v25 : Index := Scalar.indexCast v23
  let c0_8 : Index := 0#32
  ![0, v25.toNat, 0]
def k0_off2 : Fin 3 → Nat :=
  let c0_29 : Index := 0#32
  let c0_i32_6 : BitVec 32 := 0#32
  let c8_i32 : BitVec 32 := 8#32
  let v22 : BitVec 32 := Scalar.muli c0_i32_6 c8_i32
  let v23 : BitVec 32 := v22
  let v87 : Index := Scalar.indexCast v23
  let c128 : Index := 128#32
  ![0, v87.toNat, 128]
def k0_off3 : Fin 3 → Nat :=
  let c0_51 : Index := 0#32
  let c0_i32_6 : BitVec 32 := 0#32
  let c8_i32 : BitVec 32 := 8#32
  let v22 : BitVec 32 := Scalar.muli c0_i32_6 c8_i32
  let v23 : BitVec 32 := v22
  let v149 : Index := Scalar.indexCast v23
  let c256 : Index := 256#32
  ![0, v149.toNat, 256]
def k0_off4 : Fin 3 → Nat :=
  let c0_73 : Index := 0#32
  let c0_i32_6 : BitVec 32 := 0#32
  let c8_i32 : BitVec 32 := 8#32
  let v22 : BitVec 32 := Scalar.muli c0_i32_6 c8_i32
  let v23 : BitVec 32 := v22
  let v211 : Index := Scalar.indexCast v23
  let c384 : Index := 384#32
  ![0, v211.toNat, 384]
def k0_off5 : Fin 3 → Nat :=
  let c1 : Index := 1#32
  let c0_i32_6 : BitVec 32 := 0#32
  let c8_i32 : BitVec 32 := 8#32
  let v22 : BitVec 32 := Scalar.muli c0_i32_6 c8_i32
  let v23 : BitVec 32 := v22
  let v273 : Index := Scalar.indexCast v23
  let c0_95 : Index := 0#32
  ![1, v273.toNat, 0]
def k0_off6 : Fin 3 → Nat :=
  let c1_117 : Index := 1#32
  let c0_i32_6 : BitVec 32 := 0#32
  let c8_i32 : BitVec 32 := 8#32
  let v22 : BitVec 32 := Scalar.muli c0_i32_6 c8_i32
  let v23 : BitVec 32 := v22
  let v335 : Index := Scalar.indexCast v23
  let c128_118 : Index := 128#32
  ![1, v335.toNat, 128]
def k0_off7 : Fin 3 → Nat :=
  let c1_140 : Index := 1#32
  let c0_i32_6 : BitVec 32 := 0#32
  let c8_i32 : BitVec 32 := 8#32
  let v22 : BitVec 32 := Scalar.muli c0_i32_6 c8_i32
  let v23 : BitVec 32 := v22
  let v397 : Index := Scalar.indexCast v23
  let c256_141 : Index := 256#32
  ![1, v397.toNat, 256]
def k0_off8 : Fin 3 → Nat :=
  let c1_163 : Index := 1#32
  let c0_i32_6 : BitVec 32 := 0#32
  let c8_i32 : BitVec 32 := 8#32
  let v22 : BitVec 32 := Scalar.muli c0_i32_6 c8_i32
  let v23 : BitVec 32 := v22
  let v459 : Index := Scalar.indexCast v23
  let c384_164 : Index := 384#32
  ![1, v459.toNat, 384]
def k0_off9 : Fin 3 → Nat :=
  let c2 : Index := 2#32
  let c0_i32_6 : BitVec 32 := 0#32
  let c8_i32 : BitVec 32 := 8#32
  let v22 : BitVec 32 := Scalar.muli c0_i32_6 c8_i32
  let v23 : BitVec 32 := v22
  let v521 : Index := Scalar.indexCast v23
  let c0_186 : Index := 0#32
  ![2, v521.toNat, 0]
def k0_off10 : Fin 3 → Nat :=
  let c2_208 : Index := 2#32
  let c0_i32_6 : BitVec 32 := 0#32
  let c8_i32 : BitVec 32 := 8#32
  let v22 : BitVec 32 := Scalar.muli c0_i32_6 c8_i32
  let v23 : BitVec 32 := v22
  let v583 : Index := Scalar.indexCast v23
  let c128_209 : Index := 128#32
  ![2, v583.toNat, 128]
def k0_off11 : Fin 3 → Nat :=
  let c2_231 : Index := 2#32
  let c0_i32_6 : BitVec 32 := 0#32
  let c8_i32 : BitVec 32 := 8#32
  let v22 : BitVec 32 := Scalar.muli c0_i32_6 c8_i32
  let v23 : BitVec 32 := v22
  let v645 : Index := Scalar.indexCast v23
  let c256_232 : Index := 256#32
  ![2, v645.toNat, 256]
def k0_off12 : Fin 3 → Nat :=
  let c2_254 : Index := 2#32
  let c0_i32_6 : BitVec 32 := 0#32
  let c8_i32 : BitVec 32 := 8#32
  let v22 : BitVec 32 := Scalar.muli c0_i32_6 c8_i32
  let v23 : BitVec 32 := v22
  let v707 : Index := Scalar.indexCast v23
  let c384_255 : Index := 384#32
  ![2, v707.toNat, 384]
def k0_off13 : Fin 3 → Nat :=
  let c3 : Index := 3#32
  let c0_i32_6 : BitVec 32 := 0#32
  let c8_i32 : BitVec 32 := 8#32
  let v22 : BitVec 32 := Scalar.muli c0_i32_6 c8_i32
  let v23 : BitVec 32 := v22
  let v769 : Index := Scalar.indexCast v23
  let c0_277 : Index := 0#32
  ![3, v769.toNat, 0]
def k0_off14 : Fin 3 → Nat :=
  let c3_299 : Index := 3#32
  let c0_i32_6 : BitVec 32 := 0#32
  let c8_i32 : BitVec 32 := 8#32
  let v22 : BitVec 32 := Scalar.muli c0_i32_6 c8_i32
  let v23 : BitVec 32 := v22
  let v831 : Index := Scalar.indexCast v23
  let c128_300 : Index := 128#32
  ![3, v831.toNat, 128]
def k0_off15 : Fin 3 → Nat :=
  let c3_322 : Index := 3#32
  let c0_i32_6 : BitVec 32 := 0#32
  let c8_i32 : BitVec 32 := 8#32
  let v22 : BitVec 32 := Scalar.muli c0_i32_6 c8_i32
  let v23 : BitVec 32 := v22
  let v893 : Index := Scalar.indexCast v23
  let c256_323 : Index := 256#32
  ![3, v893.toNat, 256]
def k0_off16 : Fin 3 → Nat :=
  let c3_345 : Index := 3#32
  let c0_i32_6 : BitVec 32 := 0#32
  let c8_i32 : BitVec 32 := 8#32
  let v22 : BitVec 32 := Scalar.muli c0_i32_6 c8_i32
  let v23 : BitVec 32 := v22
  let v955 : Index := Scalar.indexCast v23
  let c384_346 : Index := 384#32
  ![3, v955.toNat, 384]
def k0_cond2 (i : grid0.Coords) : BitVec 1 :=
  let arg1 : BitVec 32 := BitVec.ofNat 32 (i 1).val
  let c0_i32_1759 : BitVec 32 := 0#32
  let v4024 : BitVec 1 := Scalar.cmpi .eq arg1 c0_i32_1759
  let v4025 : BitVec 32 := Scalar.extui v4024
  let c0_i32_1760 : BitVec 32 := 0#32
  let v4026 : BitVec 1 := Scalar.cmpi .ne v4025 c0_i32_1760
  v4026

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S4x8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S4x4x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S4x8x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S4x4x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Kernel4Ideal.lean ====
variable {F : FTy → Type} [FloatOps F] [Named F]
def κ : String → Option EReal := fun
  | "log2e" => some (((Real.log 2)⁻¹ : ℝ) : EReal)
  | "mask" => some ⊥
  | _ => none
-- ==== Reference4Ideal.lean ====
abbrev S128x2048 : Shape := ⟨2, ![128, 2048]⟩
abbrev S32x4x128x128 : Shape := ⟨4, ![32, 4, 128, 128]⟩
abbrev S2x512 : Shape := ⟨2, ![2, 512]⟩
abbrev S128 : Shape := ⟨1, ![128]⟩
abbrev S_ : Shape := ⟨0, ![]⟩
abbrev S512 : Shape := ⟨1, ![512]⟩
abbrev S1x512 : Shape := ⟨2, ![1, 512]⟩
abbrev S128x512 : Shape := ⟨2, ![128, 512]⟩
abbrev S32x4x4x128 : Shape := ⟨4, ![32, 4, 4, 128]⟩
abbrev S32x4x1x128 : Shape := ⟨4, ![32, 4, 1, 128]⟩
abbrev S32x4x128 : Shape := ⟨3, ![32, 4, 128]⟩
abbrev S32x4x128x1 : Shape := ⟨4, ![32, 4, 128, 1]⟩

abbrev nBuf : Space → Nat
  | .hbm => 67
  | .vmem => 0
  | .smem => 0
  | _ => 0

abbrev bufTy : (tb : Table) → Fin (tcTables nBuf tb) → BufTy
  | .hbm, ⟨0, _⟩ => ⟨S128x2048, .f32⟩
  | .hbm, ⟨1, _⟩ => ⟨S32x4x128x128, .f32⟩
  | .hbm, ⟨2, _⟩ => ⟨S2x512, .f32⟩
  | .hbm, ⟨3, _⟩ => ⟨S128, .f32⟩
  | .hbm, ⟨4, _⟩ => ⟨S_, .f32⟩
  | .hbm, ⟨5, _⟩ => ⟨S512, .f32⟩
  | .hbm, ⟨6, _⟩ => ⟨S_, .f32⟩
  | .hbm, ⟨7, _⟩ => ⟨S512, .f32⟩
  | .hbm, ⟨8, _⟩ => ⟨S512, .f32⟩
  | .hbm, ⟨9, _⟩ => ⟨S1x512, .f32⟩
  | .hbm, ⟨10, _⟩ => ⟨S2x512, .f32⟩
  | .hbm, ⟨11, _⟩ => ⟨S2x512, .f32⟩
  | .hbm, ⟨12, _⟩ => ⟨S2x512, .f32⟩
  | .hbm, ⟨13, _⟩ => ⟨S_, .f32⟩
  | .hbm, ⟨14, _⟩ => ⟨S512, .f32⟩
  | .hbm, ⟨15, _⟩ => ⟨S1x512, .f32⟩
  | .hbm, ⟨16, _⟩ => ⟨S2x512, .f32⟩
  | .hbm, ⟨17, _⟩ => ⟨S2x512, .f32⟩
  | .hbm, ⟨18, _⟩ => ⟨S_, .f32⟩
  | .hbm, ⟨19, _⟩ => ⟨S_, .f32⟩
  | .hbm, ⟨20, _⟩ => ⟨S2x512, .f32⟩
  | .hbm, ⟨21, _⟩ => ⟨S1x512, .f32⟩
  | .hbm, ⟨22, _⟩ => ⟨S512, .f32⟩
  | .hbm, ⟨23, _⟩ => ⟨S128x512, .f32⟩
  | .hbm, ⟨24, _⟩ => ⟨S128x512, .f32⟩
  | .hbm, ⟨25, _⟩ => ⟨S_, .f32⟩
  | .hbm, ⟨26, _⟩ => ⟨S512, .f32⟩
  | .hbm, ⟨27, _⟩ => ⟨S512, .f32⟩
  | .hbm, ⟨28, _⟩ => ⟨S128x512, .f32⟩
  | .hbm, ⟨29, _⟩ => ⟨S128x512, .f32⟩
  | .hbm, ⟨30, _⟩ => ⟨S_, .f32⟩
  | .hbm, ⟨31, _⟩ => ⟨S128x512, .f32⟩
  | .hbm, ⟨32, _⟩ => ⟨S128x512, .f32⟩
  | .hbm, ⟨33, _⟩ => ⟨S_, .f32⟩
  | .hbm, ⟨34, _⟩ => ⟨S128x512, .f32⟩
  | .hbm, ⟨35, _⟩ => ⟨S128x512, .f32⟩
  | .hbm, ⟨36, _⟩ => ⟨S1x512, .f32⟩
  | .hbm, ⟨37, _⟩ => ⟨S128x512, .f32⟩
  | .hbm, ⟨38, _⟩ => ⟨S128x512, .f32⟩
  | .hbm, ⟨39, _⟩ => ⟨S1x512, .f32⟩
  | .hbm, ⟨40, _⟩ => ⟨S128x512, .f32⟩
  | .hbm, ⟨41, _⟩ => ⟨S128x512, .f32⟩
  | .hbm, ⟨42, _⟩ => ⟨S_, .f32⟩
  | .hbm, ⟨43, _⟩ => ⟨S128x512, .f32⟩
  | .hbm, ⟨44, _⟩ => ⟨S128x512, .f32⟩
  | .hbm, ⟨45, _⟩ => ⟨S32x4x4x128, .f32⟩
  | .hbm, ⟨46, _⟩ => ⟨S32x4x4x128, .f32⟩
  | .hbm, ⟨47, _⟩ => ⟨S32x4x4x128, .f32⟩
  | .hbm, ⟨48, _⟩ => ⟨S32x4x4x128, .f32⟩
  | .hbm, ⟨49, _⟩ => ⟨S128x512, .f32⟩
  | .hbm, ⟨50, _⟩ => ⟨S32x4x4x128, .f32⟩
  | .hbm, ⟨51, _⟩ => ⟨S32x4x4x128, .f32⟩
  | .hbm, ⟨52, _⟩ => ⟨S_, .f32⟩
  | .hbm, ⟨53, _⟩ => ⟨S_, .f32⟩
  | .hbm, ⟨54, _⟩ => ⟨S32x4x4x128, .f32⟩
  | .hbm, ⟨55, _⟩ => ⟨S32x4x1x128, .f32⟩
  | .hbm, ⟨56, _⟩ => ⟨S32x4x128, .f32⟩
  | .hbm, ⟨57, _⟩ => ⟨S32x4x128, .f32⟩
  | .hbm, ⟨58, _⟩ => ⟨S32x4x128x1, .f32⟩
  | .hbm, ⟨59, _⟩ => ⟨S32x4x128x128, .f32⟩
  | .hbm, ⟨60, _⟩ => ⟨S32x4x128x128, .f32⟩
  | .hbm, ⟨61, _⟩ => ⟨S32x4x4x128, .f32⟩
  | .hbm, ⟨62, _⟩ => ⟨S32x4x4x128, .f32⟩
  | .hbm, ⟨63, _⟩ => ⟨S32x4x4x128, .f32⟩
  | .hbm, ⟨64, _⟩ => ⟨S32x4x4x128, .f32⟩
  | .hbm, ⟨65, _⟩ => ⟨S32x4x128x128, .f32⟩
  | .hbm, ⟨66, _⟩ => ⟨S32x4x128x128, .f32⟩
  | _, _ => ⟨S128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_call0_cst : Ref sig .tc := ⟨.hbm, 18, rfl⟩
abbrev main_call0_call0_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_call1_call0_cst : Ref sig .tc := ⟨.hbm, 52, rfl⟩
abbrev main_call1_call0_v0 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩

abbrev nD : Nat := 1
abbrev τ : Topo := Topo.v7x

variable {F : FTy → Type} [FloatOps F]
-- ==== Proof.Loop.lean ====
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pipeline.Frame
public import Idealize.ShloMosaic.Lib.Affine
public import Idealize.ShloMosaic.Lib.ValueIdxCore
public import Idealize.ShloMosaic.Lib.Tactic

@[expose] public section

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.ValueIdx (ix2 ix3 eq_ix2 eq_ix3)

variable {F : FTy → Type} [FloatOps F] [Named F]

local notation "𝕄" => MT nD τ sig Unit (Elt F) ℕ (UR sig nD τ) ℕ
abbrev 𝒱₀ : Variants := Variants.none

/-! ## The state of the online softmax -/

/-- Rows `256 n …` of the latent keys, as one block (the row taken modulo the array's height, so that every `n` has a block). -/
def kblk (X : Vec F S2048x256 .bf16) (n : ℕ) : Vec F S256x256 .bf16 :=
  fun x => X (ix2 ⟨(256 * n + (x 0).val) % 2048, Nat.mod_lt _ (by decide)⟩ (x 1))
/-- Rows `256 n …` of the rotary keys, as one block. -/
def rblk (X : Vec F S2048x64 .bf16) (n : ℕ) : Vec F S256x64 .bf16 :=
  fun x => X (ix2 ⟨(256 * n + (x 0).val) % 2048, Nat.mod_lt _ (by decide)⟩ (x 1))

/-- What the scratch holds between two key blocks: the running maximum, the running sum, the last rescaling factor, the accumulated
    values and the last block's exponentials, which are not yet accumulated. -/
structure St (F : FTy → Type) [FloatOps F] [Named F] where
  m : FVec F S1024x128 .f32
  l : FVec F S1024x128 .f32
  a : FVec F S1024x128 .f32
  acc : FVec F S1024x256 .f32
  p : FVec F S1x1024x256 .bf16

/-- One key block: the previous block's exponentials accumulated, this block's scores taken in. -/
def St.step (s : St F) (sc : FVec F S1x1024x256 .f32) (kp : Vec F S256x256 .bf16) : St F where
  m := k0_pay10 sc s.m
  l := k0_pay9 sc s.m s.l
  a := k0_pay11 sc s.m
  acc := k0_pay4 (k0_pay3 s.a s.acc s.p kp)
  p := k0_pay12 sc s.m

section State
variable (v4 : FVec F S1024x256 .bf16) (v9 : FVec F S1024x64 .bf16) (KC : Vec F S2048x256 .bf16) (KR : Vec F S2048x64 .bf16)

/-- The scores of key block `n`. -/
def Sc (n : ℕ) : FVec F S1x1024x256 .f32 := k0_pay2 v4 v9 (kblk KC n) (rblk KR n)
/-- The state after `n` key blocks. -/
def S : ℕ → St F
  | 0 => ⟨k0_pay62, k0_pay63, k0_pay64, k0_pay65, k0_pay66⟩
  | n + 1 => (S n).step (Sc v4 v9 KC KR n) (kblk KC (n - 1))
end State

/-! ## The offsets in closed form -/

theorem trips1_eq (i : grid0.Coords) : (k0_t1_loop i).trips = (i 1).val / 2 := by
  have h : ∀ q : Fin 8, (Scf.trips 0#32 (Scalar.addi 0#32 (Scalar.muli (Scalar.divsi (Scalar.subi (Scalar.shrsi (BitVec.ofNat 32 q.val) 1#32) 0#32) 1#32) 1#32)) 1#32) = q.val / 2 := by decide +kernel
  exact h (i 1)
theorem trips2_eq (i : grid0.Coords) : (k0_t2_loop i).trips = 0 := by
  have h : ∀ q : Fin 8, (Scf.trips (Scalar.addi 0#32 (Scalar.muli (Scalar.divsi (Scalar.subi (Scalar.shrsi (BitVec.ofNat 32 q.val) 1#32) 0#32) 1#32) 1#32)) (Scalar.addi 0#32 (Scalar.subi (Scalar.shrsi (BitVec.ofNat 32 q.val) 1#32) 0#32)) 1#32) = 0 := by decide +kernel
  exact h (i 1)

theorem trips1_lt (i : grid0.Coords) (k : Fin (k0_t1_loop i).trips) : k.val < 3 := by
  have h := Nat.lt_of_lt_of_eq k.isLt (trips1_eq i); have : (i 1).val < 8 := (i 1).isLt; omega

theorem off1_eq (i : grid0.Coords) (k : Fin (k0_t1_loop i).trips) : k0_off1 i k = ![256 * (2 * k.val + 1), 0] := by
  have h : ∀ q : Fin 4, (![(Scalar.indexCast (Scalar.muli (Scalar.addi (Scalar.muli 2#32 (Scf.iv 0#32 1#32 q.val)) 1#32) 256#32)).toNat, 0] : Fin 2 → ℕ) = ![256 * (2 * q.val + 1), 0] := by decide +kernel
  exact h ⟨k.val, by have := trips1_lt i k; omega⟩
theorem off2_eq (i : grid0.Coords) (k : Fin (k0_t1_loop i).trips) : k0_off2 i k = ![256 * (2 * k.val + 1), 0] := by
  have h : ∀ q : Fin 4, (![(Scalar.indexCast (Scalar.muli (Scalar.addi (Scalar.muli 2#32 (Scf.iv 0#32 1#32 q.val)) 1#32) 256#32)).toNat, 0] : Fin 2 → ℕ) = ![256 * (2 * q.val + 1), 0] := by decide +kernel
  exact h ⟨k.val, by have := trips1_lt i k; omega⟩
theorem off3_eq (i : grid0.Coords) (k : Fin (k0_t1_loop i).trips) : k0_off3 i k = ![256 * (2 * k.val - 1), 0] := by
  have h : ∀ q : Fin 4, (![(Scalar.indexCast (Scalar.muli (Scalar.maxsi (Scalar.subi (Scalar.muli 2#32 (Scf.iv 0#32 1#32 q.val)) 1#32) 0#32) 256#32)).toNat, 0] : Fin 2 → ℕ) = ![256 * (2 * q.val - 1), 0] := by decide +kernel
  exact h ⟨k.val, by have := trips1_lt i k; omega⟩
theorem off4_eq (i : grid0.Coords) (k : Fin (k0_t1_loop i).trips) : k0_off4 i k = ![256 * (2 * k.val + 2), 0] := by
  have h : ∀ q : Fin 4, (![(Scalar.indexCast (Scalar.muli (Scalar.addi (Scalar.addi (Scalar.muli 2#32 (Scf.iv 0#32 1#32 q.val)) 1#32) 1#32) 256#32)).toNat, 0] : Fin 2 → ℕ) = ![256 * (2 * q.val + 2), 0] := by decide +kernel
  exact h ⟨k.val, by have := trips1_lt i k; omega⟩
theorem off5_eq (i : grid0.Coords) (k : Fin (k0_t1_loop i).trips) : k0_off5 i k = ![256 * (2 * k.val + 2), 0] := by
  have h : ∀ q : Fin 4, (![(Scalar.indexCast (Scalar.muli (Scalar.addi (Scalar.addi (Scalar.muli 2#32 (Scf.iv 0#32 1#32 q.val)) 1#32) 1#32) 256#32)).toNat, 0] : Fin 2 → ℕ) = ![256 * (2 * q.val + 2), 0] := by decide +kernel
  exact h ⟨k.val, by have := trips1_lt i k; omega⟩
theorem off6_eq (i : grid0.Coords) (k : Fin (k0_t1_loop i).trips) : k0_off6 i k = ![256 * (2 * k.val), 0] := by
  have h : ∀ q : Fin 4, (![(Scalar.indexCast (Scalar.muli (Scalar.maxsi (Scalar.subi (Scalar.addi (Scalar.muli 2#32 (Scf.iv 0#32 1#32 q.val)) 1#32) 1#32) 0#32) 256#32)).toNat, 0] : Fin 2 → ℕ) = ![256 * (2 * q.val), 0] := by decide +kernel
  exact h ⟨k.val, by have := trips1_lt i k; omega⟩
theorem off13_eq (i : grid0.Coords) : k0_off13 i = ![256 * ((i 1).val), 0] := by
  have h : ∀ q : Fin 8, (![(Scalar.indexCast (Scalar.muli (Scalar.addi (Scalar.subi (BitVec.ofNat 32 q.val) 1#32) 1#32) 256#32)).toNat, 0] : Fin 2 → ℕ) = ![256 * (q.val), 0] := by decide +kernel
  exact h (i 1)
theorem off14_eq (i : grid0.Coords) : k0_off14 i = ![256 * ((i 1).val), 0] := by
  have h : ∀ q : Fin 8, (![(Scalar.indexCast (Scalar.muli (Scalar.addi (Scalar.subi (BitVec.ofNat 32 q.val) 1#32) 1#32) 256#32)).toNat, 0] : Fin 2 → ℕ) = ![256 * (q.val), 0] := by decide +kernel
  exact h (i 1)
theorem off15_eq (i : grid0.Coords) : k0_off15 i = ![256 * ((i 1).val - 2), 0] := by
  have h : ∀ q : Fin 8, (![(Scalar.indexCast (Scalar.muli (Scalar.maxsi (Scalar.subi (Scalar.subi (BitVec.ofNat 32 q.val) 1#32) 1#32) 0#32) 256#32)).toNat, 0] : Fin 2 → ℕ) = ![256 * (q.val - 2), 0] := by decide +kernel
  exact h (i 1)
theorem off16_eq (i : grid0.Coords) : k0_off16 i = ![256 * ((i 1).val - 1), 0] := by
  have h : ∀ q : Fin 8, (![(Scalar.indexCast (Scalar.muli (Scalar.maxsi (Scalar.subi (BitVec.ofNat 32 q.val) 1#32) 0#32) 256#32)).toNat, 0] : Fin 2 → ℕ) = ![256 * (q.val - 1), 0] := by decide +kernel
  exact h (i 1)
theorem off17_eq (i : grid0.Coords) : k0_off17 i = ![256 * ((i 1).val), 0] := by
  have h : ∀ q : Fin 8, (![(Scalar.indexCast (Scalar.muli (BitVec.ofNat 32 q.val) 256#32)).toNat, 0] : Fin 2 → ℕ) = ![256 * (q.val), 0] := by decide +kernel
  exact h (i 1)
theorem off18_eq (i : grid0.Coords) : k0_off18 i = ![256 * ((i 1).val - 1), 0] := by
  have h : ∀ q : Fin 8, (![(Scalar.indexCast (Scalar.muli (Scalar.maxsi (Scalar.subi (BitVec.ofNat 32 q.val) 1#32) 0#32) 256#32)).toNat, 0] : Fin 2 → ℕ) = ![256 * (q.val - 1), 0] := by decide +kernel
  exact h (i 1)
theorem off19_eq (i : grid0.Coords) : k0_off19 i = ![256 * ((i 1).val), 0] := by
  have h : ∀ q : Fin 8, (![(Scalar.indexCast (Scalar.muli (BitVec.ofNat 32 q.val) 256#32)).toNat, 0] : Fin 2 → ℕ) = ![256 * (q.val), 0] := by decide +kernel
  exact h (i 1)

/-- Exactly one of the two branches is taken: the first where the query block's number is odd, -/
theorem cond1_eq (i : grid0.Coords) : k0_cond1 i = 1#1 ↔ (i 1).val % 2 = 1 := by
  have h : ∀ q : Fin 8, Scalar.cmpi .ne (Scalar.extui (Scalar.cmpi .eq (Scalar.andi (BitVec.ofNat 32 q.val) 1#32) 1#32) : BitVec 32) 0#32 = 1#1 ↔ q.val % 2 = 1 := by decide +kernel
  exact h (i 1)
/-- the second where it is even. -/
theorem cond2_eq (i : grid0.Coords) : k0_cond2 i = 1#1 ↔ (i 1).val % 2 = 0 := by
  have h : ∀ q : Fin 8, Scalar.cmpi .ne (Scalar.extui (Scalar.cmpi .eq (Scalar.andi (BitVec.ofNat 32 q.val) 1#32) 0#32) : BitVec 32) 0#32 = 1#1 ↔ q.val % 2 = 0 := by decide +kernel
  exact h (i 1)

/-! ## Loads of a key block -/

/-- A load of 256 rows of the latent keys from row `256 n` is block `n`. -/
theorem ld_kblk (arg4 : Memref sig .tc .vmem S2048x256 .bf16) (f : arg4.view.ty.Contents (Elt F)) (n : ℕ) (hn : n < 8) (off : Fin 2 → ℕ)
    (inb : ∀ a, off a + S256x256.size a ≤ S2048x256.size a) (h : off = ![256 * n, 0]) :
    arg4.view.readAt (Elt F) (Rect.unit (s := S2048x256) off S256x256.size inb).toLoadRect f = kblk (arg4.view.read (Elt F) f) n := by
  subst h
  funext x
  obtain ⟨a, b, rfl⟩ : ∃ a b, x = ix2 (n0 := 256) (n1 := 256) a b := ⟨x 0, x 1, eq_ix2 _⟩
  show arg4.view.read (Elt F) f _ = arg4.view.read (Elt F) f _
  congr 1
  funext d
  have ha : a.val < 256 := a.isLt
  fin_cases d
  · apply Fin.ext
    show 256 * n + 1 * a.val = (256 * n + a.val) % 2048
    omega
  · apply Fin.ext
    show 0 + 1 * b.val = b.val
    omega
/-- A load of 256 rows of the rotary keys from row `256 n` is block `n`. -/
theorem ld_rblk (arg5 : Memref sig .tc .vmem S2048x64 .bf16) (f : arg5.view.ty.Contents (Elt F)) (n : ℕ) (hn : n < 8) (off : Fin 2 → ℕ)
    (inb : ∀ a, off a + S256x64.size a ≤ S2048x64.size a) (h : off = ![256 * n, 0]) :
    arg5.view.readAt (Elt F) (Rect.unit (s := S2048x64) off S256x64.size inb).toLoadRect f = rblk (arg5.view.read (Elt F) f) n := by
  subst h
  funext x
  obtain ⟨a, b, rfl⟩ : ∃ a b, x = ix2 (n0 := 256) (n1 := 64) a b := ⟨x 0, x 1, eq_ix2 _⟩
  show arg5.view.read (Elt F) f _ = arg5.view.read (Elt F) f _
  congr 1
  funext d
  have ha : a.val < 256 := a.isLt
  fin_cases d
  · apply Fin.ext
    show 256 * n + 1 * a.val = (256 * n + a.val) % 2048
    omega
  · apply Fin.ext
    show 0 + 1 * b.val = b.val
    omega

/-! ## One trip of the loop: two key blocks -/

abbrev R128 : Rect S1024x128 := Rect.unit (s := S1024x128) ![0, 0] S1024x128.size inb_S1024x128_S1024x128_0_0
abbrev R256 : Rect S1024x256 := Rect.unit (s := S1024x256) ![0, 0] S1024x256.size inb_S1024x256_S1024x256_0_0
abbrev RS0 : Rect S2x1024x256 := Rect.unit (s := S2x1024x256) ![0, 0, 0] S1x1024x256.size inb_S2x1024x256_S1x1024x256_0_0_0
abbrev RS1 : Rect S2x1024x256 := Rect.unit (s := S2x1024x256) ![1, 0, 0] S1x1024x256.size inb_S2x1024x256_S1x1024x256_1_0_0

/-- The buffers the loop touches, the scratch holding state `s`, the next block's scores in slot 0 and the last block's exponentials
    in slot 1. -/
abbrev Held (c : Dev nD) (arg4 : Memref sig .tc .vmem S2048x256 .bf16) (arg5 : Memref sig .tc .vmem S2048x64 .bf16)
    (arg8 arg9 arg10 : Memref sig .tc .vmem S1024x128 .f32) (arg11 : Memref sig .tc .vmem S1024x256 .f32)
    (arg12 : Memref sig .tc .vmem S2x1024x256 .f32) (arg13 : Memref sig .tc .vmem S2x1024x256 .bf16)
    (f4 : arg4.view.ty.Contents (Elt F)) (f5 : arg5.view.ty.Contents (Elt F)) (s : St F) (sc : FVec F S1x1024x256 .f32) : sProp 𝕄 :=
  iprop((arg4.view.loc (c : Thread nD τ) ↦{fullShare} f4) ∗ (arg5.view.loc (c : Thread nD τ) ↦{fullShare} f5)
    ∗ (∃ g, arg8.view.loc (c : Thread nD τ) ↦{fullShare} arg8.view.writes (Elt F) g [⟨R128, s.m⟩])
    ∗ (∃ g, arg9.view.loc (c : Thread nD τ) ↦{fullShare} arg9.view.writes (Elt F) g [⟨R128, s.l⟩])
    ∗ (∃ g, arg10.view.loc (c : Thread nD τ) ↦{fullShare} arg10.view.writes (Elt F) g [⟨R128, s.a⟩])
    ∗ (∃ g, arg11.view.loc (c : Thread nD τ) ↦{fullShare} arg11.view.writes (Elt F) g [⟨R256, s.acc⟩])
    ∗ (∃ g, arg12.view.loc (c : Thread nD τ) ↦{fullShare} arg12.view.writes (Elt F) g [⟨RS0, sc⟩])
    ∗ (∃ g, arg13.view.loc (c : Thread nD τ) ↦{fullShare} arg13.view.writes (Elt F) g [⟨RS1, s.p⟩]))

/-! What a buffer holds is what was last written to it. -/

theorem cov128 {e : EltTy} {κ sp} (v : View sig κ sp S1024x128 e) (inb inb' : ∀ a, (![0, 0] : Fin 2 → ℕ) a + (![1024, 128] : Fin 2 → ℕ) a ≤ S1024x128.size a)
    (w : (Rect.unit (s := S1024x128) ![0, 0] ![1024, 128] inb).shape.Idx → Elt F e) (L : List (View.Piece (Elt F) S1024x128 e)) :
    v.readCov (⟨Rect.unit (s := S1024x128) ![0, 0] ![1024, 128] inb, w⟩ :: L) (Rect.unit (s := S1024x128) ![0, 0] ![1024, 128] inb').toLoadRect = w :=
  View.readCov_cons_toLoadRect v _ w L
theorem cov256 {e : EltTy} {κ sp} (v : View sig κ sp S1024x256 e) (inb inb' : ∀ a, (![0, 0] : Fin 2 → ℕ) a + (![1024, 256] : Fin 2 → ℕ) a ≤ S1024x256.size a)
    (w : (Rect.unit (s := S1024x256) ![0, 0] ![1024, 256] inb).shape.Idx → Elt F e) (L : List (View.Piece (Elt F) S1024x256 e)) :
    v.readCov (⟨Rect.unit (s := S1024x256) ![0, 0] ![1024, 256] inb, w⟩ :: L) (Rect.unit (s := S1024x256) ![0, 0] ![1024, 256] inb').toLoadRect = w :=
  View.readCov_cons_toLoadRect v _ w L
theorem covS0 {e : EltTy} {κ sp} (v : View sig κ sp S2x1024x256 e) (inb inb' : ∀ a, (![0, 0, 0] : Fin 3 → ℕ) a + (![1, 1024, 256] : Fin 3 → ℕ) a ≤ S2x1024x256.size a)
    (w : (Rect.unit (s := S2x1024x256) ![0, 0, 0] ![1, 1024, 256] inb).shape.Idx → Elt F e) (L : List (View.Piece (Elt F) S2x1024x256 e)) :
    v.readCov (⟨Rect.unit (s := S2x1024x256) ![0, 0, 0] ![1, 1024, 256] inb, w⟩ :: L) (Rect.unit (s := S2x1024x256) ![0, 0, 0] ![1, 1024, 256] inb').toLoadRect = w :=
  View.readCov_cons_toLoadRect v _ w L
theorem covS1 {e : EltTy} {κ sp} (v : View sig κ sp S2x1024x256 e) (inb inb' : ∀ a, (![1, 0, 0] : Fin 3 → ℕ) a + (![1, 1024, 256] : Fin 3 → ℕ) a ≤ S2x1024x256.size a)
    (w : (Rect.unit (s := S2x1024x256) ![1, 0, 0] ![1, 1024, 256] inb).shape.Idx → Elt F e) (L : List (View.Piece (Elt F) S2x1024x256 e)) :
    v.readCov (⟨Rect.unit (s := S2x1024x256) ![1, 0, 0] ![1, 1024, 256] inb, w⟩ :: L) (Rect.unit (s := S2x1024x256) ![1, 0, 0] ![1, 1024, 256] inb').toLoadRect = w :=
  View.readCov_cons_toLoadRect v _ w L

/-- Reading one slot passes over a write to the other. -/
theorem cov_other {e : EltTy} {κ sp} (v : View sig κ sp S2x1024x256 e) (a b : ℕ) (hab : a ≠ b)
    (inb : ∀ d, (![a, 0, 0] : Fin 3 → ℕ) d + (![1, 1024, 256] : Fin 3 → ℕ) d ≤ S2x1024x256.size d)
    (inb' : ∀ d, (![b, 0, 0] : Fin 3 → ℕ) d + (![1, 1024, 256] : Fin 3 → ℕ) d ≤ S2x1024x256.size d)
    (w : (Rect.unit (s := S2x1024x256) ![a, 0, 0] ![1, 1024, 256] inb).shape.Idx → Elt F e) (L : List (View.Piece (Elt F) S2x1024x256 e)) :
    v.readCov (⟨Rect.unit (s := S2x1024x256) ![a, 0, 0] ![1, 1024, 256] inb, w⟩ :: L) (Rect.unit (s := S2x1024x256) ![b, 0, 0] ![1, 1024, 256] inb').toLoadRect
      = v.readCov L (Rect.unit (s := S2x1024x256) ![b, 0, 0] ![1, 1024, 256] inb').toLoadRect := by
  refine View.readCov_cons_of_disjoint v _ L _ (Finset.disjoint_left.mpr fun y h1 h2 => ?_)
  obtain ⟨x, hx⟩ := LoadRect.exists_idx_of_mem _ h1
  obtain ⟨x', hx'⟩ := LoadRect.exists_idx_of_mem _ h2
  have h : ((Rect.unit (s := S2x1024x256) ![a, 0, 0] ![1, 1024, 256] inb).idx x (0 : Fin 3)).val
      = ((Rect.unit (s := S2x1024x256) ![b, 0, 0] ![1, 1024, 256] inb').idx x' (0 : Fin 3)).val := by rw [hx, hx']
  have h0 : (x (0 : Fin 3)).val < 1 := (x (0 : Fin 3)).isLt
  have h1 : (x' (0 : Fin 3)).val < 1 := (x' (0 : Fin 3)).isLt
  have h3 : a + 1 * (x (0 : Fin 3)).val = b + 1 * (x' (0 : Fin 3)).val := h
  omega
theorem cov0 {e : EltTy} {κ sp} (v : View sig κ sp S2x1024x256 e) (inb inb')
    (w : (Rect.unit (s := S2x1024x256) ![1, 0, 0] ![1, 1024, 256] inb).shape.Idx → Elt F e) (L : List (View.Piece (Elt F) S2x1024x256 e)) :
    v.readCov (⟨Rect.unit (s := S2x1024x256) ![1, 0, 0] ![1, 1024, 256] inb, w⟩ :: L) (Rect.unit (s := S2x1024x256) ![0, 0, 0] ![1, 1024, 256] inb').toLoadRect
      = v.readCov L (Rect.unit (s := S2x1024x256) ![0, 0, 0] ![1, 1024, 256] inb').toLoadRect := cov_other v 1 0 (by decide) inb inb' w L
theorem cov1 {e : EltTy} {κ sp} (v : View sig κ sp S2x1024x256 e) (inb inb')
    (w : (Rect.unit (s := S2x1024x256) ![0, 0, 0] ![1, 1024, 256] inb).shape.Idx → Elt F e) (L : List (View.Piece (Elt F) S2x1024x256 e)) :
    v.readCov (⟨Rect.unit (s := S2x1024x256) ![0, 0, 0] ![1, 1024, 256] inb, w⟩ :: L) (Rect.unit (s := S2x1024x256) ![1, 0, 0] ![1, 1024, 256] inb').toLoadRect
      = v.readCov L (Rect.unit (s := S2x1024x256) ![1, 0, 0] ![1, 1024, 256] inb').toLoadRect := cov_other v 0 1 (by decide) inb inb' w L

/-- Of a buffer's writes only the last is kept in mind. -/
theorem last {s : Shape} {e : EltTy} {sp} (c : Dev nD) (v : View sig .tc sp s e) (g : v.ty.Contents (Elt F)) (p : View.Piece (Elt F) s e)
    (L : List (View.Piece (Elt F) s e)) :
    (v.loc (c : Thread nD τ) ↦{fullShare} v.writes (Elt F) g (p :: L)) ⊢ (iprop(∃ g, v.loc (c : Thread nD τ) ↦{fullShare} v.writes (Elt F) g [p]) : sProp 𝕄) := by
  iintro H
  iexists (v.writes (Elt F) g L)
  iexact H

set_option maxHeartbeats 4000000 in
/-- One trip takes the state two key blocks further. -/
theorem trip (c : Dev nD) (i : grid0.Coords) (arg2 : Memref sig .tc .vmem S256x1024 .bf16) (harg2 : arg2.IsWhole) (arg3 : Memref sig .tc .vmem S256x256 .bf16) (harg3 : arg3.IsWhole) (arg4 : Memref sig .tc .vmem S2048x256 .bf16) (harg4 : arg4.IsWhole) (arg5 : Memref sig .tc .vmem S2048x64 .bf16) (harg5 : arg5.IsWhole) (arg6 : Memref sig .tc .vmem S4x256x128 .bf16) (harg6 : arg6.IsWhole) (arg7 : Memref sig .tc .vmem S256x512 .bf16) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x256 .f32) (harg11 : arg11.IsWhole) (arg12 : Memref sig .tc .vmem S2x1024x256 .f32) (harg12 : arg12.IsWhole) (arg13 : Memref sig .tc .vmem S2x1024x256 .bf16) (harg13 : arg13.IsWhole) (arg1 : BitVec 32) (v4 : FVec F S1024x256 .bf16) (v9 : FVec F S1024x64 .bf16)
    (f4 : arg4.view.ty.Contents (Elt F)) (f5 : arg5.view.ty.Contents (Elt F)) (k : Fin (k0_t1_loop i).trips) :
    Held (F := F) c arg4 arg5 arg8 arg9 arg10 arg11 arg12 arg13 f4 f5
        (S v4 v9 (arg4.view.read (Elt F) f4) (arg5.view.read (Elt F) f5) (2 * k.val))
        (Sc v4 v9 (arg4.view.read (Elt F) f4) (arg5.view.read (Elt F) f5) (2 * k.val))
      ⊢ wp frame (wpE (defs₀ (F := F)) 𝒱₀ (c : Thread nD τ) none) Set.univ
          (k0_t1_body (F := F) i arg2 harg2 arg3 harg3 arg4 harg4 arg5 harg5 arg6 harg6 arg7 harg7 arg8 harg8 arg9 harg9 arg10 harg10 arg11 harg11 arg12 harg12 arg13 harg13 arg1 v4 v9 k ())
          (fun _ => Held (F := F) c arg4 arg5 arg8 arg9 arg10 arg11 arg12 arg13 f4 f5
            (S v4 v9 (arg4.view.read (Elt F) f4) (arg5.view.read (Elt F) f5) (2 * (k.val + 1)))
            (Sc v4 v9 (arg4.view.read (Elt F) f4) (arg5.view.read (Elt F) f5) (2 * (k.val + 1)))) := by
  have hk := trips1_lt i k
  have e1 := ld_kblk arg4 f4 (2 * k.val + 1) (by omega) _ (k0_off1_inb i k) (off1_eq i k)
  have e2 := ld_rblk arg5 f5 (2 * k.val + 1) (by omega) _ (k0_off2_inb i k) (off2_eq i k)
  have e3 := ld_kblk arg4 f4 (2 * k.val - 1) (by omega) _ (k0_off3_inb i k) (off3_eq i k)
  have e4 := ld_kblk arg4 f4 (2 * k.val + 2) (by omega) _ (k0_off4_inb i k) (off4_eq i k)
  have e5 := ld_rblk arg5 f5 (2 * k.val + 2) (by omega) _ (k0_off5_inb i k) (off5_eq i k)
  have e6 := ld_kblk arg4 f4 (2 * k.val) (by omega) _ (k0_off6_inb i k) (off6_eq i k)
  unfold k0_t1_body
  simp only [k0_part2_eq_skeleton]
  unfold k0_part2_skel
  iintro ⟨H4, H5, ⟨%g8, H8⟩, ⟨%g9, H9⟩, ⟨%g10, H10⟩, ⟨%g11, H11⟩, ⟨%g12, H12⟩, ⟨%g13, H13⟩⟩
  sl_exec
  sl_step
  sl_unfold_run_names
  sl_unfold_run_names
  sl_unfold_run_names
  simp only [R128, R256, RS0, RS1, cov128, cov256, covS0, covS1, cov0, cov1]
  rw [show 2 * (k.val + 1) = 2 * k.val + 1 + 1 from by omega]
  isplitl [H4]; · iexact H4
  isplitl [H5]; · iexact H5
  isplitl [H8]; · iapply last c arg8.view; iexact H8
  isplitl [H9]; · iapply last c arg9.view; iexact H9
  isplitl [H10]; · iapply last c arg10.view; iexact H10
  isplitl [H11]; · iapply last c arg11.view; iexact H11
  isplitl [H12]; · iapply last c arg12.view; iexact H12
  iapply last c arg13.view; iexact H13

end Cert.KernelIdeal.Attn

end
-- ==== Proof.Body.lean ====
module

public import proofs.«01_k».proof.Proof.Loop
public import proofs.«01_k».proof.Proof.Gen.KernelIdeal.Frame
public import proofs.«01_k».proof.Proof.Gen.KernelIdeal.Points
public import proofs.«01_k».proof.Proof.Gen.KernelIdeal.Skeleton
public import proofs.«01_k».proof.Proof.Gen.KernelIdeal.Loops
public import Idealize.ShloMosaic.Lib.Pipeline.Frame
public import Idealize.ShloMosaic.Lib.Affine
public import Idealize.ShloMosaic.Lib.ValueIdxCore
public import Idealize.ShloMosaic.Lib.Tactic

@[expose] public section

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.ValueIdx (ix2 ix3 eq_ix2 eq_ix3)

variable {F : FTy → Type} [FloatOps F] [Named F]

local notation "𝕄" => MT nD τ sig Unit (Elt F) ℕ (UR sig nD τ) ℕ

/-! ## What the body leaves in the output block -/

abbrev rq (h : ℕ) (inb : ∀ a, (![0, 256 * h] : Fin 2 → ℕ) a + S256x256.size a ≤ S256x1024.size a) : Rect S256x1024 := Rect.unit (s := S256x1024) ![0, 256 * h] S256x256.size inb
/-- The latent queries of the block, the four heads below one another. -/
def vq (x : Vec F S256x1024 .bf16) : FVec F S1024x256 .bf16 :=
  k0_pay60 (View.ld x (Rect.unit (s := S256x1024) ![0, 0] S256x256.size inb_S256x1024_S256x256_0_0)) (View.ld x (Rect.unit (s := S256x1024) ![0, 256] S256x256.size inb_S256x1024_S256x256_0_256))
    (View.ld x (Rect.unit (s := S256x1024) ![0, 512] S256x256.size inb_S256x1024_S256x256_0_512)) (View.ld x (Rect.unit (s := S256x1024) ![0, 768] S256x256.size inb_S256x1024_S256x256_0_768))
/-- The rotary queries of the block, likewise. -/
def vr (x : Vec F S256x256 .bf16) : FVec F S1024x64 .bf16 :=
  k0_pay61 (View.ld x (Rect.unit (s := S256x256) ![0, 0] S256x64.size inb_S256x256_S256x64_0_0)) (View.ld x (Rect.unit (s := S256x256) ![0, 64] S256x64.size inb_S256x256_S256x64_0_64))
    (View.ld x (Rect.unit (s := S256x256) ![0, 128] S256x64.size inb_S256x256_S256x64_0_128)) (View.ld x (Rect.unit (s := S256x256) ![0, 192] S256x64.size inb_S256x256_S256x64_0_192))

/-- The last step of a query block: the diagonal key block under the causal mask, from the state after the blocks before it: the accumulator, -/
def finAcc (s : St F) (sc : FVec F S1x1024x256 .f32) (kp kd : Vec F S256x256 .bf16) : FVec F S1024x256 .f32 :=
  k0_pay86 (k0_pay59 (k0_pay57 (k0_pay53 sc s.m)) (k0_pay50 s.a s.acc s.p kp) (k0_pay58 (k0_pay54 sc s.m)) kd)
/-- and the sum of the exponentials. -/
def finL (s : St F) (sc : FVec F S1x1024x256 .f32) : FVec F S1024x128 .f32 := k0_pay55 (k0_pay53 sc s.m) (k0_pay54 sc s.m) s.l

/-- The output block's four column bands, one a head. -/
abbrev bands (p0 p1 p2 p3 : Vec F S256x128 .bf16) : List (View.Piece (Elt F) S256x512 .bf16) := [
    ⟨Rect.unit (s := S256x512) ![0, 384] S256x128.size inb_S256x512_S256x128_0_384, p3⟩,
    ⟨Rect.unit (s := S256x512) ![0, 256] S256x128.size inb_S256x512_S256x128_0_256, p2⟩,
    ⟨Rect.unit (s := S256x512) ![0, 128] S256x128.size inb_S256x512_S256x128_0_128, p1⟩,
    ⟨Rect.unit (s := S256x512) ![0, 0] S256x128.size inb_S256x512_S256x128_0_0, p0⟩]
/-- They cover the block. -/
theorem cover_bands (p0 p1 p2 p3 : Vec F S256x128 .bf16) (y : S256x512.Idx) : ∃ pc ∈ bands p0 p1 p2 p3, y ∈ pc.1.set :=
  View.cover_of_tiled (bands p0 p1 p2 p3) S256x128.size (by rfl) y

/-- The output block of the query block number `q`, from the blocks the body is given. -/
def outv (q : ℕ) (x0 : Vec F S256x1024 .bf16) (x1 : Vec F S256x256 .bf16) (x2 : Vec F S2048x256 .bf16) (x3 : Vec F S2048x64 .bf16) (x4 : Vec F S4x256x128 .bf16) :
    Vec F S256x512 .bf16 :=
  let s := S (vq x0) (vr x1) x2 x3 q
  let sc := Sc (vq x0) (vr x1) x2 x3 q
  let acc := finAcc s sc (kblk x2 (q - 1)) (kblk x2 q)
  let l := finL s sc
  View.canon (bands
    (k0_pay88 acc l (View.ld x4 (Rect.unit (s := S4x256x128) ![0, 0, 0] S1x256x128.size inb_S4x256x128_S1x256x128_0_0_0)))
    (k0_pay89 acc l (View.ld x4 (Rect.unit (s := S4x256x128) ![1, 0, 0] S1x256x128.size inb_S4x256x128_S1x256x128_1_0_0)))
    (k0_pay90 acc l (View.ld x4 (Rect.unit (s := S4x256x128) ![2, 0, 0] S1x256x128.size inb_S4x256x128_S1x256x128_2_0_0)))
    (k0_pay1 (k0_pay91 acc l (View.ld x4 (Rect.unit (s := S4x256x128) ![3, 0, 0] S1x256x128.size inb_S4x256x128_S1x256x128_3_0_0)))))

/-! ## The body's triple -/

/-- Contents that read as `X` give the ownership of the memref at `X`. -/
theorem own_intro (c : Dev nD) {s : Shape} {e : EltTy} {sp : Space} (r : Memref sig .tc sp s e) (hr : r.IsWhole)
    {f : r.view.ty.Contents (Elt F)} {X : s.Idx → Elt F e} (h : r.view.read (Elt F) f = X) :
    (r.view.loc (c : Thread nD τ) ↦{fullShare} f : sProp 𝕄) ⊢ owns (c : Thread nD τ) r fullShare X := by
  unfold owns
  rw [hr.set_eq_univ]
  iintro H
  iexists f
  isplitr
  · ipureintro; exact h
  iexact H

set_option maxHeartbeats 1000000 in
theorem body_even (c : Dev nD) (i : grid0.Coords) (arg2 : Memref sig .tc .vmem S256x1024 .bf16) (harg2 : arg2.IsWhole) (arg3 : Memref sig .tc .vmem S256x256 .bf16) (harg3 : arg3.IsWhole) (arg4 : Memref sig .tc .vmem S2048x256 .bf16) (harg4 : arg4.IsWhole) (arg5 : Memref sig .tc .vmem S2048x64 .bf16) (harg5 : arg5.IsWhole) (arg6 : Memref sig .tc .vmem S4x256x128 .bf16) (harg6 : arg6.IsWhole) (arg7 : Memref sig .tc .vmem S256x512 .bf16) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x256 .f32) (harg11 : arg11.IsWhole) (arg12 : Memref sig .tc .vmem S2x1024x256 .f32) (harg12 : arg12.IsWhole) (arg13 : Memref sig .tc .vmem S2x1024x256 .bf16) (harg13 : arg13.IsWhole)
    (hpar : (i 1).val % 2 = 0)
    (f2 : arg2.view.ty.Contents (Elt F)) (f3 : arg3.view.ty.Contents (Elt F)) (f4 : arg4.view.ty.Contents (Elt F)) (f5 : arg5.view.ty.Contents (Elt F))
    (f6 : arg6.view.ty.Contents (Elt F)) (f7 : arg7.view.ty.Contents (Elt F)) (f8 : arg8.view.ty.Contents (Elt F)) (f9 : arg9.view.ty.Contents (Elt F))
    (f10 : arg10.view.ty.Contents (Elt F)) (f11 : arg11.view.ty.Contents (Elt F)) (f12 : arg12.view.ty.Contents (Elt F)) (f13 : arg13.view.ty.Contents (Elt F)) (K : PUnit → sProp 𝕄) :
    iprop((arg2.view.loc (c : Thread nD τ) ↦{fullShare} f2) ∗ (arg3.view.loc (c : Thread nD τ) ↦{fullShare} f3) ∗ (arg4.view.loc (c : Thread nD τ) ↦{fullShare} f4)
      ∗ (arg5.view.loc (c : Thread nD τ) ↦{fullShare} f5) ∗ (arg6.view.loc (c : Thread nD τ) ↦{fullShare} f6) ∗ (arg7.view.loc (c : Thread nD τ) ↦{fullShare} f7)
      ∗ (arg8.view.loc (c : Thread nD τ) ↦{fullShare} f8) ∗ (arg9.view.loc (c : Thread nD τ) ↦{fullShare} f9) ∗ (arg10.view.loc (c : Thread nD τ) ↦{fullShare} f10)
      ∗ (arg11.view.loc (c : Thread nD τ) ↦{fullShare} f11) ∗ (arg12.view.loc (c : Thread nD τ) ↦{fullShare} f12) ∗ (arg13.view.loc (c : Thread nD τ) ↦{fullShare} f13)
      ∗ (iprop((arg2.view.loc (c : Thread nD τ) ↦{fullShare} f2) ∗ (arg3.view.loc (c : Thread nD τ) ↦{fullShare} f3) ∗ (arg4.view.loc (c : Thread nD τ) ↦{fullShare} f4)
        ∗ (arg5.view.loc (c : Thread nD τ) ↦{fullShare} f5) ∗ (arg6.view.loc (c : Thread nD τ) ↦{fullShare} f6)
        ∗ owns (c : Thread nD τ) arg7 fullShare (outv (i 1).val (arg2.view.read (Elt F) f2) (arg3.view.read (Elt F) f3) (arg4.view.read (Elt F) f4) (arg5.view.read (Elt F) f5) (arg6.view.read (Elt F) f6))
        ∗ (∃ f, arg8.view.loc (c : Thread nD τ) ↦{fullShare} f) ∗ (∃ f, arg9.view.loc (c : Thread nD τ) ↦{fullShare} f) ∗ (∃ f, arg10.view.loc (c : Thread nD τ) ↦{fullShare} f)
        ∗ (∃ f, arg11.view.loc (c : Thread nD τ) ↦{fullShare} f) ∗ (∃ f, arg12.view.loc (c : Thread nD τ) ↦{fullShare} f) ∗ (∃ f, arg13.view.loc (c : Thread nD τ) ↦{fullShare} f)) -∗ K ⟨⟩))
      ⊢ wp frame (wpE (defs₀ (F := F)) 𝒱₀ (c : Thread nD τ) none) Set.univ (cc0_attn_prompt (F := F) i arg2 harg2 arg3 harg3 arg4 harg4 arg5 harg5 arg6 harg6 arg7 harg7 arg8 harg8 arg9 harg9 arg10 harg10 arg11 harg11 arg12 harg12 arg13 harg13) K := by
  have hq : (i 1).val < 8 := (i 1).isLt
  have h2 := (cond2_eq i).mpr hpar
  have h1 : ¬ k0_cond1 i = 1#1 := fun h => by have := (cond1_eq i).mp h; omega
  have e0 := ld_kblk arg4 f4 0 (by omega) _ inb_S2048x256_S256x256_0_0 rfl
  have e0' := ld_rblk arg5 f5 0 (by omega) _ inb_S2048x64_S256x64_0_0 rfl
  have e18 := ld_kblk arg4 f4 ((i 1).val - 1) (by omega) _ (k0_off18_inb i h2) (off18_eq i)
  have e19 := ld_kblk arg4 f4 ((i 1).val) (by omega) _ (k0_off19_inb i h2) (off19_eq i)
  rw [cc0_attn_prompt_eq_skeleton]; unfold cc0_attn_prompt_skel
  iintro ⟨H2, H3, H4, H5, H6, H7, H8, H9, H10, H11, H12, H13, HK⟩
  sl_open_parts
  sl_exec
  rw [bind_assoc]
  sl_for (fun k _ => Held (F := F) c arg4 arg5 arg8 arg9 arg10 arg11 arg12 arg13 f4 f5
      (S (vq (arg2.view.read (Elt F) f2)) (vr (arg3.view.read (Elt F) f3)) (arg4.view.read (Elt F) f4) (arg5.view.read (Elt F) f5) (2 * k))
      (Sc (vq (arg2.view.read (Elt F) f2)) (vr (arg3.view.read (Elt F) f3)) (arg4.view.read (Elt F) f4) (arg5.view.read (Elt F) f5) (2 * k)))
    $$ [H4 H5 H8 H9 H10 H11 H12 H13]
  · intro k acc
    exact trip c i arg2 harg2 arg3 harg3 arg4 harg4 arg5 harg5 arg6 harg6 arg7 harg7 arg8 harg8 arg9 harg9 arg10 harg10 arg11 harg11 arg12 harg12 arg13 harg13 (BitVec.ofNat 32 (i 1).val) (vq (arg2.view.read (Elt F) f2)) (vr (arg3.view.read (Elt F) f3)) f4 f5 k
  · isplitl [H4]; · iexact H4
    isplitl [H5]; · iexact H5
    isplitl [H8]; · iexists f8; iexact H8
    isplitl [H9]; · iexists f9; iexact H9
    isplitl [H10]; · iexists f10; iexact H10
    isplitl [H11]; · iexists f11; iexact H11
    isplitl [H12]; · iexists f12; iexact H12
    iexists f13; iexact H13
  rw [show 2 * Scf.trips (k0_t1_loop i).lb (k0_t1_loop i).ub (k0_t1_loop i).st = (i 1).val from by
    have h := trips1_eq i; have h' : Scf.trips (k0_t1_loop i).lb (k0_t1_loop i).ub (k0_t1_loop i).st = (i 1).val / 2 := h; omega]
  iintro %acc ⟨H4, H5, ⟨%g8, H8⟩, ⟨%g9, H9⟩, ⟨%g10, H10⟩, ⟨%g11, H11⟩, ⟨%g12, H12⟩, ⟨%g13, H13⟩⟩
  sl_unfold_run_names
  rw [bind_assoc]
  sl_for0 (trips2_eq i)
  sl_exec
  sl_step
  iapply HK
  isplitl [H2]; · iexact H2
  isplitl [H3]; · iexact H3
  isplitl [H4]; · iexact H4
  isplitl [H5]; · iexact H5
  isplitl [H6]; · iexact H6
  isplitl [H7]
  · iapply own_intro c arg7 harg7
    swap
    · iexact H7
    sl_unfold_run_names
    sl_unfold_run_names
    sl_unfold_run_names
    simp only [R128, R256, RS0, RS1, cov128, cov256, covS0, covS1, cov_other, cov0, cov1]
    exact View.read_writes_eq_canon _ _ _ (cover_bands _ _ _ _)
  isplitl [H8]; · iexists _; iexact H8
  isplitl [H9]; · iexists _; iexact H9
  isplitl [H10]; · iexists _; iexact H10
  isplitl [H11]; · iexists _; iexact H11
  isplitl [H12]; · iexists _; iexact H12
  iexists _; iexact H13

set_option maxHeartbeats 1000000 in
theorem body_odd (c : Dev nD) (i : grid0.Coords) (arg2 : Memref sig .tc .vmem S256x1024 .bf16) (harg2 : arg2.IsWhole) (arg3 : Memref sig .tc .vmem S256x256 .bf16) (harg3 : arg3.IsWhole) (arg4 : Memref sig .tc .vmem S2048x256 .bf16) (harg4 : arg4.IsWhole) (arg5 : Memref sig .tc .vmem S2048x64 .bf16) (harg5 : arg5.IsWhole) (arg6 : Memref sig .tc .vmem S4x256x128 .bf16) (harg6 : arg6.IsWhole) (arg7 : Memref sig .tc .vmem S256x512 .bf16) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x256 .f32) (harg11 : arg11.IsWhole) (arg12 : Memref sig .tc .vmem S2x1024x256 .f32) (harg12 : arg12.IsWhole) (arg13 : Memref sig .tc .vmem S2x1024x256 .bf16) (harg13 : arg13.IsWhole)
    (hpar : (i 1).val % 2 = 1)
    (f2 : arg2.view.ty.Contents (Elt F)) (f3 : arg3.view.ty.Contents (Elt F)) (f4 : arg4.view.ty.Contents (Elt F)) (f5 : arg5.view.ty.Contents (Elt F))
    (f6 : arg6.view.ty.Contents (Elt F)) (f7 : arg7.view.ty.Contents (Elt F)) (f8 : arg8.view.ty.Contents (Elt F)) (f9 : arg9.view.ty.Contents (Elt F))
    (f10 : arg10.view.ty.Contents (Elt F)) (f11 : arg11.view.ty.Contents (Elt F)) (f12 : arg12.view.ty.Contents (Elt F)) (f13 : arg13.view.ty.Contents (Elt F)) (K : PUnit → sProp 𝕄) :
    iprop((arg2.view.loc (c : Thread nD τ) ↦{fullShare} f2) ∗ (arg3.view.loc (c : Thread nD τ) ↦{fullShare} f3) ∗ (arg4.view.loc (c : Thread nD τ) ↦{fullShare} f4)
      ∗ (arg5.view.loc (c : Thread nD τ) ↦{fullShare} f5) ∗ (arg6.view.loc (c : Thread nD τ) ↦{fullShare} f6) ∗ (arg7.view.loc (c : Thread nD τ) ↦{fullShare} f7)
      ∗ (arg8.view.loc (c : Thread nD τ) ↦{fullShare} f8) ∗ (arg9.view.loc (c : Thread nD τ) ↦{fullShare} f9) ∗ (arg10.view.loc (c : Thread nD τ) ↦{fullShare} f10)
      ∗ (arg11.view.loc (c : Thread nD τ) ↦{fullShare} f11) ∗ (arg12.view.loc (c : Thread nD τ) ↦{fullShare} f12) ∗ (arg13.view.loc (c : Thread nD τ) ↦{fullShare} f13)
      ∗ (iprop((arg2.view.loc (c : Thread nD τ) ↦{fullShare} f2) ∗ (arg3.view.loc (c : Thread nD τ) ↦{fullShare} f3) ∗ (arg4.view.loc (c : Thread nD τ) ↦{fullShare} f4)
        ∗ (arg5.view.loc (c : Thread nD τ) ↦{fullShare} f5) ∗ (arg6.view.loc (c : Thread nD τ) ↦{fullShare} f6)
        ∗ owns (c : Thread nD τ) arg7 fullShare (outv (i 1).val (arg2.view.read (Elt F) f2) (arg3.view.read (Elt F) f3) (arg4.view.read (Elt F) f4) (arg5.view.read (Elt F) f5) (arg6.view.read (Elt F) f6))
        ∗ (∃ f, arg8.view.loc (c : Thread nD τ) ↦{fullShare} f) ∗ (∃ f, arg9.view.loc (c : Thread nD τ) ↦{fullShare} f) ∗ (∃ f, arg10.view.loc (c : Thread nD τ) ↦{fullShare} f)
        ∗ (∃ f, arg11.view.loc (c : Thread nD τ) ↦{fullShare} f) ∗ (∃ f, arg12.view.loc (c : Thread nD τ) ↦{fullShare} f) ∗ (∃ f, arg13.view.loc (c : Thread nD τ) ↦{fullShare} f)) -∗ K ⟨⟩))
      ⊢ wp frame (wpE (defs₀ (F := F)) 𝒱₀ (c : Thread nD τ) none) Set.univ (cc0_attn_prompt (F := F) i arg2 harg2 arg3 harg3 arg4 harg4 arg5 harg5 arg6 harg6 arg7 harg7 arg8 harg8 arg9 harg9 arg10 harg10 arg11 harg11 arg12 harg12 arg13 harg13) K := by
  have hq : (i 1).val < 8 := (i 1).isLt
  have h1 := (cond1_eq i).mpr hpar
  have h2 : ¬ k0_cond2 i = 1#1 := fun h => by have := (cond2_eq i).mp h; omega
  have e0 := ld_kblk arg4 f4 0 (by omega) _ inb_S2048x256_S256x256_0_0 rfl
  have e0' := ld_rblk arg5 f5 0 (by omega) _ inb_S2048x64_S256x64_0_0 rfl
  have e13 := ld_kblk arg4 f4 ((i 1).val) (by omega) _ (k0_off13_inb i h1) (off13_eq i)
  have e14 := ld_rblk arg5 f5 ((i 1).val) (by omega) _ (k0_off14_inb i h1) (off14_eq i)
  have e15 := ld_kblk arg4 f4 ((i 1).val - 2) (by omega) _ (k0_off15_inb i h1) (off15_eq i)
  have e16 := ld_kblk arg4 f4 ((i 1).val - 1) (by omega) _ (k0_off16_inb i h1) (off16_eq i)
  have e17 := ld_kblk arg4 f4 ((i 1).val) (by omega) _ (k0_off17_inb i h1) (off17_eq i)
  rw [cc0_attn_prompt_eq_skeleton]; unfold cc0_attn_prompt_skel
  iintro ⟨H2, H3, H4, H5, H6, H7, H8, H9, H10, H11, H12, H13, HK⟩
  sl_open_parts
  sl_exec
  rw [bind_assoc]
  sl_for (fun k _ => Held (F := F) c arg4 arg5 arg8 arg9 arg10 arg11 arg12 arg13 f4 f5
      (S (vq (arg2.view.read (Elt F) f2)) (vr (arg3.view.read (Elt F) f3)) (arg4.view.read (Elt F) f4) (arg5.view.read (Elt F) f5) (2 * k))
      (Sc (vq (arg2.view.read (Elt F) f2)) (vr (arg3.view.read (Elt F) f3)) (arg4.view.read (Elt F) f4) (arg5.view.read (Elt F) f5) (2 * k)))
    $$ [H4 H5 H8 H9 H10 H11 H12 H13]
  · intro k acc
    exact trip c i arg2 harg2 arg3 harg3 arg4 harg4 arg5 harg5 arg6 harg6 arg7 harg7 arg8 harg8 arg9 harg9 arg10 harg10 arg11 harg11 arg12 harg12 arg13 harg13 (BitVec.ofNat 32 (i 1).val) (vq (arg2.view.read (Elt F) f2)) (vr (arg3.view.read (Elt F) f3)) f4 f5 k
  · isplitl [H4]; · iexact H4
    isplitl [H5]; · iexact H5
    isplitl [H8]; · iexists f8; iexact H8
    isplitl [H9]; · iexists f9; iexact H9
    isplitl [H10]; · iexists f10; iexact H10
    isplitl [H11]; · iexists f11; iexact H11
    isplitl [H12]; · iexists f12; iexact H12
    iexists f13; iexact H13
  rw [show 2 * Scf.trips (k0_t1_loop i).lb (k0_t1_loop i).ub (k0_t1_loop i).st = (i 1).val - 1 from by
    have h := trips1_eq i; have h' : Scf.trips (k0_t1_loop i).lb (k0_t1_loop i).ub (k0_t1_loop i).st = (i 1).val / 2 := h; omega]
  iintro %acc ⟨H4, H5, ⟨%g8, H8⟩, ⟨%g9, H9⟩, ⟨%g10, H10⟩, ⟨%g11, H11⟩, ⟨%g12, H12⟩, ⟨%g13, H13⟩⟩
  sl_unfold_run_names
  rw [bind_assoc]
  sl_for0 (trips2_eq i)
  sl_exec
  sl_step
  iapply HK
  isplitl [H2]; · iexact H2
  isplitl [H3]; · iexact H3
  isplitl [H4]; · iexact H4
  isplitl [H5]; · iexact H5
  isplitl [H6]; · iexact H6
  isplitl [H7]
  · iapply own_intro c arg7 harg7
    swap
    · iexact H7
    sl_unfold_run_names
    sl_unfold_run_names
    sl_unfold_run_names
    simp only [R128, R256, RS0, RS1, cov128, cov256, covS0, covS1, cov_other, cov0, cov1]
    obtain ⟨q', hq'⟩ : ∃ q', (i 1).val = q' + 1 := ⟨(i 1).val - 1, by omega⟩
    rw [hq']
    rw [show q' + 1 - 2 = q' - 1 from by omega, show q' + 1 - 1 = q' from rfl]
    exact View.read_writes_eq_canon _ _ _ (cover_bands _ _ _ _)
  isplitl [H8]; · iexists _; iexact H8
  isplitl [H9]; · iexists _; iexact H9
  isplitl [H10]; · iexists _; iexact H10
  isplitl [H11]; · iexists _; iexact H11
  isplitl [H12]; · iexists _; iexact H12
  iexists _; iexact H13

end Cert.KernelIdeal.Attn

end
-- ==== Proof.Run.lean ====
module

public import proofs.«01_k».proof.Proof.Body
public import Idealize.ShloMosaic.Lib.Claim
public import proofs.«01_k».proof.Proof.Gen.KernelIdeal.Frame
public import proofs.«01_k».proof.Proof.Gen.KernelIdeal.Points
public import proofs.«01_k».proof.Proof.Gen.KernelIdeal.Skeleton
public import proofs.«01_k».proof.Proof.Gen.KernelIdeal.Loops
public import Idealize.ShloMosaic.Lib.Pipeline.Frame
public import Idealize.ShloMosaic.Lib.Affine
public import Idealize.ShloMosaic.Lib.ValueIdxCore
public import Idealize.ShloMosaic.Lib.Tactic

@[expose] public section

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.ValueIdx (ix2 ix3 eq_ix2 eq_ix3)

variable {F : FTy → Type} [FloatOps F] [Named F]

local notation "𝕄" => MT nD τ sig Unit (Elt F) ℕ (UR sig nD τ) ℕ

/-! ## The body on owned memrefs -/

/-- The ownership of a whole memref at `X` opened: some contents that read as `X`. -/
theorem own_elim (c : Dev nD) {s : Shape} {e : EltTy} {sp : Space} (r : Memref sig .tc sp s e) (hr : r.IsWhole) (X : s.Idx → Elt F e) :
    (owns (c : Thread nD τ) r fullShare X : sProp 𝕄) ⊢ iprop(∃ f, ⌜r.view.read (Elt F) f = X⌝ ∗ (r.view.loc (c : Thread nD τ) ↦{fullShare} f)) := by
  unfold owns
  rw [hr.set_eq_univ]

/-- The kernel body at a grid point: the inputs' memrefs kept, the output's left at `outv` of what the inputs' read, the scratch at
    anything before and after. -/
theorem sound_kernel (c : Dev nD) (i : grid0.Coords) (arg2 : Memref sig .tc .vmem S256x1024 .bf16) (harg2 : arg2.IsWhole) (arg3 : Memref sig .tc .vmem S256x256 .bf16) (harg3 : arg3.IsWhole) (arg4 : Memref sig .tc .vmem S2048x256 .bf16) (harg4 : arg4.IsWhole) (arg5 : Memref sig .tc .vmem S2048x64 .bf16) (harg5 : arg5.IsWhole) (arg6 : Memref sig .tc .vmem S4x256x128 .bf16) (harg6 : arg6.IsWhole) (arg7 : Memref sig .tc .vmem S256x512 .bf16) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x256 .f32) (harg11 : arg11.IsWhole) (arg12 : Memref sig .tc .vmem S2x1024x256 .f32) (harg12 : arg12.IsWhole) (arg13 : Memref sig .tc .vmem S2x1024x256 .bf16) (harg13 : arg13.IsWhole)
    (x0 : Vec F S256x1024 .bf16) (x1 : Vec F S256x256 .bf16) (x2 : Vec F S2048x256 .bf16) (x3 : Vec F S2048x64 .bf16) (x4 : Vec F S4x256x128 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
      ∗ (∃ f, arg8.view.loc (c : Thread nD τ) ↦{fullShare} f) ∗ (∃ f, arg9.view.loc (c : Thread nD τ) ↦{fullShare} f) ∗ (∃ f, arg10.view.loc (c : Thread nD τ) ↦{fullShare} f) ∗ (∃ f, arg11.view.loc (c : Thread nD τ) ↦{fullShare} f) ∗ (∃ f, arg12.view.loc (c : Thread nD τ) ↦{fullShare} f) ∗ (∃ f, arg13.view.loc (c : Thread nD τ) ↦{fullShare} f)
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (outv (i 1).val x0 x1 x2 x3 x4)
      ∗ (∃ f, arg8.view.loc (c : Thread nD τ) ↦{fullShare} f) ∗ (∃ f, arg9.view.loc (c : Thread nD τ) ↦{fullShare} f) ∗ (∃ f, arg10.view.loc (c : Thread nD τ) ↦{fullShare} f) ∗ (∃ f, arg11.view.loc (c : Thread nD τ) ↦{fullShare} f) ∗ (∃ f, arg12.view.loc (c : Thread nD τ) ↦{fullShare} f) ∗ (∃ f, arg13.view.loc (c : Thread nD τ) ↦{fullShare} f)) -∗ K ⟨⟩))
      ⊢ wp frame (wpE (defs₀ (F := F)) 𝒱₀ (c : Thread nD τ) none) Set.univ (cc0_attn_prompt (F := F) i arg2 harg2 arg3 harg3 arg4 harg4 arg5 harg5 arg6 harg6 arg7 harg7 arg8 harg8 arg9 harg9 arg10 harg10 arg11 harg11 arg12 harg12 arg13 harg13) K := by
  iintro ⟨O2, O3, O4, O5, O6, ⟨%d, O7⟩, ⟨%f8, H8⟩, ⟨%f9, H9⟩, ⟨%f10, H10⟩, ⟨%f11, H11⟩, ⟨%f12, H12⟩, ⟨%f13, H13⟩, HK⟩
  ihave O2 := own_elim c arg2 harg2 _ $$ O2
  icases O2 with ⟨%f2, %hf2, H2⟩
  ihave O3 := own_elim c arg3 harg3 _ $$ O3
  icases O3 with ⟨%f3, %hf3, H3⟩
  ihave O4 := own_elim c arg4 harg4 _ $$ O4
  icases O4 with ⟨%f4, %hf4, H4⟩
  ihave O5 := own_elim c arg5 harg5 _ $$ O5
  icases O5 with ⟨%f5, %hf5, H5⟩
  ihave O6 := own_elim c arg6 harg6 _ $$ O6
  icases O6 with ⟨%f6, %hf6, H6⟩
  ihave O7 := own_elim c arg7 harg7 _ $$ O7
  icases O7 with ⟨%f7, %hf7, H7⟩
  subst hf2 hf3 hf4 hf5 hf6
  rcases Nat.mod_two_eq_zero_or_one (i 1).val with hpar | hpar
  · iapply body_even c i arg2 harg2 arg3 harg3 arg4 harg4 arg5 harg5 arg6 harg6 arg7 harg7 arg8 harg8 arg9 harg9 arg10 harg10 arg11 harg11 arg12 harg12 arg13 harg13 hpar f2 f3 f4 f5 f6 f7 f8 f9 f10 f11 f12 f13 K
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iintro ⟨H2, H3, H4, H5, H6, H7, HS⟩
    iapply HK
    isplitl [H2]; · iapply own_intro c arg2 harg2 rfl; iexact H2
    isplitl [H3]; · iapply own_intro c arg3 harg3 rfl; iexact H3
    isplitl [H4]; · iapply own_intro c arg4 harg4 rfl; iexact H4
    isplitl [H5]; · iapply own_intro c arg5 harg5 rfl; iexact H5
    isplitl [H6]; · iapply own_intro c arg6 harg6 rfl; iexact H6
    isplitl [H7]; · iexact H7
    iexact HS
  · iapply body_odd c i arg2 harg2 arg3 harg3 arg4 harg4 arg5 harg5 arg6 harg6 arg7 harg7 arg8 harg8 arg9 harg9 arg10 harg10 arg11 harg11 arg12 harg12 arg13 harg13 hpar f2 f3 f4 f5 f6 f7 f8 f9 f10 f11 f12 f13 K
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iintro ⟨H2, H3, H4, H5, H6, H7, HS⟩
    iapply HK
    isplitl [H2]; · iapply own_intro c arg2 harg2 rfl; iexact H2
    isplitl [H3]; · iapply own_intro c arg3 harg3 rfl; iexact H3
    isplitl [H4]; · iapply own_intro c arg4 harg4 rfl; iexact H4
    isplitl [H5]; · iapply own_intro c arg5 harg5 rfl; iexact H5
    isplitl [H6]; · iapply own_intro c arg6 harg6 rfl; iexact H6
    isplitl [H7]; · iexact H7
    iexact HS

/-! ## The pipeline's proof data -/

variable (m : (ℓ : Loc nD τ sig) → Buf (Elt F) ℓ) (ρ : Dev nD → PrngReg)

/-- The proof data: the arrays as the region finds them; after the body at point `t` each input's buffer at its block and the
    output's at `outv` of the input blocks; the scratch and the generator register at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outv (grid0.coords t 1).val (iblk m c 0 t) (iblk m c 1 t) (iblk m c 2 t) (iblk m c 3 t) (iblk m c 4 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-! What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t
    = outv (grid0.coords t 1).val (iblk m c 0 t) (iblk m c 1 t) (iblk m c 2 t) (iblk m c 3 t) (iblk m c 4 t) := by dsimp only [dats]

/-! Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' memrefs hold their blocks, so `sound_kernel` applies; the scratch is taken out of the
    invariant and put back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl,
    after0_0, after0_1, after0_2, after0_3, after0_4, after0_5]
  unfold Pipeline.ΦA
  rw [scopedRest0_eq]
  iintro ⟨⟨⟨H8, H9, H10, H11, H12, H13⟩, Hg⟩, Ho, ⟨%d0, H0⟩, ⟨%d1, H1⟩, ⟨%d2, H2⟩, ⟨%d3, H3⟩, ⟨%d4, H4⟩, ⟨%d5, H5⟩⟩
  iapply (sound_kernel c (grid0.coords t) _ _ _ _ _ _ _ _ _ _ _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H8]; · iexact H8
  isplitl [H9]; · iexact H9
  isplitl [H10]; · iexact H10
  isplitl [H11]; · iexact H11
  isplitl [H12]; · iexact H12
  isplitl [H13]; · iexact H13
  iintro ⟨H0, H1, H2, H3, H4, H5, H8, H9, H10, H11, H12, H13⟩
  isplitl [H8 H9 H10 H11 H12 H13 Hg]
  · isplitr [Hg]
    · isplitl [H8]; · iexact H8
      isplitl [H9]; · iexact H9
      isplitl [H10]; · iexact H10
      isplitl [H11]; · iexact H11
      isplitl [H12]; · iexact H12
      iexact H13
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The program run from any memory: every array ends at what the proof data says, with every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end as they began. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame: the arguments end as they began and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Attn

end
-- ==== Proof.Math.lean ====
module

public import Idealize.ShloMosaic.Lib.Pointwise
public import Idealize.ShloMosaic.Lib.Pipeline.ValueKit

@[expose] public section
noncomputable section

/-! The softmax over the extended reals, computed at once and block by block. -/

namespace Cert.Softmax
open Idealize.ShloMosaic

/-- A finite sum of reals, read as an extended real. -/
theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- `2 ^ x`, and zero at `-∞`. -/
def e2 (x : EReal) : ℝ := if x = ⊥ then 0 else (2 : ℝ) ^ x.toReal
/-- `2 ^ (- x)`, and zero at `-∞`. -/
def r2 (x : EReal) : ℝ := if x = ⊥ then 0 else (2 : ℝ) ^ (- x.toReal)
/-- `e ^ x`, and zero at `-∞`. -/
def ee (x : EReal) : ℝ := if x = ⊥ then 0 else Real.exp x.toReal

theorem e2_bot : e2 ⊥ = 0 := if_pos rfl
theorem e2_coe (x : ℝ) : e2 x = (2 : ℝ) ^ x := by simp [e2]
theorem r2_bot : r2 ⊥ = 0 := if_pos rfl
theorem r2_coe (x : ℝ) : r2 x = (2 : ℝ) ^ (-x) := by simp [r2]
theorem ee_bot : ee ⊥ = 0 := if_pos rfl
theorem ee_coe (x : ℝ) : ee x = Real.exp x := by simp [ee]
theorem e2_nonneg (x : EReal) : 0 ≤ e2 x := by unfold e2; split <;> positivity
theorem ee_nonneg (x : EReal) : 0 ≤ ee x := by unfold ee; split <;> positivity
theorem r2_pos (x : ℝ) : 0 < r2 x := by rw [r2_coe]; positivity

/-- The base-two exponential of a score divided by `log 2` is the exponential of the score. -/
theorem e2_log (x : ℝ) : e2 ((x * (Real.log 2)⁻¹ : ℝ) : EReal) = ee x := by
  rw [e2_coe, ee_coe, Real.rpow_def_of_pos (by norm_num)]
  have h : Real.log 2 ≠ 0 := (Real.log_pos (by norm_num)).ne'
  congr 1
  field_simp

/-- The exponential of a difference, the subtrahend real. -/
theorem exp2_sub (x : EReal) (hx : x ≠ ⊤) (M : ℝ) : Ideal.exp2 (x - (M : EReal)) = ((r2 M * e2 x : ℝ) : EReal) := by
  induction x with
  | bot => rw [e2_bot, mul_zero]; simp
  | top => exact absurd rfl hx
  | coe x =>
    rw [← EReal.coe_sub, Ideal.exp2_coe, e2_coe, r2_coe, ← Real.rpow_add (by norm_num)]
    congr 1
    show (2 : ℝ) ^ (x - M) = _
    congr 1
    ring
/-- The same, for the natural exponential. -/
theorem exp_sub (x : EReal) (hx : x ≠ ⊤) (M : ℝ) : Ideal.exp (x - (M : EReal)) = ((Real.exp (-M) * ee x : ℝ) : EReal) := by
  induction x with
  | bot => rw [ee_bot, mul_zero]; simp
  | top => exact absurd rfl hx
  | coe x =>
    rw [← EReal.coe_sub, Ideal.exp_coe, ee_coe, ← Real.exp_add]
    congr 2
    ring

/-- The greatest of finitely many numbers below `∞`, one of them above `-∞`, is real. -/
theorem fold_max_real {n : ℕ} (f : Fin n → EReal) (h : ∀ k, f k ≠ ⊤) (k₀ : Fin n) (h₀ : f k₀ ≠ ⊥) :
    ∃ M : ℝ, Finset.univ.fold max ⊥ f = (M : EReal) := by
  have h1 : Finset.univ.fold max ⊥ f < ⊤ :=
    (Finset.fold_max_lt _).2 ⟨bot_lt_top, fun k _ => lt_top_iff_ne_top.2 (h k)⟩
  have h2 : ⊥ < Finset.univ.fold max ⊥ f :=
    (Finset.lt_fold_max _).2 (.inr ⟨k₀, Finset.mem_univ _, bot_lt_iff_ne_bot.2 h₀⟩)
  exact ⟨_, (EReal.coe_toReal h1.ne h2.ne').symm⟩

/-- A quotient of reals. -/
theorem div_real (x y : ℝ) (hy : y ≠ 0) : Ideal.div (x : EReal) (y : EReal) = ((x / y : ℝ) : EReal) := by
  rw [Ideal.div_coe hy, ← EReal.coe_mul]
  congr 1
  rw [mul_one_div]

section Row
variable (σ : ℕ → Fin 256 → EReal) (c : ℕ → Fin 256 → Fin 256 → ℝ)

/-- The sum of the weights of the first `n` blocks. -/
def L (n : ℕ) : ℝ := ∑ b ∈ Finset.range n, ∑ k, e2 (σ b k)
/-- The weighted sum of the values of the first `n` blocks. -/
def T (n : ℕ) (d : Fin 256) : ℝ := ∑ b ∈ Finset.range n, ∑ k, e2 (σ b k) * c b k d

/-- What one row of the scratch holds after `n` blocks of keys: the running maximum `μ`, the sum of the weights and, once the last
    block's exponentials are accumulated, the weighted sum of the values, both scaled by `2 ^ (- μ)`. -/
structure Inv (n : ℕ) (m l a : Fin 128 → EReal) (acc p : Fin 256 → EReal) (μ : EReal) (A : ℝ) (X P : Fin 256 → ℝ) : Prop where
  top : μ ≠ ⊤
  bot : μ = ⊥ → n = 0
  m : ∀ j, m j = μ
  l : ∀ j, l j = ((r2 μ * L σ n : ℝ) : EReal)
  a : ∀ j, a j = A
  acc : ∀ d, acc d = X d
  p : ∀ k, p k = P k
  sum : ∀ d, A * X d + ∑ k, P k * c (n - 1) k d = r2 μ * T σ c n d

/-- Before the first block. -/
theorem Inv.zero (m l a : Fin 128 → EReal) (acc p : Fin 256 → EReal) (hm : ∀ j, m j = ⊥) (hl : ∀ j, l j = 0) (ha : ∀ j, a j = 0)
    (hacc : ∀ d, acc d = 0) (hp : ∀ k, p k = 0) : Inv σ c 0 m l a acc p ⊥ 0 (fun _ => 0) (fun _ => 0) where
  top := bot_ne_top
  bot _ := rfl
  m := hm
  l j := by rw [hl, L]; simp
  a j := by rw [ha]; rfl
  acc d := by rw [hacc]; rfl
  p k := by rw [hp]; rfl
  sum d := by simp [T]

/-- One more block. -/
theorem Inv.step {n : ℕ} {m l a : Fin 128 → EReal} {acc p : Fin 256 → EReal} {μ : EReal} {A : ℝ} {X P : Fin 256 → ℝ}
    (I : Inv σ c n m l a acc p μ A X P) (s : Fin 256 → EReal) (hs : ∀ k, s k = σ n k) (h : ∀ k, s k ≠ ⊤) (k₀ : Fin 256) (h₀ : s k₀ ≠ ⊥)
    (m' l' a' : Fin 128 → EReal) (acc' p' : Fin 256 → EReal) (lane : Fin 256 → Fin 128)
    (hm : ∀ j, m' j = max (m j) (Finset.univ.fold max ⊥ s))
    (hp : ∀ k, p' k = Ideal.exp2 (s k - m' (lane k)))
    (hl : ∀ j, l' j = Ideal.exp2 (m j - m' j) * l j + ∑ k, p' k)
    (ha : ∀ j, a' j = Ideal.exp2 (m j - m' j))
    (hacc : ∀ d, acc' d = a (lane d) * acc d + ∑ k, p k * (c (n - 1) k d : EReal)) :
    ∃ (M : ℝ) (A' : ℝ) (X' P' : Fin 256 → ℝ), Inv σ c (n + 1) m' l' a' acc' p' M A' X' P' := by
  obtain ⟨M₀, hM₀⟩ := fold_max_real s h k₀ h₀
  obtain ⟨M, hM⟩ : ∃ M : ℝ, max μ (M₀ : EReal) = (M : EReal) := by
    have := I.top
    induction μ with
    | bot => exact ⟨M₀, max_eq_right bot_le⟩
    | top => exact absurd rfl this
    | coe x => exact ⟨max x M₀, (EReal.coe_strictMono.monotone.map_max).symm⟩
  have hm' : ∀ j, m' j = (M : EReal) := fun j => by rw [hm, I.m, hM₀, hM]
  have hp' : ∀ k, p' k = ((r2 M * e2 (σ n k) : ℝ) : EReal) := fun k => by
    rw [hp, hm', exp2_sub _ (h k), hs]
  have ha' : ∀ j, a' j = ((r2 M * e2 μ : ℝ) : EReal) := fun j => by rw [ha, hm', I.m, exp2_sub _ I.top]
  have hr : ∀ y : ℝ, (n = 0 → y = 0) → r2 M * e2 μ * (r2 μ * y) = r2 M * y := fun y hy => by
    have h1 := I.top
    have h2 := I.bot
    revert h1 h2
    induction μ with
    | bot => intro _ h2; rw [hy (h2 rfl)]; simp
    | top => intro h1; exact absurd rfl h1
    | coe x =>
      intro _ _
      have : e2 x * r2 x = 1 := by
        rw [e2_coe, r2_coe, ← Real.rpow_add (by norm_num), add_neg_cancel, Real.rpow_zero]
      calc r2 M * e2 x * (r2 x * y) = r2 M * (e2 x * r2 x) * y := by ring
        _ = _ := by rw [this, mul_one]
  refine ⟨M, r2 M * e2 μ, fun d => r2 μ * T σ c n d, fun k => r2 M * e2 (σ n k), ?_⟩
  refine ⟨EReal.coe_ne_top _, fun e => absurd e (EReal.coe_ne_bot _), hm', fun j => ?_, ha', fun d => ?_, hp', fun d => ?_⟩
  · rw [hl, ← ha, ha', I.l, Finset.sum_congr rfl fun k _ => hp' k, ← coe_sum, ← EReal.coe_mul, ← EReal.coe_add,
      hr _ (fun e => by rw [e, L]; simp), ← Finset.mul_sum, ← mul_add]
    unfold L
    rw [Finset.sum_range_succ]
  · rw [hacc, I.a, I.acc, Finset.sum_congr rfl fun k _ => by rw [I.p k, ← EReal.coe_mul], ← coe_sum, ← EReal.coe_mul, ← EReal.coe_add, I.sum]
  · rw [hr _ (fun e => by rw [e, T]; simp), Nat.add_sub_cancel]
    simp only [mul_assoc]
    rw [← Finset.mul_sum, ← mul_add]
    unfold T
    rw [Finset.sum_range_succ]

/-- The quotient the body ends with. -/
theorem Inv.quot {n : ℕ} {m l a : Fin 128 → EReal} {acc p : Fin 256 → EReal} {M : ℝ} {A : ℝ} {X P : Fin 256 → ℝ}
    (I : Inv σ c n m l a acc p M A X P) (hL : 0 < L σ n) (j j' : Fin 128) (d : Fin 256) :
    Ideal.div (a j * acc d + ∑ k, p k * (c (n - 1) k d : EReal)) (l j') = ((T σ c n d / L σ n : ℝ) : EReal) := by
  rw [I.a, I.acc, Finset.sum_congr rfl fun k _ => by rw [I.p k, ← EReal.coe_mul], ← coe_sum, ← EReal.coe_mul, ← EReal.coe_add, I.sum, I.l,
    div_real _ _ (mul_pos (r2_pos M) hL).ne', mul_div_mul_left _ _ (r2_pos M).ne']
end Row

/-- The softmax computed at once: the weighted sum of the values divided by the sum of the weights. -/
theorem softmax {n : ℕ} (f : Fin n → EReal) (h : ∀ k, f k ≠ ⊤) (k₀ : Fin n) (h₀ : f k₀ ≠ ⊥) (c : Fin n → ℝ) (M : EReal)
    (hM : M = max ⊥ (Finset.univ.fold max ⊥ f)) :
    ∑ k, Ideal.div (Ideal.exp (f k - M)) (0 + ∑ j, Ideal.exp (f j - M)) * (c k : EReal)
      = (((∑ k, ee (f k) * c k) / ∑ k, ee (f k) : ℝ) : EReal) := by
  obtain ⟨M', hM'⟩ := fold_max_real f h k₀ h₀
  rw [hM, hM', max_eq_right bot_le]
  have hpos : 0 < ∑ k, ee (f k) := Finset.sum_pos' (fun k _ => ee_nonneg _) ⟨k₀, Finset.mem_univ _, by
    unfold ee; rw [if_neg h₀]; positivity⟩
  have e : ∀ k, Ideal.exp (f k - (M' : EReal)) = ((Real.exp (-M') * ee (f k) : ℝ) : EReal) := fun k => exp_sub _ (h k) _
  simp only [e]
  rw [← coe_sum, zero_add, ← Finset.mul_sum]
  have hne : Real.exp (-M') * ∑ k, ee (f k) ≠ 0 := (mul_pos (Real.exp_pos _) hpos).ne'
  rw [Finset.sum_congr rfl fun k _ => by rw [div_real _ _ hne, ← EReal.coe_mul], ← coe_sum]
  congr 1
  rw [Finset.sum_div]
  refine Finset.sum_congr rfl fun k _ => ?_
  rw [mul_div_mul_left _ _ (Real.exp_pos _).ne', div_mul_eq_mul_div]

/-- A sum over 2048 keys, of which those after block `q` count nothing, block by block. -/
theorem sum_blocks (g : Fin 2048 → ℝ) (h : ℕ → Fin 256 → ℝ) (q : ℕ) (hq : q < 8)
    (h1 : ∀ (b : ℕ) (hb : b ≤ q) (k : Fin 256), g ⟨b * 256 + k.val, by omega⟩ = h b k)
    (h0 : ∀ (b : ℕ) (hb : b < 8) (_ : q < b) (k : Fin 256), g ⟨b * 256 + k.val, by omega⟩ = 0) :
    ∑ x, g x = ∑ b ∈ Finset.range (q + 1), ∑ k, h b k := by
  rw [Fin.sum_univ_tiles 8 256 rfl g]
  have e : ∀ b : Fin 8, (∑ k : Fin 256, g ⟨b.val * 256 + k.val, by omega⟩) = if b.val ≤ q then ∑ k, h b.val k else 0 := fun b => by
    split
    · next hb => exact Finset.sum_congr rfl fun k _ => h1 b.val hb k
    · next hb => exact Finset.sum_eq_zero fun k _ => h0 b.val b.isLt (by omega) k
  rw [Finset.sum_congr rfl fun b _ => e b, Fin.sum_univ_eq_sum_range (fun b => if b ≤ q then ∑ k, h b k else 0) 8]
  rw [← Finset.sum_subset (s₁ := Finset.range (q + 1)) (fun x hx => Finset.mem_range.2 (by have := Finset.mem_range.1 hx; omega))
    (fun x _ hx => if_neg (by have := Finset.mem_range.not.1 hx; omega))]
  exact Finset.sum_congr rfl fun b hb => if_pos (by have := Finset.mem_range.1 hb; omega)

/-! ## The attention of one query -/

section Attention
variable (q : Fin 256 → ℝ) (qr : Fin 64 → ℝ) (C : Fin 2048 → Fin 256 → ℝ) (R : Fin 2048 → Fin 64 → ℝ)

/-- The score of key `s`. -/
def score (s : Fin 2048) : ℝ := ((∑ x, q x * C s x) + ∑ x, qr x * R s x) * (Real.sqrt 192)⁻¹
/-- The score under the causal mask, the query at position `t`. -/
def masked (t : ℕ) (s : Fin 2048) : EReal := if s.val ≤ t then (score q qr C R s : EReal) else ⊥
/-- The weighted mean of the values. -/
def att (t : ℕ) (d : Fin 256) : ℝ := (∑ s, ee (masked q qr C R t s) * C s d) / ∑ s, ee (masked q qr C R t s)

theorem masked_ne_top (t : ℕ) (s : Fin 2048) : masked q qr C R t s ≠ ⊤ := by
  unfold masked; split
  · exact EReal.coe_ne_top _
  · exact bot_ne_top
theorem masked_zero (t : ℕ) : masked q qr C R t 0 ≠ ⊥ := by
  unfold masked; rw [if_pos (show ((0 : Fin 2048) : ℕ) ≤ t from Nat.zero_le _)]; exact EReal.coe_ne_bot _

/-- Key `k` of block `n`. -/
def key (n : ℕ) (k : Fin 256) : Fin 2048 := ⟨(256 * n + k.val) % 2048, Nat.mod_lt _ (by decide)⟩
/-- The base-two scores of block `n`, block `b` (the last) under the mask of the query `u` of the block. -/
def tile (b u : ℕ) (n : ℕ) (k : Fin 256) : EReal :=
  if n = b ∧ ¬ k.val ≤ u then ⊥ else ((score q qr C R (key n k) * (Real.log 2)⁻¹ : ℝ) : EReal)

theorem ee_tile (b u : ℕ) (hb : b < 8) (hu : u < 256) (n : ℕ) (hn : n ≤ b) (k : Fin 256) :
    ee (masked q qr C R (256 * b + u) ⟨n * 256 + k.val, by omega⟩) = e2 (tile q qr C R b u n k) := by
  have hk : key n k = ⟨n * 256 + k.val, by omega⟩ := Fin.ext (show (256 * n + k.val) % 2048 = n * 256 + k.val by omega)
  unfold masked tile
  by_cases h : n = b ∧ ¬ k.val ≤ u
  · rw [if_pos h, if_neg (show ¬ n * 256 + k.val ≤ 256 * b + u by omega), ee_bot, e2_bot]
  · rw [if_neg h, if_pos (show n * 256 + k.val ≤ 256 * b + u by omega), e2_log, hk]
theorem ee_after (b u : ℕ) (hu : u < 256) (n : ℕ) (hn8 : n < 8) (hn : b < n) (k : Fin 256) :
    ee (masked q qr C R (256 * b + u) ⟨n * 256 + k.val, by omega⟩) = 0 := by
  unfold masked
  rw [if_neg (show ¬ n * 256 + k.val ≤ 256 * b + u by omega), ee_bot]

theorem weights_pos (t : ℕ) : 0 < ∑ s, ee (masked q qr C R t s) :=
  Finset.sum_pos' (fun k _ => ee_nonneg _) ⟨0, Finset.mem_univ _, by
    unfold ee; rw [if_neg (masked_zero q qr C R t)]; positivity⟩

/-- Block by block, the sum of the weights is the whole sum, -/
theorem L_eq (b u : ℕ) (hb : b < 8) (hu : u < 256) :
    L (tile q qr C R b u) (b + 1) = ∑ s, ee (masked q qr C R (256 * b + u) s) := by
  refine (sum_blocks _ (fun n k => e2 (tile q qr C R b u n k)) b hb (fun n hn k => ?_) fun n hn8 hn k => ?_).symm
  · exact ee_tile q qr C R b u hb hu n hn k
  · exact ee_after q qr C R b u hu n hn8 hn k
/-- and the weighted sum of the values likewise. -/
theorem T_eq (b u : ℕ) (hb : b < 8) (hu : u < 256) (d : Fin 256) :
    T (tile q qr C R b u) (fun n k d => C (key n k) d) (b + 1) d = ∑ s, ee (masked q qr C R (256 * b + u) s) * C s d := by
  refine (sum_blocks _ (fun n k => e2 (tile q qr C R b u n k) * C (key n k) d) b hb (fun n hn k => ?_) fun n hn8 hn k => ?_).symm
  · have hk : key n k = ⟨n * 256 + k.val, by omega⟩ := Fin.ext (show (256 * n + k.val) % 2048 = n * 256 + k.val by omega)
    rw [ee_tile q qr C R b u hb hu n hn k, hk]
  · rw [ee_after q qr C R b u hu n hn8 hn k, zero_mul]
end Attention

/-- The whole result at row `i` and column `j`: the attention of the row's query of head `j / 128` over its batch element's keys, times the
    head's value weights. -/
def out (x0 : (⟨2, ![16384, 1024]⟩ : Shape).Idx → EReal) (x1 x2 : (⟨2, ![16384, 256]⟩ : Shape).Idx → EReal) (x3 : (⟨2, ![16384, 64]⟩ : Shape).Idx → EReal)
    (x4 : (⟨3, ![256, 4, 256]⟩ : Shape).Idx → EReal) (i : Fin 16384) (j : Fin 512) : EReal :=
  ∑ k : Fin 256, (att (fun x => (x0 (ix2 i ⟨j.val / 128 * 256 + x.val, by omega⟩)).toReal) (fun x => (x1 (ix2 i ⟨j.val / 128 * 64 + x.val, by omega⟩)).toReal)
      (fun s x => (x2 (ix2 ⟨i.val / 2048 * 2048 + s.val, by omega⟩ x)).toReal) (fun s x => (x3 (ix2 ⟨i.val / 2048 * 2048 + s.val, by omega⟩ x)).toReal) (i.val % 2048) k : EReal)
    * x4 (ix3 k ⟨j.val / 128, by omega⟩ ⟨128 + j.val % 128, by omega⟩)

end Cert.Softmax
end
-- ==== Proof.Pay.lean ====
module

public import proofs.«01_k».proof.Proof.Loop
public import proofs.«01_k».proof.Proof.Body
public import proofs.«01_k».proof.Proof.Math
public import Idealize.ShloMosaic.Lib.Pointwise
public import Idealize.ShloMosaic.Lib.Pipeline.ValueKit

@[expose] public section
set_option maxRecDepth 16384
noncomputable section

/-! The body's values at an index, over the extended reals. -/

namespace Cert.KernelIdeal.Attn
open Cert.KernelIdeal Cert.KernelIdeal.Gen Cert.Softmax
open Idealize.ShloMosaic Idealize.ShloMosaic.TcCoe Idealize.SL.Sem

theorem negInf : Ideal.ofBits .f32 0xFF800000#32 = ⊥ := by simp [Ideal.ofBits, Ideal.ieee]
theorem named_mask : (Named.named (F := Ideal) κ "mask" (φ := .f32) 0xF149F2CA#32 : Ideal .f32) = (⊥ : EReal) :=
  IdealRules.named_const.ideal_named_scalar _ _ _ _ rfl
theorem named_scale : (Named.named (F := Ideal) κ "scale2" (φ := .f32) 0x3DD53B95#32 : Ideal .f32) = (((Real.sqrt 192)⁻¹ * (Real.log 2)⁻¹ : ℝ) : EReal) :=
  IdealRules.named_const.ideal_named_scalar _ _ _ _ rfl

/-- The lane of the lane-replicated columns that a column of a block reads. -/
def lane (k : Fin 256) : Fin 128 := ⟨k.val % 128, Nat.mod_lt _ (by decide)⟩

theorem ite_lane (f : Fin 128 → EReal) (k : Fin 256) :
    (if h : k.val < 128 then f ⟨k.val, h⟩ else f ⟨k.val - 128, by omega⟩) = f (lane k) := by
  split
  · next h => exact congrArg f (Fin.ext (Nat.mod_eq_of_lt h).symm)
  · next h => exact congrArg f (Fin.ext (show k.val - 128 = k.val % 128 by omega))

/-- The scores of a block. -/
theorem pay2_at (v4 : FVec Ideal S1024x256 .bf16) (v9 : FVec Ideal S1024x64 .bf16) (a : FVec Ideal S256x256 .bf16) (b : FVec Ideal S256x64 .bf16) (r : Fin 1024) (k : Fin 256) :
    k0_pay2 (F := Ideal) v4 v9 a b (ix3 0 r k)
      = ((∑ x : Fin 256, v4 (ix2 r x) * a (ix2 k x)) + ∑ x : Fin 64, v9 (ix2 r x) * b (ix2 k x))
        * (((Real.sqrt 192)⁻¹ * (Real.log 2)⁻¹ : ℝ) : EReal) := by
  rw [← named_scale]
  pointwise [k0_pay2]

section Step
variable (sc : FVec Ideal S1x1024x256 .f32) (m l a : FVec Ideal S1024x128 .f32) (acc : FVec Ideal S1024x256 .f32)
  (p : FVec Ideal S1x1024x256 .bf16) (kp : FVec Ideal S256x256 .bf16) (r : Fin 1024) (j : Fin 128) (k : Fin 256)

theorem pay6_at : k0_pay6 (F := Ideal) sc m (ix2 r j) = max (m (ix2 r j)) (Finset.univ.fold max ⊥ fun x => sc (ix3 0 r x)) := by
  rw [← negInf]
  pointwise [k0_pay6, k0_pay5]
theorem pay10_at : k0_pay10 (F := Ideal) sc m (ix2 r j) = k0_pay6 (F := Ideal) sc m (ix2 r j) := by
  pointwise [k0_pay10]
theorem pay8_at : k0_pay8 (F := Ideal) sc m (ix2 r k) = Ideal.exp2 (sc (ix3 0 r k) - k0_pay6 (F := Ideal) sc m (ix2 r (lane k))) := by
  rw [← ite_lane (fun j => k0_pay6 (F := Ideal) sc m (ix2 r j))]
  pointwise [k0_pay8, k0_pay5]
  rfl
theorem pay12_at : k0_pay12 (F := Ideal) sc m (ix3 0 r k) = k0_pay8 (F := Ideal) sc m (ix2 r k) := by
  pointwise [k0_pay12]
theorem pay7_at : k0_pay7 (F := Ideal) sc m (ix2 r j) = Ideal.exp2 (m (ix2 r j) - k0_pay6 (F := Ideal) sc m (ix2 r j)) := by
  pointwise [k0_pay7]
  rfl
theorem pay11_at : k0_pay11 (F := Ideal) sc m (ix2 r j) = k0_pay7 (F := Ideal) sc m (ix2 r j) := by
  pointwise [k0_pay11]
theorem pay9_at : k0_pay9 (F := Ideal) sc m l (ix2 r j)
    = k0_pay7 (F := Ideal) sc m (ix2 r j) * l (ix2 r j) + ∑ x : Fin 256, k0_pay8 (F := Ideal) sc m (ix2 r x) := by
  pointwise [k0_pay9]
theorem pay4_at : k0_pay4 (k0_pay3 (F := Ideal) a acc p kp) (ix2 r k)
    = a (ix2 r (lane k)) * acc (ix2 r k) + ∑ x : Fin 256, p (ix3 0 r x) * kp (ix2 x k) := by
  rw [← ite_lane (fun j => a (ix2 r j))]
  pointwise [k0_pay4, k0_pay3]

/-! The last block, whose scores are masked. -/

theorem pay51_at : k0_pay51 (F := Ideal) sc (ix2 r k) = if k.val ≤ r.val % 256 then sc (ix3 0 r k) else ⊥ := by
  rw [← named_mask]
  pointwise [k0_pay51]
  have h : IntOp.cmpi .sle (BitVec.ofNat 32 k.val) (IntOp.andi (BitVec.ofNat 32 r.val) 255#32) = if k.val ≤ r.val % 256 then 1#1 else 0#1 := by
    rw [show IntOp.andi (BitVec.ofNat 32 r.val) 255#32 = BitVec.ofNat 32 (r.val % 256) from
      (by decide +kernel : ∀ r : Fin 1024, IntOp.andi (BitVec.ofNat 32 r.val) 255#32 = BitVec.ofNat 32 (r.val % 256)) r]
    have hb : r.val % 256 < 256 := Nat.mod_lt _ (by decide)
    generalize r.val % 256 = b at hb
    word_cmp
    by_cases hk : k.val ≤ b <;> simp [hk]
  rw [h]
  split <;> rfl
theorem pay52_at : k0_pay52 (F := Ideal) sc m (ix2 r j) = max (m (ix2 r j)) (Finset.univ.fold max ⊥ fun x => k0_pay51 (F := Ideal) sc (ix2 r x)) := by
  rw [← negInf]
  pointwise [k0_pay52]
theorem pay53_at : k0_pay53 (F := Ideal) sc m (ix2 r j) = Ideal.exp2 (m (ix2 r j) - k0_pay52 (F := Ideal) sc m (ix2 r j)) := by
  pointwise [k0_pay53]
  rfl
theorem pay54_at : k0_pay54 (F := Ideal) sc m (ix2 r k) = Ideal.exp2 (k0_pay51 (F := Ideal) sc (ix2 r k) - k0_pay52 (F := Ideal) sc m (ix2 r (lane k))) := by
  rw [← ite_lane (fun j => k0_pay52 (F := Ideal) sc m (ix2 r j))]
  pointwise [k0_pay54]
  rfl
theorem finAcc_at (s : St Ideal) (kd : FVec Ideal S256x256 .bf16) : finAcc (F := Ideal) s sc kp kd (ix2 r k)
    = k0_pay53 (F := Ideal) sc s.m (ix2 r (lane k)) * (s.a (ix2 r (lane k)) * s.acc (ix2 r k) + ∑ x : Fin 256, s.p (ix3 0 r x) * kp (ix2 x k))
      + ∑ x : Fin 256, k0_pay54 (F := Ideal) sc s.m (ix2 r x) * kd (ix2 x k) := by
  rw [← ite_lane (fun j => s.a (ix2 r j)), ← ite_lane (fun j => k0_pay53 (F := Ideal) sc s.m (ix2 r j))]
  pointwise [finAcc, k0_pay86, k0_pay59, k0_pay57, k0_pay58, k0_pay50]
theorem finL_at (s : St Ideal) : finL (F := Ideal) s sc (ix2 r j)
    = k0_pay53 (F := Ideal) sc s.m (ix2 r j) * s.l (ix2 r j) + ∑ x : Fin 256, k0_pay54 (F := Ideal) sc s.m (ix2 r x) := by
  pointwise [finL, k0_pay55]
theorem pay87_at : k0_pay87 (F := Ideal) acc l (ix2 r k) = Ideal.div (acc (ix2 r k)) (l (ix2 r (lane k))) := by
  rw [← ite_lane (fun j => l (ix2 r j))]
  pointwise [k0_pay87]
end Step

theorem pay88_at (acc : FVec Ideal S1024x256 .f32) (l : FVec Ideal S1024x128 .f32) (w : FVec Ideal S1x256x128 .bf16) (r : Fin 256) (k : Fin 128) :
    k0_pay88 (F := Ideal) acc l w (ix2 r k) = ∑ x : Fin 256, k0_pay87 (F := Ideal) acc l (ix2 ⟨r.val, by omega⟩ x) * w (ix3 0 x k) := by
  pointwise [k0_pay88]
theorem pay89_at (acc : FVec Ideal S1024x256 .f32) (l : FVec Ideal S1024x128 .f32) (w : FVec Ideal S1x256x128 .bf16) (r : Fin 256) (k : Fin 128) :
    k0_pay89 (F := Ideal) acc l w (ix2 r k) = ∑ x : Fin 256, k0_pay87 (F := Ideal) acc l (ix2 ⟨256 + r.val, by omega⟩ x) * w (ix3 0 x k) := by
  pointwise [k0_pay89]
theorem pay90_at (acc : FVec Ideal S1024x256 .f32) (l : FVec Ideal S1024x128 .f32) (w : FVec Ideal S1x256x128 .bf16) (r : Fin 256) (k : Fin 128) :
    k0_pay90 (F := Ideal) acc l w (ix2 r k) = ∑ x : Fin 256, k0_pay87 (F := Ideal) acc l (ix2 ⟨512 + r.val, by omega⟩ x) * w (ix3 0 x k) := by
  pointwise [k0_pay90]
theorem pay91_at (acc : FVec Ideal S1024x256 .f32) (l : FVec Ideal S1024x128 .f32) (w : FVec Ideal S1x256x128 .bf16) (r : Fin 256) (k : Fin 128) :
    k0_pay1 (k0_pay91 (F := Ideal) acc l w) (ix2 r k) = ∑ x : Fin 256, k0_pay87 (F := Ideal) acc l (ix2 ⟨768 + r.val, by omega⟩ x) * w (ix3 0 x k) := by
  pointwise [k0_pay1, k0_pay91]
theorem pay62_at (i) : k0_pay62 (F := Ideal) i = (⊥ : EReal) := named_mask
theorem pay63_at (i) : k0_pay63 (F := Ideal) i = (0 : EReal) := by pointwise [k0_pay63]
theorem pay64_at (i) : k0_pay64 (F := Ideal) i = (0 : EReal) := by pointwise [k0_pay64]
theorem pay65_at (i) : k0_pay65 (F := Ideal) i = (0 : EReal) := by pointwise [k0_pay65]
theorem pay66_at (i) : k0_pay66 (F := Ideal) i = (0 : EReal) := by pointwise [k0_pay66]

/-! The queries, head by head. -/

theorem vq_at (x : Vec Ideal S256x1024 .bf16) (h : Fin 4) (t : Fin 256) (k : Fin 256) :
    vq (F := Ideal) x (ix2 ⟨h.val * 256 + t.val, by omega⟩ k) = x (ix2 t ⟨h.val * 256 + k.val, by omega⟩) := by
  fin_vals h with hk
  all_goals pointwise [vq, k0_pay60, hk]
  · rw [dif_neg (by omega), dif_neg (by omega), dif_pos (by omega)]
    exact congrArg₂ (fun a b => x (ix2 a b)) (Fin.ext (by dsimp only; omega)) rfl
  · rw [dif_neg (by omega), dif_neg (by omega), dif_neg (by omega)]
    exact congrArg₂ (fun a b => x (ix2 a b)) (Fin.ext (by dsimp only; omega)) rfl
theorem vr_at (x : Vec Ideal S256x256 .bf16) (h : Fin 4) (t : Fin 256) (k : Fin 64) :
    vr (F := Ideal) x (ix2 ⟨h.val * 256 + t.val, by omega⟩ k) = x (ix2 t ⟨h.val * 64 + k.val, by omega⟩) := by
  fin_vals h with hk
  all_goals pointwise [vr, k0_pay61, hk]
  · rw [dif_neg (by omega), dif_neg (by omega), dif_pos (by omega)]
    exact congrArg₂ (fun a b => x (ix2 a b)) (Fin.ext (by dsimp only; omega)) rfl
  · rw [dif_neg (by omega), dif_neg (by omega), dif_neg (by omega)]
    exact congrArg₂ (fun a b => x (ix2 a b)) (Fin.ext (by dsimp only; omega)) rfl
end Cert.KernelIdeal.Attn
end
-- ==== Proof.KVal.lean ====
module

public import proofs.«01_k».proof.Proof.Pay

@[expose] public section
set_option maxRecDepth 16384
noncomputable section

/-! The state of the online softmax over the extended reals, and the quotient the body ends with. -/

namespace Cert.KernelIdeal.Attn
open Cert.KernelIdeal Cert.KernelIdeal.Gen Cert.Softmax
open Idealize.ShloMosaic Idealize.ShloMosaic.TcCoe Idealize.SL.Sem

section
variable (v4 : FVec Ideal S1024x256 .bf16) (v9 : FVec Ideal S1024x64 .bf16) (KC : FVec Ideal S2048x256 .bf16) (KR : FVec Ideal S2048x64 .bf16)
  (r : Fin 1024) (q : Fin 256 → ℝ) (qr : Fin 64 → ℝ) (C : Fin 2048 → Fin 256 → ℝ) (R : Fin 2048 → Fin 64 → ℝ)
  (hq : ∀ x, v4 (ix2 r x) = (q x : EReal)) (hqr : ∀ x, v9 (ix2 r x) = (qr x : EReal))
  (hC : ∀ s x, KC (ix2 s x) = (C s x : EReal)) (hR : ∀ s x, KR (ix2 s x) = (R s x : EReal))

theorem kblk_at (n : ℕ) (k d : Fin 256) : kblk (F := Ideal) KC n (ix2 k d) = KC (ix2 (key n k) d) := rfl
theorem rblk_at (n : ℕ) (k : Fin 256) (d : Fin 64) : rblk (F := Ideal) KR n (ix2 k d) = KR (ix2 (key n k) d) := rfl

include hq hqr hC hR in
/-- The scores of a block, real. -/
theorem Sc_at (n : ℕ) (k : Fin 256) :
    Sc (F := Ideal) v4 v9 KC KR n (ix3 0 r k) = ((score q qr C R (key n k) * (Real.log 2)⁻¹ : ℝ) : EReal) := by
  unfold Sc
  rw [pay2_at]
  simp only [kblk_at, rblk_at, hq, hqr, hC, hR, ← EReal.coe_mul, ← coe_sum, ← EReal.coe_add]
  rw [score, mul_assoc]

include hq hqr hC hR in
/-- The state after `n` blocks, none of them beyond block `b`. -/
theorem S_inv (b u : ℕ) : ∀ n, n ≤ b → ∃ μ A X P, Inv (tile q qr C R b u) (fun n k d => C (key n k) d) n
      (fun j => (S (F := Ideal) v4 v9 KC KR n).m (ix2 r j)) (fun j => (S (F := Ideal) v4 v9 KC KR n).l (ix2 r j))
      (fun j => (S (F := Ideal) v4 v9 KC KR n).a (ix2 r j)) (fun d => (S (F := Ideal) v4 v9 KC KR n).acc (ix2 r d))
      (fun k => (S (F := Ideal) v4 v9 KC KR n).p (ix3 0 r k)) μ A X P := by
  intro n
  induction n with
  | zero =>
    intro _
    exact ⟨_, _, _, _, Inv.zero _ _ _ _ _ _ _ (fun j => pay62_at (ix2 r j)) (fun j => pay63_at (ix2 r j))
      (fun j => pay64_at (ix2 r j)) (fun d => pay65_at (ix2 r d)) fun k => pay66_at (ix3 0 r k)⟩
  | succ n ih =>
    intro hn
    obtain ⟨μ, A, X, P, I⟩ := ih (by omega)
    have hs : ∀ k, Sc (F := Ideal) v4 v9 KC KR n (ix3 0 r k) = tile q qr C R b u n k := fun k => by
      rw [Sc_at v4 v9 KC KR r q qr C R hq hqr hC hR, tile, if_neg (by omega)]
    have h := I.step _ _ (fun k => Sc (F := Ideal) v4 v9 KC KR n (ix3 0 r k)) hs
      (fun k => by rw [Sc_at v4 v9 KC KR r q qr C R hq hqr hC hR]; exact EReal.coe_ne_top _) 0
      (by rw [Sc_at v4 v9 KC KR r q qr C R hq hqr hC hR]; exact EReal.coe_ne_bot _)
      (fun j => (S (F := Ideal) v4 v9 KC KR (n + 1)).m (ix2 r j)) (fun j => (S (F := Ideal) v4 v9 KC KR (n + 1)).l (ix2 r j))
      (fun j => (S (F := Ideal) v4 v9 KC KR (n + 1)).a (ix2 r j)) (fun d => (S (F := Ideal) v4 v9 KC KR (n + 1)).acc (ix2 r d))
      (fun k => (S (F := Ideal) v4 v9 KC KR (n + 1)).p (ix3 0 r k)) lane
      (fun j => (pay10_at _ _ _ _).trans (pay6_at _ _ _ _))
      (fun k => ((pay12_at _ _ _ _).trans (pay8_at _ _ _ _)).trans (congrArg (fun z : EReal => Ideal.exp2 (_ - z)) (pay10_at _ _ _ _).symm))
      (fun j => ((pay9_at _ _ _ _ _).trans (by
        rw [pay7_at, ← pay10_at]
        exact congrArg₂ (· + ·) rfl (Finset.sum_congr rfl fun k _ => (pay12_at _ _ _ _).symm))))
      (fun j => ((pay11_at _ _ _ _).trans (pay7_at _ _ _ _)).trans (congrArg (fun z : EReal => Ideal.exp2 (_ - z)) (pay10_at _ _ _ _).symm))
      (fun d => (pay4_at _ _ _ _ _ _).trans (congrArg₂ (· + ·) rfl (Finset.sum_congr rfl fun k _ => by
        rw [kblk_at, hC])))
    obtain ⟨M, A', X', P', h⟩ := h
    exact ⟨_, _, _, _, h⟩

include hq hqr hC hR in
/-- What the body ends with: the attention of the row's query. -/
theorem quot_at (b u : ℕ) (hb : b < 8) (hu : u = r.val % 256) (d : Fin 256) :
    k0_pay87 (F := Ideal)
      (finAcc (S (F := Ideal) v4 v9 KC KR b) (Sc (F := Ideal) v4 v9 KC KR b) (kblk (F := Ideal) KC (b - 1)) (kblk (F := Ideal) KC b))
      (finL (S (F := Ideal) v4 v9 KC KR b) (Sc (F := Ideal) v4 v9 KC KR b)) (ix2 r d)
      = (att q qr C R (256 * b + u) d : EReal) := by
  obtain ⟨μ, A, X, P, I⟩ := S_inv v4 v9 KC KR r q qr C R hq hqr hC hR b u b le_rfl
  have hu' : u < 256 := hu ▸ Nat.mod_lt _ (by decide)
  have hs : ∀ k, k0_pay51 (F := Ideal) (Sc (F := Ideal) v4 v9 KC KR b) (ix2 r k) = tile q qr C R b u b k := fun k => by
    rw [pay51_at, Sc_at v4 v9 KC KR r q qr C R hq hqr hC hR, tile, ← hu]
    by_cases h : k.val ≤ u
    · rw [if_pos h, if_neg (fun hh => hh.2 h)]
    · rw [if_neg h, if_pos ⟨rfl, h⟩]
  obtain ⟨M, A', X', P', J⟩ := I.step _ _ (fun k => k0_pay51 (F := Ideal) (Sc (F := Ideal) v4 v9 KC KR b) (ix2 r k)) hs
    (fun k => by
      rw [hs, tile]; split
      · exact bot_ne_top
      · exact EReal.coe_ne_top _) 0
    (by
      rw [hs, tile, if_neg (fun hh => hh.2 (Nat.zero_le _))]
      exact EReal.coe_ne_bot _)
    (fun j => k0_pay52 (F := Ideal) (Sc (F := Ideal) v4 v9 KC KR b) (S (F := Ideal) v4 v9 KC KR b).m (ix2 r j))
    (fun j => finL (F := Ideal) (S (F := Ideal) v4 v9 KC KR b) (Sc (F := Ideal) v4 v9 KC KR b) (ix2 r j))
    (fun j => k0_pay53 (F := Ideal) (Sc (F := Ideal) v4 v9 KC KR b) (S (F := Ideal) v4 v9 KC KR b).m (ix2 r j))
    (fun d => (S (F := Ideal) v4 v9 KC KR b).a (ix2 r (lane d)) * (S (F := Ideal) v4 v9 KC KR b).acc (ix2 r d)
      + ∑ x : Fin 256, (S (F := Ideal) v4 v9 KC KR b).p (ix3 0 r x) * kblk (F := Ideal) KC (b - 1) (ix2 x d))
    (fun k => k0_pay54 (F := Ideal) (Sc (F := Ideal) v4 v9 KC KR b) (S (F := Ideal) v4 v9 KC KR b).m (ix2 r k)) lane
    (fun j => pay52_at _ _ _ _) (fun k => pay54_at _ _ _ _)
    (fun j => (finL_at _ _ _ _).trans (by rw [pay53_at]))
    (fun j => pay53_at _ _ _ _)
    (fun d => congrArg₂ (· + ·) rfl (Finset.sum_congr rfl fun k _ => by rw [kblk_at, hC]))
  rw [pay87_at, finAcc_at]
  have h := J.quot _ _ (by rw [L_eq q qr C R b u hb hu']; exact weights_pos q qr C R _) (lane d) (lane d) d
  rw [L_eq q qr C R b u hb hu', T_eq q qr C R b u hb hu'] at h
  refine Eq.trans ?_ h
  refine congrArg₂ Ideal.div (congrArg₂ (· + ·) rfl (Finset.sum_congr rfl fun k _ => ?_)) rfl
  rw [kblk_at, hC]
  rfl
end

end Cert.KernelIdeal.Attn
end
-- ==== Proof.KOut.lean ====
module

public import proofs.«01_k».proof.Proof.KVal

@[expose] public section
set_option maxRecDepth 16384
noncomputable section

/-! The output block at an index, over the extended reals. -/

namespace Cert.KernelIdeal.Attn
open Cert.KernelIdeal Cert.KernelIdeal.Gen Cert.Softmax
open Idealize.ShloMosaic Idealize.ShloMosaic.TcCoe Idealize.SL.Sem

variable (b : ℕ) (hb : b < 8) (x0 : FVec Ideal S256x1024 .bf16) (x1 : FVec Ideal S256x256 .bf16) (x2 : FVec Ideal S2048x256 .bf16) (x3 : FVec Ideal S2048x64 .bf16)
  (x4 : FVec Ideal S4x256x128 .bf16)
  (h0 : ∀ i, x0 i = ((x0 i).toReal : EReal)) (h1 : ∀ i, x1 i = ((x1 i).toReal : EReal)) (h2 : ∀ i, x2 i = ((x2 i).toReal : EReal))
  (h3 : ∀ i, x3 i = ((x3 i).toReal : EReal))

/-- The attention of query `t` of the block, head `g`. -/
def headAtt (g : Fin 4) (t : Fin 256) (d : Fin 256) : ℝ :=
  att (fun x => (x0 (ix2 t ⟨g.val * 256 + x.val, by omega⟩)).toReal) (fun x => (x1 (ix2 t ⟨g.val * 64 + x.val, by omega⟩)).toReal)
    (fun s x => (x2 (ix2 s x)).toReal) (fun s x => (x3 (ix2 s x)).toReal) (256 * b + t.val) d

include hb h0 h1 h2 h3 in
/-- The quotient at row `256 g + t` is that attention. -/
theorem head_at (g : Fin 4) (t : Fin 256) (d : Fin 256) (r : Fin 1024) (hr : r.val = g.val * 256 + t.val) :
    k0_pay87 (F := Ideal)
      (finAcc (S (F := Ideal) (vq (F := Ideal) x0) (vr (F := Ideal) x1) x2 x3 b) (Sc (F := Ideal) (vq (F := Ideal) x0) (vr (F := Ideal) x1) x2 x3 b)
        (kblk (F := Ideal) x2 (b - 1)) (kblk (F := Ideal) x2 b))
      (finL (S (F := Ideal) (vq (F := Ideal) x0) (vr (F := Ideal) x1) x2 x3 b) (Sc (F := Ideal) (vq (F := Ideal) x0) (vr (F := Ideal) x1) x2 x3 b)) (ix2 r d)
      = (headAtt b x0 x1 x2 x3 g t d : EReal) := by
  have e : r = ⟨g.val * 256 + t.val, by omega⟩ := Fin.ext hr
  refine quot_at _ _ x2 x3 r _ _ _ _ (fun x => ?_) (fun x => ?_) (fun s x => h2 _) (fun s x => h3 _) b t.val hb (by omega) d
  · rw [e, vq_at]; exact h0 _
  · rw [e, vr_at]; exact h1 _

include hb h0 h1 h2 h3 in
/-- The output block. -/
theorem outv_at (t : Fin 256) (j : Fin 512) : outv (F := Ideal) b x0 x1 x2 x3 x4 (ix2 t j)
    = ∑ k : Fin 256, (headAtt b x0 x1 x2 x3 ⟨j.val / 128, by omega⟩ t k : EReal) * x4 (ix3 ⟨j.val / 128, by omega⟩ k ⟨j.val % 128, by omega⟩) := by
  have H := head_at b hb x0 x1 x2 x3 h0 h1 h2 h3
  clear h0 h1 h2 h3
  unfold outv
  dsimp only
  generalize finAcc (F := Ideal) (S (F := Ideal) (vq (F := Ideal) x0) (vr (F := Ideal) x1) x2 x3 b) (Sc (F := Ideal) (vq (F := Ideal) x0) (vr (F := Ideal) x1) x2 x3 b)
        (kblk (F := Ideal) x2 (b - 1)) (kblk (F := Ideal) x2 b) = acc at H ⊢
  generalize finL (F := Ideal) (S (F := Ideal) (vq (F := Ideal) x0) (vr (F := Ideal) x1) x2 x3 b)
        (Sc (F := Ideal) (vq (F := Ideal) x0) (vr (F := Ideal) x1) x2 x3 b) = l at H ⊢
  canon_tiles x g
  · obtain ⟨a, c, rfl⟩ : ∃ (a : Fin 256) (c : Fin 128), x = ix2 a c := ⟨x 0, x 1, (ix2_eta x).symm⟩
    obtain rfl : t = a := Fin.ext g0
    have ej : j.val = 384 + c.val := g1
    have q : (⟨j.val / 128, by omega⟩ : Fin 4) = 3 := Fin.ext (by show j.val / 128 = 3; omega)
    have q' : (⟨j.val % 128, by omega⟩ : Fin 128) = c := Fin.ext (by show j.val % 128 = c.val; omega)
    rw [pay91_at, q, q']
    refine Finset.sum_congr rfl fun k _ => ?_
    rw [H 3 t k _ (by show 768 + t.val = 3 * 256 + t.val; omega)]
    pointwise []
  · obtain ⟨a, c, rfl⟩ : ∃ (a : Fin 256) (c : Fin 128), x = ix2 a c := ⟨x 0, x 1, (ix2_eta x).symm⟩
    obtain rfl : t = a := Fin.ext g0
    have ej : j.val = 256 + c.val := g1
    have q : (⟨j.val / 128, by omega⟩ : Fin 4) = 2 := Fin.ext (by show j.val / 128 = 2; omega)
    have q' : (⟨j.val % 128, by omega⟩ : Fin 128) = c := Fin.ext (by show j.val % 128 = c.val; omega)
    rw [pay90_at, q, q']
    refine Finset.sum_congr rfl fun k _ => ?_
    rw [H 2 t k _ (by show 512 + t.val = 2 * 256 + t.val; omega)]
    pointwise []
  · obtain ⟨a, c, rfl⟩ : ∃ (a : Fin 256) (c : Fin 128), x = ix2 a c := ⟨x 0, x 1, (ix2_eta x).symm⟩
    obtain rfl : t = a := Fin.ext g0
    have ej : j.val = 128 + c.val := g1
    have q : (⟨j.val / 128, by omega⟩ : Fin 4) = 1 := Fin.ext (by show j.val / 128 = 1; omega)
    have q' : (⟨j.val % 128, by omega⟩ : Fin 128) = c := Fin.ext (by show j.val % 128 = c.val; omega)
    rw [pay89_at, q, q']
    refine Finset.sum_congr rfl fun k _ => ?_
    rw [H 1 t k _ (by show 256 + t.val = 1 * 256 + t.val; omega)]
    pointwise []
  · obtain ⟨a, c, rfl⟩ : ∃ (a : Fin 256) (c : Fin 128), x = ix2 a c := ⟨x 0, x 1, (ix2_eta x).symm⟩
    obtain rfl : t = a := Fin.ext g0
    have ej : j.val = 0 + c.val := by rw [Nat.zero_add]; exact g1
    have q : (⟨j.val / 128, by omega⟩ : Fin 4) = 0 := Fin.ext (by show j.val / 128 = 0; omega)
    have q' : (⟨j.val % 128, by omega⟩ : Fin 128) = c := Fin.ext (by show j.val % 128 = c.val; omega)
    rw [pay88_at, q, q']
    refine Finset.sum_congr rfl fun k _ => ?_
    rw [H 0 t k _ (by show t.val = 0 * 256 + t.val; omega)]
    pointwise []

end Cert.KernelIdeal.Attn
end
-- ==== Proof.Value.lean ====
module

public import proofs.«01_k».proof.Proof.KOut
public import proofs.«01_k».proof.Proof.Run
public import Idealize.ShloMosaic.Lib.ValueIdx

@[expose] public section
set_option maxRecDepth 16384
noncomputable section

/-! The result array after the run is the softmax attention. -/

namespace Cert.KernelIdeal.Attn
open Cert.KernelIdeal Cert.KernelIdeal.Gen Cert.Softmax
open Idealize.ShloMosaic Idealize.ShloMosaic.TcCoe Idealize.ShloMosaic.Tactic
open Idealize.SL Idealize.SL.Sem

variable (m : (ℓ : Loc nD τ sig) → Buf (Elt Ideal) ℓ) (ρ : Dev nD → PrngReg)

/-- Where the windows' blocks lie. -/
theorem idx : ∀ t : Fin cfg0.N, win0_0.index t = ![t.val, 0] ∧ win0_1.index t = ![t.val, 0] ∧ win0_2.index t = ![t.val / 8, 0]
    ∧ win0_3.index t = ![t.val / 8, 0] ∧ win0_4.index t = ![0, 0, 0] ∧ win0_5.index t = ![t.val, 0] ∧ (grid0.coords t 1).val = t.val % 8
    ∧ t.val < 64 := (by decide +kernel : ∀ t : Fin grid0.N, _)

/-- The queries' block. -/
theorem blk0 (c : Dev nD) (t : Fin cfg0.N) (a : Fin 256) (k : Fin 1024) (i : Fin 16384) (hi : i.val = t.val * 256 + a.val) :
    (show FVec Ideal S256x1024 .bf16 from iblk m c 0 t) (ix2 a k) = (show FVec Ideal S16384x1024 .bf16 from m ((c : Thread nD τ).loc main_arg0)) (ix2 i k) := by
  blk_ext [iblk, V, idx t]

/-- The rotary queries' block. -/
theorem blk1 (c : Dev nD) (t : Fin cfg0.N) (a : Fin 256) (k : Fin 256) (i : Fin 16384) (hi : i.val = t.val * 256 + a.val) :
    (show FVec Ideal S256x256 .bf16 from iblk m c 1 t) (ix2 a k) = (show FVec Ideal S16384x256 .bf16 from m ((c : Thread nD τ).loc main_arg1)) (ix2 i k) := by
  blk_ext [iblk, V, idx t]

/-- The latent keys' block. -/
theorem blk2 (c : Dev nD) (t : Fin cfg0.N) (a : Fin 2048) (k : Fin 256) (i : Fin 16384) (hi : i.val = t.val / 8 * 2048 + a.val) :
    (show FVec Ideal S2048x256 .bf16 from iblk m c 2 t) (ix2 a k) = (show FVec Ideal S16384x256 .bf16 from m ((c : Thread nD τ).loc main_arg2)) (ix2 i k) := by
  blk_ext [iblk, V, idx t]

/-- The rotary keys' block. -/
theorem blk3 (c : Dev nD) (t : Fin cfg0.N) (a : Fin 2048) (k : Fin 64) (i : Fin 16384) (hi : i.val = t.val / 8 * 2048 + a.val) :
    (show FVec Ideal S2048x64 .bf16 from iblk m c 3 t) (ix2 a k) = (show FVec Ideal S16384x64 .bf16 from m ((c : Thread nD τ).loc main_arg3)) (ix2 i k) := by
  blk_ext [iblk, V, idx t]

/-- The value weights' block. -/
theorem blk4 (c : Dev nD) (t : Fin cfg0.N) (h : Fin 4) (x : Fin 256) (k : Fin 128) :
    (show FVec Ideal S4x256x128 .bf16 from iblk m c 4 t) (ix3 h x k)
      = (show FVec Ideal S256x4x256 .f32 from m ((c : Thread nD τ).loc main_arg4)) (ix3 x h ⟨128 + k.val, by omega⟩) := by
  blk_simp [iblk, idx t]
  entry_read
  pointwise []
  blk_ext [V, idx t]

/-- The arguments' contents, at the shapes the mathematics is written over. -/
abbrev A0 (c : Dev nD) : FVec Ideal S16384x1024 .bf16 := m ((c : Thread nD τ).loc main_arg0)
abbrev A1 (c : Dev nD) : FVec Ideal S16384x256 .bf16 := m ((c : Thread nD τ).loc main_arg1)
abbrev A2 (c : Dev nD) : FVec Ideal S16384x256 .bf16 := m ((c : Thread nD τ).loc main_arg2)
abbrev A3 (c : Dev nD) : FVec Ideal S16384x64 .bf16 := m ((c : Thread nD τ).loc main_arg3)
abbrev A4 (c : Dev nD) : FVec Ideal S256x4x256 .f32 := m ((c : Thread nD τ).loc main_arg4)

variable (h0 : ∀ (c : Dev nD) i, A0 m c i = ((A0 m c i).toReal : EReal)) (h1 : ∀ (c : Dev nD) i, A1 m c i = ((A1 m c i).toReal : EReal))
  (h2 : ∀ (c : Dev nD) i, A2 m c i = ((A2 m c i).toReal : EReal)) (h3 : ∀ (c : Dev nD) i, A3 m c i = ((A3 m c i).toReal : EReal))

/-- The output block of row block `T` over blocks read from arrays is the attention over the arrays. -/
theorem point_of (T : ℕ) (ht : T < 64) (X0 : FVec Ideal S256x1024 .bf16) (X1 : FVec Ideal S256x256 .bf16) (X2 : FVec Ideal S2048x256 .bf16)
    (X3 : FVec Ideal S2048x64 .bf16) (X4 : FVec Ideal S4x256x128 .bf16) (Y0 : FVec Ideal S16384x1024 .bf16) (Y1 Y2 : FVec Ideal S16384x256 .bf16)
    (Y3 : FVec Ideal S16384x64 .bf16) (Y4 : FVec Ideal S256x4x256 .f32)
    (e0 : ∀ (a : Fin 256) (k : Fin 1024), X0 (ix2 a k) = Y0 (ix2 ⟨T * 256 + a.val, by omega⟩ k))
    (e1 : ∀ (a : Fin 256) (k : Fin 256), X1 (ix2 a k) = Y1 (ix2 ⟨T * 256 + a.val, by omega⟩ k))
    (e2 : ∀ (a : Fin 2048) (k : Fin 256), X2 (ix2 a k) = Y2 (ix2 ⟨T / 8 * 2048 + a.val, by omega⟩ k))
    (e3 : ∀ (a : Fin 2048) (k : Fin 64), X3 (ix2 a k) = Y3 (ix2 ⟨T / 8 * 2048 + a.val, by omega⟩ k))
    (e4 : ∀ (h : Fin 4) (x : Fin 256) (k : Fin 128), X4 (ix3 h x k) = Y4 (ix3 x h ⟨128 + k.val, by omega⟩))
    (h0 : ∀ i, Y0 i = ((Y0 i).toReal : EReal)) (h1 : ∀ i, Y1 i = ((Y1 i).toReal : EReal)) (h2 : ∀ i, Y2 i = ((Y2 i).toReal : EReal))
    (h3 : ∀ i, Y3 i = ((Y3 i).toReal : EReal)) (a : Fin 256) (j : Fin 512) :
    outv (F := Ideal) (T % 8) X0 X1 X2 X3 X4 (ix2 a j) = out Y0 Y1 Y2 Y3 Y4 ⟨T * 256 + a.val, by omega⟩ j := by
  refine (outv_at (T % 8) (by omega) X0 X1 X2 X3 X4 (fun x => ?_) (fun x => ?_) (fun x => ?_) (fun x => ?_) a j).trans ?_
  · obtain ⟨p, q, rfl⟩ : ∃ (p : Fin 256) (q : Fin 1024), x = ix2 p q := ⟨x 0, x 1, (ix2_eta x).symm⟩
    rw [e0]; exact h0 _
  · obtain ⟨p, q, rfl⟩ : ∃ (p : Fin 256) (q : Fin 256), x = ix2 p q := ⟨x 0, x 1, (ix2_eta x).symm⟩
    rw [e1]; exact h1 _
  · obtain ⟨p, q, rfl⟩ : ∃ (p : Fin 2048) (q : Fin 256), x = ix2 p q := ⟨x 0, x 1, (ix2_eta x).symm⟩
    rw [e2]; exact h2 _
  · obtain ⟨p, q, rfl⟩ : ∃ (p : Fin 2048) (q : Fin 64), x = ix2 p q := ⟨x 0, x 1, (ix2_eta x).symm⟩
    rw [e3]; exact h3 _
  unfold out headAtt
  refine Finset.sum_congr rfl fun k _ => ?_
  have eb : (T * 256 + a.val) / 2048 = T / 8 := by omega
  have eq : (T * 256 + a.val) % 2048 = 256 * (T % 8) + a.val := by omega
  simp only [e0, e1, e2, e3, e4, eb, eq]

include h0 h1 h2 h3 in
/-- The block written at a grid point is the attention of its rows. -/
theorem point (c : Dev nD) (t : Fin cfg0.N) (ht : t.val < 64) (a : Fin 256) (j : Fin 512) :
    outv (F := Ideal) (grid0.coords t 1).val (iblk m c 0 t) (iblk m c 1 t) (iblk m c 2 t) (iblk m c 3 t) (iblk m c 4 t) (ix2 a j)
      = out (A0 m c) (A1 m c) (A2 m c) (A3 m c) (A4 m c) ⟨t.val * 256 + a.val, by omega⟩ j := by
  rw [(idx t).2.2.2.2.2.2.1]
  exact point_of t.val ht _ _ _ _ _ (A0 m c) (A1 m c) (A2 m c) (A3 m c) (A4 m c) (fun a k => blk0 m c t a k _ rfl) (fun a k => blk1 m c t a k _ rfl)
    (fun a k => blk2 m c t a k _ rfl) (fun a k => blk3 m c t a k _ rfl) (blk4 m c t) (h0 c) (h1 c) (h2 c) (h3 c) a j

include h0 h1 h2 h3 in
/-- The result array after the run. -/
theorem final (c : Dev nD) : (dats m 0 c).arrAt 5 cfg0.N
    = (fun y => out (A0 m c) (A1 m c) (A2 m c) (A3 m c) (A4 m c) (y 0) (y 1) : FVec Ideal S16384x512 .bf16) := by
  refine (dats m 0 c).arrAt_eq_of_covers 5 _ (by decide +kernel) fun t hf y => ?_
  blk_simp
  rw [after0_5]
  have ht : t.val < 64 := (idx t).2.2.2.2.2.2.2
  have e : y = (ix2 (y 0 : Fin 256) (y 1 : Fin 512) : S256x512.Idx) := (ix2_eta (n0 := 256) (n1 := 512) y).symm
  generalize (y 0 : Fin 256) = a at e
  generalize (y 1 : Fin 512) = j at e
  subst e
  refine (point m h0 h1 h2 h3 c t ht a j).trans ?_
  refine congrArg₂ (out (A0 m c) (A1 m c) (A2 m c) (A3 m c) (A4 m c)) (Fin.ext ?_) (Fin.ext ?_)
  · blk_simp [idx t]
  · blk_simp [idx t]

include h0 h1 h2 h3 in
/-- The kernel's run: its result is the attention and its arguments end as they began. -/
theorem run : θ_run defs (onTc (τ := τ) (main (F := Ideal))) ⟨m, fun _ => 0, ρ⟩ (fun r => ∀ c : Dev nD,
      r.2.mem ((c.tc : Thread nD τ).loc main_v3) = (fun y => out (A0 m c) (A1 m c) (A2 m c) (A3 m c) (A4 m c) (y 0) (y 1) : FVec Ideal S16384x512 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1 c).1 5).trans (final m h0 h1 h2 h3 c), h.2 c⟩) (θ_run_and (run_main m ρ) (unchanged m ρ))

end Cert.KernelIdeal.Attn
end
-- ==== Proof.RVal.lean ====
module

public import proofs.«01_k».proof.Proof.Math
public import proofs.«01_k».proof.Proof.Gen.ReferenceIdeal
public import proofs.«01_k».proof.Proof.Gen.ReferenceIdeal.Run
public import proofs.«01_k».proof.Proof.Gen.ReferenceIdeal.Read
public import Idealize.ShloMosaic.Lib.Pointwise
public import Idealize.ShloMosaic.Lib.WordCmp
public import Idealize.ShloMosaic.Lib.Pipeline.ValueKit

@[expose] public section
set_option maxRecDepth 16384
noncomputable section

/-! The reference's result at an index, over the extended reals. -/

namespace Cert.ReferenceIdeal.Attn
open Cert.ReferenceIdeal Cert.ReferenceIdeal.Gen Cert.ReferenceIdeal.Read Cert.Softmax
open Idealize.ShloMosaic Idealize.ShloMosaic.TcCoe Idealize.SL.Sem

theorem negInf : Ideal.ofBits .f32 0xFF800000#32 = ⊥ := by simp [Ideal.ofBits, Ideal.ieee]
theorem word192 : Ideal.ofBits .f32 0x43400000#32 = ((192 : ℝ) : EReal) := by
  simp [Ideal.ofBits, Ideal.ieee, -EReal.coe_mul]; norm_num
theorem div_sqrt (x : EReal) : Ideal.div x (Ideal.sqrt (Ideal.ofBits .f32 0x43400000#32)) = x * (((Real.sqrt 192)⁻¹ : ℝ) : EReal) := by
  rw [word192, Ideal.sqrt_coe, if_neg (by norm_num), Ideal.div_coe (by positivity), one_div]

/-- A maximum over the last of four axes, at any sizes. -/
theorem max_last {n0 n1 n2 n3 : ℕ} (y : FVec Ideal ⟨4, ![n0, n1, n2, n3]⟩ .f32) (z : FVec Ideal S_ .f32) (hr : (⟨4, ![n0, n1, n2, n3]⟩ : Shape).ReducesTo [3] ⟨3, ![n0, n1, n2]⟩)
    (hu : 0 < S_.numel) (b : Fin n0) (h : Fin n1) (t : Fin n2) :
    Host.reduce FloatOps.maximumf y z hr hu (ix3 b h t) = Finset.univ.fold max (z (Shape.Idx.first hu)) fun s => y (ix4 b h t s) := by
  simp only [pointwise]
theorem const_bot (i : S_.Idx) : constant (F := Ideal) S_ .f32 0xFF800000#32 i = (⊥ : EReal) := negInf

variable (x0 : FVec Ideal S16384x1024 .bf16) (x1 x2 : FVec Ideal S16384x256 .bf16) (x3 : FVec Ideal S16384x64 .bf16) (x4 : FVec Ideal S256x4x256 .f32)
  (b : Fin 8) (h : Fin 4) (t s : Fin 2048)

/-- The scaled score. -/
theorem v15_at : val_main_v15 (F := Ideal) x0 x1 x2 x3 (ix4 b h t s)
    = ((∑ k : Fin 256, x2 (ix2 ⟨b.val * 2048 + s.val, by omega⟩ k) * x0 (ix2 ⟨b.val * 2048 + t.val, by omega⟩ ⟨h.val * 256 + k.val, by omega⟩))
      + ∑ k : Fin 64, x3 (ix2 ⟨b.val * 2048 + s.val, by omega⟩ k) * x1 (ix2 ⟨b.val * 2048 + t.val, by omega⟩ ⟨h.val * 64 + k.val, by omega⟩))
      * (((Real.sqrt 192)⁻¹ : ℝ) : EReal) := by
  rw [← div_sqrt]
  pointwise [val_main_v15, val_main_v14, val_main_v13, val_main_cst, val_main_v12, val_main_v11, val_main_v10, val_main_v9, val_main_v8, val_main_v7, val_main_v6,
    val_main_v5, val_main_v4, val_main_v3, val_main_v2, val_main_v1, val_main_v0]
theorem v22_at : val_main_v22 (F := Ideal) x0 x1 x2 x3 (ix4 b h t s)
    = if s.val ≤ t.val then val_main_v15 (F := Ideal) x0 x1 x2 x3 (ix4 b h t s) else ⊥ := by
  rw [← negInf]
  pointwise [val_main_v22, val_main_call0_v1, val_main_call0_v2, val_main_call0_v0, val_main_cst_0, val_main_v21, val_main_v20, val_main_v19, val_main_v18, val_main_v17, val_main_v16]
  have e : IntOp.cmpi .sle (BitVec.ofNat 32 s.val) (BitVec.ofNat 32 t.val) = if s.val ≤ t.val then 1#1 else 0#1 := by
    word_cmp
    by_cases hk : s.val ≤ t.val <;> simp [hk]
  rw [e]
  split <;> rfl
theorem v25_at : val_main_v25 (F := Ideal) x0 x1 x2 x3 (ix3 b h t)
    = max ⊥ (Finset.univ.fold max ⊥ fun s => val_main_v22 (F := Ideal) x0 x1 x2 x3 (ix4 b h t s)) := by
  have e : val_main_v23 (F := Ideal) x0 x1 x2 x3 (ix3 b h t) = Finset.univ.fold max ⊥ fun s => val_main_v22 (F := Ideal) x0 x1 x2 x3 (ix4 b h t s) := by
    unfold val_main_v23
    generalize val_main_v22 (F := Ideal) x0 x1 x2 x3 = y
    refine (max_last (n0 := 8) (n1 := 4) (n2 := 2048) (n3 := 2048) y (val_main_cst_1 (F := Ideal)) reducesTo_S8x4x2048x2048_S8x4x2048_d3 h_S_ b h t).trans ?_
    unfold val_main_cst_1
    rw [const_bot]
  have e' : val_main_v24 (F := Ideal) (ix3 b h t) = (⊥ : EReal) := by
    pointwise [val_main_v24, val_main_cst_2]
    exact negInf
  rw [val_main_v25_apply, e, e', Ideal.maximumf_def]
theorem v34_at (d : Fin 256) : val_main_v34 (F := Ideal) x0 x1 x2 x3 (ix4 b d h t)
    = ∑ k : Fin 2048, x2 (ix2 ⟨b.val * 2048 + k.val, by omega⟩ d)
      * Ideal.div (Ideal.exp (val_main_v22 (F := Ideal) x0 x1 x2 x3 (ix4 b h t k) - val_main_v25 (F := Ideal) x0 x1 x2 x3 (ix3 b h t)))
        (0 + ∑ j : Fin 2048, Ideal.exp (val_main_v22 (F := Ideal) x0 x1 x2 x3 (ix4 b h t j) - val_main_v25 (F := Ideal) x0 x1 x2 x3 (ix3 b h t))) := by
  pointwise [val_main_v34, val_main_v33, val_main_v32, val_main_v31, val_main_v30, val_main_v29, val_main_v28, val_main_v27, val_main_v26, val_main_cst_3, val_main_v5, val_main_v4]
theorem v40_at (i : Fin 16384) (j : Fin 512) : val_main_v40 (F := Ideal) x0 x1 x2 x3 x4 (ix2 i j)
    = ∑ k : Fin 256, x4 (ix3 k ⟨j.val / 128, by omega⟩ ⟨128 + j.val % 128, by omega⟩)
      * val_main_v34 (F := Ideal) x0 x1 x2 x3 (ix4 ⟨i.val / 2048, by omega⟩ k ⟨j.val / 128, by omega⟩ ⟨i.val % 2048, by omega⟩) := by
  pointwise [val_main_v40, val_main_v39, val_main_v38, val_main_v37, val_main_v36, val_main_v35]

section Finite
variable (h0 : ∀ i, x0 i = ((x0 i).toReal : EReal)) (h1 : ∀ i, x1 i = ((x1 i).toReal : EReal)) (h2 : ∀ i, x2 i = ((x2 i).toReal : EReal))
  (h3 : ∀ i, x3 i = ((x3 i).toReal : EReal))

include h0 h1 h2 h3 in
/-- The masked score, for real inputs. -/
theorem v22_masked : val_main_v22 (F := Ideal) x0 x1 x2 x3 (ix4 b h t s)
    = masked (fun x => (x0 (ix2 ⟨b.val * 2048 + t.val, by omega⟩ ⟨h.val * 256 + x.val, by omega⟩)).toReal)
        (fun x => (x1 (ix2 ⟨b.val * 2048 + t.val, by omega⟩ ⟨h.val * 64 + x.val, by omega⟩)).toReal)
        (fun s x => (x2 (ix2 ⟨b.val * 2048 + s.val, by omega⟩ x)).toReal) (fun s x => (x3 (ix2 ⟨b.val * 2048 + s.val, by omega⟩ x)).toReal) t.val s := by
  rw [v22_at, v15_at, masked]
  split
  · rw [score, EReal.coe_mul, EReal.coe_add, coe_sum, coe_sum]
    refine congrArg₂ (· * ·) (congrArg₂ (· + ·) (Finset.sum_congr rfl fun k _ => ?_) (Finset.sum_congr rfl fun k _ => ?_)) rfl
    · rw [EReal.coe_mul, ← h0, ← h2, mul_comm]
    · rw [EReal.coe_mul, ← h1, ← h3, mul_comm]
  · rfl

include h0 h1 h2 h3 in
/-- The attention, for real inputs. -/
theorem v34_att (d : Fin 256) : val_main_v34 (F := Ideal) x0 x1 x2 x3 (ix4 b d h t)
    = (att (fun x => (x0 (ix2 ⟨b.val * 2048 + t.val, by omega⟩ ⟨h.val * 256 + x.val, by omega⟩)).toReal)
        (fun x => (x1 (ix2 ⟨b.val * 2048 + t.val, by omega⟩ ⟨h.val * 64 + x.val, by omega⟩)).toReal)
        (fun s x => (x2 (ix2 ⟨b.val * 2048 + s.val, by omega⟩ x)).toReal) (fun s x => (x3 (ix2 ⟨b.val * 2048 + s.val, by omega⟩ x)).toReal) t.val d : EReal) := by
  rw [v34_at, v25_at]
  simp only [v22_masked x0 x1 x2 x3 b h t _ h0 h1 h2 h3]
  rw [att, ← softmax _ (masked_ne_top _ _ _ _ _) 0 (masked_zero _ _ _ _ _) _ _ rfl]
  refine Finset.sum_congr rfl fun k _ => ?_
  rw [mul_comm, h2]
  rfl

include h0 h1 h2 h3 in
/-- The reference's result, for real queries, keys and values. -/
theorem result (i : Fin 16384) (j : Fin 512) : val_main_v40 (F := Ideal) x0 x1 x2 x3 x4 (ix2 i j) = out x0 x1 x2 x3 x4 i j := by
  rw [v40_at, out]
  refine Finset.sum_congr rfl fun k _ => ?_
  rw [mul_comm, v34_att x0 x1 x2 x3 _ _ _ h0 h1 h2 h3]
  have e : (⟨i.val / 2048 * 2048 + i.val % 2048, by omega⟩ : Fin 16384) = i := Fin.ext (by show i.val / 2048 * 2048 + i.val % 2048 = i.val; omega)
  simp only [e]
end Finite

end Cert.ReferenceIdeal.Attn
end
-- ==== Proof.Finite.lean ====
module

public import proofs.«01_k».proof.Defs
public import proofs.«01_k».proof.Proof.Gen.Pre_finite_inputs
public import Idealize.ShloMosaic.Lib.ReduceAll
public import Idealize.ShloMosaic.Lib.Pointwise
public import Idealize.ShloMosaic.Lib.WordCmp

@[expose] public section
set_option maxRecDepth 16384
noncomputable section

/-! What the precondition says: the queries, the keys and the latents are real numbers. -/

namespace Cert.Pre_finite_inputs
open Idealize.ShloMosaic

/-- A comparison `|x| < ∞` that came out true says that `x` is a real number. -/
theorem real_of {s : Shape} {φ : FTy} (x : FVec Ideal s φ) (u : FVec Ideal s .f32) (hu : ∀ i, u i = (⊤ : EReal)) (hb : φ.bits < FTy.bits .f32) (i : s.Idx)
    (h : cmpf .olt (Host.absf (extf .f32 x hb)) u i = 1#1) : x i = ((x i).toReal : EReal) := by
  have h' : Ideal.cmp .olt (max (x i : EReal) (-(x i : EReal))) (u i) = 1#1 := h
  rw [hu] at h'
  have h2 : max (x i : EReal) (-(x i : EReal)) < ⊤ := by
    by_contra hn
    unfold Ideal.cmp at h'
    simp [hn] at h'
  have h3 := max_lt_iff.1 h2
  refine (EReal.coe_toReal (ne_of_lt h3.1) fun e => ?_).symm
  rw [e] at h3
  exact absurd h3.2 (by simp)

/-- The arguments are real numbers. -/
theorem reals (x0 : FVec Ideal S16384x1024 .bf16) (x1 x2 : FVec Ideal S16384x256 .bf16) (x3 : FVec Ideal S16384x64 .bf16) (x4 : FVec Ideal S256x4x256 .f32)
    (h : fn (F := Ideal) x0 x1 x2 x3 x4 = fun _ => 1#1) :
    (∀ i, x0 i = ((x0 i).toReal : EReal)) ∧ (∀ i, x1 i = ((x1 i).toReal : EReal)) ∧ (∀ i, x2 i = ((x2 i).toReal : EReal)) ∧ (∀ i, x3 i = ((x3 i).toReal : EReal)) := by
  have h' := congrFun h (fun k => k.elim0)
  unfold fn fn_part1 at h'
  dsimp only at h'
  obtain ⟨ha, hd⟩ := IntOp.andi_eq_one.1 h'
  obtain ⟨ha, hc⟩ := IntOp.andi_eq_one.1 ha
  obtain ⟨ha, hb⟩ := IntOp.andi_eq_one.1 ha
  have : Subsingleton (Shape.Idx S_) := ⟨fun a b => funext fun k => k.elim0⟩
  refine ⟨fun i => real_of _ _ (fun i => ?_) _ i (Host.reduce_andi_all _ _ _ _ _ ha i), fun i => real_of _ _ (fun i => ?_) _ i (Host.reduce_andi_all _ _ _ _ _ hb i),
    fun i => real_of _ _ (fun i => ?_) _ i (Host.reduce_andi_all _ _ _ _ _ hc i), fun i => real_of _ _ (fun i => ?_) _ i (Host.reduce_andi_all _ _ _ _ _ hd i)⟩
  all_goals pointwise []
  all_goals simp [Ideal.ofBits, Ideal.ieee]

end Cert.Pre_finite_inputs
end
-- ==== Proof.FfnMath.lean ====
module

public import Idealize.ShloMosaic.Lib.Pointwise
public import Idealize.ShloMosaic.Lib.Pipeline.ValueKit

@[expose] public section
noncomputable section

/-! One row of the gated feed-forward layer, over the extended reals. -/

namespace Cert.Ffn
open Idealize.ShloMosaic

/-- A row, divided by the root of its mean square and scaled. -/
def nrm (v g : Fin 1024 → EReal) (j : Fin 1024) : EReal :=
  v j * Ideal.rsqrt (Ideal.div (∑ k, v k * v k) (Ideal.ofBits .f32 0x44800000#32) + Ideal.ofBits .f32 0x358637BD#32) * g j

/-- A hidden unit: the gate through `silu`, times the linear part. -/
def hid (y : Fin 1024 → EReal) (wg wu : Fin 1024 → EReal) : EReal :=
  (∑ k, y k * wg k) * Ideal.div 1 (1 + Ideal.exp (0 - ∑ k, y k * wg k)) * ∑ k, y k * wu k

/-- The hidden units brought back to the width of the row. -/
def mlp (y : Fin 1024 → EReal) (wg wu : Fin 1024 → Fin 2816 → EReal) (wd : Fin 2816 → Fin 1024 → EReal) (j : Fin 1024) : EReal :=
  ∑ e, hid y (fun k => wg k e) (fun k => wu k e) * wd e j

/-- The layer: half of the normalised feed-forward of the normalised row is added to the row. -/
def ffn (x gp gq : Fin 1024 → EReal) (wg wu : Fin 1024 → Fin 2816 → EReal) (wd : Fin 2816 → Fin 1024 → EReal) (j : Fin 1024) : EReal :=
  x j + Ideal.ofBits .f32 0x3F000000#32 * nrm (mlp (nrm x gp) wg wu wd) gq j

/-- The two mixers' outputs, joined and projected. -/
def mix (oh om : Fin 512 → EReal) (w1 w2 : Fin 512 → Fin 1024 → EReal) (j : Fin 1024) : EReal := ∑ k, oh k * w1 k j + ∑ k, om k * w2 k j

/-- The whole: the mixers' normalised projection is added to the row, and the layer applied. -/
def out (h : Fin 1024 → EReal) (oh om : Fin 512 → EReal) (w1 w2 : Fin 512 → Fin 1024 → EReal) (gm gp gq : Fin 1024 → EReal)
    (wg wu : Fin 1024 → Fin 2816 → EReal) (wd : Fin 2816 → Fin 1024 → EReal) (j : Fin 1024) : EReal :=
  ffn (fun k => h k + nrm (mix oh om w1 w2) gm k) gp gq wg wu wd j

/-- A hidden unit's place: number `x` of block `n`. -/
def unit (n : ℕ) (x : Fin 256) : Fin 2816 := ⟨(n * 256 + x.val) % 2816, Nat.mod_lt _ (by norm_num)⟩

/-- Its number. -/
theorem unit_val (n : ℕ) (hn : n < 11) (x : Fin 256) : (unit n x).val = n * 256 + x.val :=
  Nat.mod_eq_of_lt (by have := x.isLt; omega)

/-- A sum over the hidden units, block by block. -/
theorem sum_units (f : Fin 2816 → EReal) : ∑ e, f e = ∑ n ∈ Finset.range 11, ∑ x : Fin 256, f (unit n x) := by
  rw [Finset.sum_range, ← Fintype.sum_prod_type']
  refine (Fintype.sum_equiv (finProdFinEquiv (m := 11) (n := 256)) _ _ fun p => ?_).symm
  congr 1
  apply Fin.ext
  have h1 := p.1.isLt
  have h2 := p.2.isLt
  show (p.1.val * 256 + p.2.val) % 2816 = p.2.val + 256 * p.1.val
  rw [Nat.mod_eq_of_lt (by omega)]
  ring

end Cert.Ffn
-- ==== Proof.FfnPay.lean ====
module

public import proofs.«01_k».proof.Proof.Gen.Kernel2Ideal.Value
public import proofs.«01_k».proof.Proof.FfnMath
public import Idealize.ShloMosaic.Lib.ValueIdx
public import Idealize.ShloMosaic.Lib.Pointwise

@[expose] public section
set_option maxRecDepth 16384
noncomputable section

/-! What the feed-forward kernel stores, as a few plain functions of vectors. -/

namespace Cert.Kernel2Ideal.Ffn
open Cert.Kernel2Ideal Cert.Kernel2Ideal.Gen
open Idealize.ShloMosaic Idealize.ShloMosaic.TcCoe Idealize.ShloMosaic.Tactic Cert.Ffn

variable {F : FTy → Type} [FloatOps F]

/-- The reciprocal root of the mean square of every row. -/
def inv (x : FVec F S512x1024 .f32) : FVec F S512x1 .f32 :=
  rsqrt (addf (divf (shapeCast S512x1 (multiReduction .add [1] S512 (mulf x x) 0x00000000#32 reduces_S512x1024_S512 (.inl rfl) rfl) shapeCasts_S512_S512x1)
    (broadcast S512x1 (Scalar.ofBits .f32 0x44800000#32))) (broadcast S512x1 (Scalar.ofBits .f32 0x358637BD#32)))

/-- The rows, normalised and scaled. -/
def norm (x : FVec F S512x1024 .f32) (g : Vec F S1x1024 .f32) : FVec F S512x1024 .f32 :=
  mulf (mulf x (broadcastTo S512x1024 (inv x) broadcasts_S512x1_S512x1024))
    (broadcastTo S512x1024 (shapeCast S1x1024 g shapeCasts_S1x1024_S1x1024) broadcasts_S1x1024_S512x1024)

/-- The feed-forward's sum over the first `n` blocks of hidden columns. -/
def acc (xn : FVec F S512x1024 .bf16) (g u : Nat → Vec F S1x1024x256 .bf16) (d : Nat → Vec F S1x256x1024 .bf16) : Nat → FVec F S512x1024 .f32
  | 0 => k0_pay10 xn (g 0) (u 0) (d 0)
  | n + 1 => addf (acc xn g u d n) (k0_pay10 xn (g (n + 1)) (u (n + 1)) (d (n + 1)))

/-- The last step: half of the normalised sum is added to the residual. -/
def fin (x : FVec F S512x1024 .f32) (a : FVec F S512x1024 .f32) (g : Vec F S1x1024 .f32) : FVec F S512x1024 .f32 :=
  addf x (mulf (broadcast S512x1024 (Scalar.ofBits .f32 0x3F000000#32)) (norm a g))

/-- Half a block of rows. -/
def tile (h : Vec F S512x1024 .f32) (oh : Vec F S512x512 .bf16) (w1 : Vec F S512x1024 .bf16) (om : Vec F S512x512 .bf16) (w2 : Vec F S512x1024 .bf16)
    (gm gp gq : Vec F S1x1024 .f32) (g u : Nat → Vec F S1x1024x256 .bf16) (d : Nat → Vec F S1x256x1024 .bf16) : FVec F S512x1024 .f32 :=
  have x := addf h (norm (k0_pay1 oh w1 om w2) gm)
  fin x (acc (truncf .bf16 (norm x gp) bitsLt_bf16_f32) g u d 10) gq

/-- The blocks of hidden columns of a weight. -/
def cols (w : Vec F S1x1024x2816 .bf16) : Nat → Vec F S1x1024x256 .bf16
  | 0 => View.ld w r0_6
  | 1 => View.ld w r0_8
  | 2 => View.ld w r0_10
  | 3 => View.ld w r0_12
  | 4 => View.ld w r0_14
  | 5 => View.ld w r0_16
  | 6 => View.ld w r0_18
  | 7 => View.ld w r0_20
  | 8 => View.ld w r0_22
  | 9 => View.ld w r0_24
  | _ => View.ld w r0_26

/-- The blocks of hidden rows of the last weight. -/
def rows (w : Vec F S1x2816x1024 .bf16) : Nat → Vec F S1x256x1024 .bf16
  | 0 => View.ld w r0_7
  | 1 => View.ld w r0_9
  | 2 => View.ld w r0_11
  | 3 => View.ld w r0_13
  | 4 => View.ld w r0_15
  | 5 => View.ld w r0_17
  | 6 => View.ld w r0_19
  | 7 => View.ld w r0_21
  | 8 => View.ld w r0_23
  | 9 => View.ld w r0_25
  | _ => View.ld w r0_27

variable (x0 : Vec F S1024x1024 .f32) (x1 : Vec F S1024x512 .bf16) (x2 : Vec F S1024x512 .bf16) (x3 : Vec F S512x1024 .bf16) (x4 : Vec F S512x1024 .bf16) (x5 : Vec F S1x1024 .f32) (x6 : Vec F S1x1024 .f32) (x7 : Vec F S1x1024 .f32) (x8 : Vec F S1x1024x2816 .bf16) (x9 : Vec F S1x1024x2816 .bf16) (x10 : Vec F S1x2816x1024 .bf16)

/-- The two halves of what a grid point leaves. -/
theorem out_eq : out0_11 x0 x1 x2 x3 x4 x5 x6 x7 x8 x9 x10 = View.canon
    [⟨r0_5, tile (View.ld x0 r0_5) (View.ld x1 r0_2) (View.ld x3 r0_1) (View.ld x2 r0_2) (View.ld x4 r0_1) (View.ld x5 r0_4) (View.ld x6 r0_4) (View.ld x7 r0_4) (cols x8) (cols x9) (rows x10)⟩,
      ⟨r0_3, tile (View.ld x0 r0_3) (View.ld x1 r0_0) (View.ld x3 r0_1) (View.ld x2 r0_0) (View.ld x4 r0_1) (View.ld x5 r0_4) (View.ld x6 r0_4) (View.ld x7 r0_4) (cols x8) (cols x9) (rows x10)⟩] := by
  rfl

/-! ## Read at an index -/

theorem norm_at (x : FVec Ideal S512x1024 .f32) (g : FVec Ideal S1x1024 .f32) (i : Fin 512) (j : Fin 1024) :
    norm (F := Ideal) x g (ix2 i j) = nrm (fun k => x (ix2 i k)) (fun k => g (ix2 0 k)) j := by
  pointwise [norm, inv]
  rfl

theorem mix_at (oh : FVec Ideal S512x512 .bf16) (w1 : FVec Ideal S512x1024 .bf16) (om : FVec Ideal S512x512 .bf16) (w2 : FVec Ideal S512x1024 .bf16)
    (i : Fin 512) (j : Fin 1024) : k0_pay1 (F := Ideal) oh w1 om w2 (ix2 i j)
      = mix (fun k => oh (ix2 i k)) (fun k => om (ix2 i k)) (fun k j => w1 (ix2 k j)) (fun k j => w2 (ix2 k j)) j := by
  pointwise [k0_pay1]
  rfl

theorem chunk_at (y : FVec Ideal S512x1024 .bf16) (g u : FVec Ideal S1x1024x256 .bf16) (d : FVec Ideal S1x256x1024 .bf16) (i : Fin 512) (j : Fin 1024) :
    k0_pay10 (F := Ideal) y g u d (ix2 i j)
      = ∑ x : Fin 256, hid (fun k => y (ix2 i k)) (fun k => g (ix3 0 k x)) (fun k => u (ix3 0 k x)) * d (ix3 0 x j) := by
  pointwise [k0_pay10]
  rfl

/-- The columns of block `n` are the hidden units of block `n`. -/
theorem cols_at (w : FVec Ideal S1x1024x2816 .bf16) (n : ℕ) (hn : n < 11) (k : Fin 1024) (x : Fin 256) :
    cols (F := Ideal) w n (ix3 0 k x) = w (ix3 0 k (unit n x)) := by
  interval_cases n <;> simp only [cols] <;> pointwise [] <;>
    exact congrArg (fun q => w (ix3 0 k q)) (Fin.ext (by simp [unit_val _ hn]))

theorem rows_at (w : FVec Ideal S1x2816x1024 .bf16) (n : ℕ) (hn : n < 11) (x : Fin 256) (j : Fin 1024) :
    rows (F := Ideal) w n (ix3 0 x j) = w (ix3 0 (unit n x) j) := by
  interval_cases n <;> simp only [rows] <;> pointwise [] <;>
    exact congrArg (fun q => w (ix3 0 q j)) (Fin.ext (by simp [unit_val _ hn]))

theorem acc_at (y : FVec Ideal S512x1024 .bf16) (wg wu : FVec Ideal S1x1024x2816 .bf16) (wd : FVec Ideal S1x2816x1024 .bf16) (i : Fin 512) (j : Fin 1024) :
    ∀ n, n < 11 → acc (F := Ideal) y (cols wg) (cols wu) (rows wd) n (ix2 i j)
      = ∑ n' ∈ Finset.range (n + 1), ∑ x : Fin 256,
          hid (fun k => y (ix2 i k)) (fun k => wg (ix3 0 k (unit n' x))) (fun k => wu (ix3 0 k (unit n' x))) * wd (ix3 0 (unit n' x) j)
  | 0, h => by
    rw [Finset.sum_range_one]
    simp only [acc, chunk_at, cols_at _ 0 h, rows_at _ 0 h]
  | n + 1, h => by
    rw [Finset.sum_range_succ, ← acc_at y wg wu wd i j n (by omega)]
    show acc (F := Ideal) y _ _ _ n (ix2 i j) + k0_pay10 (F := Ideal) y _ _ _ (ix2 i j) = _
    simp only [chunk_at, cols_at _ (n + 1) h, rows_at _ (n + 1) h]

/-- The feed-forward's sum over all the hidden units. -/
theorem mlp_at (y : FVec Ideal S512x1024 .bf16) (wg wu : FVec Ideal S1x1024x2816 .bf16) (wd : FVec Ideal S1x2816x1024 .bf16) (i : Fin 512) (j : Fin 1024) :
    acc (F := Ideal) y (cols wg) (cols wu) (rows wd) 10 (ix2 i j)
      = mlp (fun k => y (ix2 i k)) (fun k e => wg (ix3 0 k e)) (fun k e => wu (ix3 0 k e)) (fun e j => wd (ix3 0 e j)) j := by
  rw [acc_at y wg wu wd i j 10 (by norm_num), mlp, sum_units]

/-- An element of half a block. -/
theorem tile_at (h : FVec Ideal S512x1024 .f32) (oh : FVec Ideal S512x512 .bf16) (w1 : FVec Ideal S512x1024 .bf16) (om : FVec Ideal S512x512 .bf16)
    (w2 : FVec Ideal S512x1024 .bf16) (gm gp gq : FVec Ideal S1x1024 .f32) (wg wu : FVec Ideal S1x1024x2816 .bf16) (wd : FVec Ideal S1x2816x1024 .bf16)
    (i : Fin 512) (j : Fin 1024) :
    tile (F := Ideal) h oh w1 om w2 gm gp gq (cols wg) (cols wu) (rows wd) (ix2 i j)
      = out (fun k => h (ix2 i k)) (fun k => oh (ix2 i k)) (fun k => om (ix2 i k)) (fun k j => w1 (ix2 k j)) (fun k j => w2 (ix2 k j))
          (fun k => gm (ix2 0 k)) (fun k => gp (ix2 0 k)) (fun k => gq (ix2 0 k))
          (fun k e => wg (ix3 0 k e)) (fun k e => wu (ix3 0 k e)) (fun e j => wd (ix3 0 e j)) j := by
  have hx : ∀ k, addf h (norm (F := Ideal) (k0_pay1 oh w1 om w2) gm) (ix2 i k)
      = h (ix2 i k) + nrm (mix (fun k => oh (ix2 i k)) (fun k => om (ix2 i k)) (fun k j => w1 (ix2 k j)) (fun k j => w2 (ix2 k j))) (fun k => gm (ix2 0 k)) k := by
    intro k
    show h (ix2 i k) + norm (F := Ideal) (k0_pay1 oh w1 om w2) gm (ix2 i k) = _
    simp only [norm_at, mix_at]
  unfold tile fin
  generalize addf h (norm (F := Ideal) (k0_pay1 oh w1 om w2) gm) = X at hx
  show X (ix2 i j) + Ideal.ofBits .f32 0x3F000000#32 * norm (F := Ideal) _ gq (ix2 i j) = _
  rw [norm_at]
  simp only [mlp_at]
  show X (ix2 i j) + Ideal.ofBits .f32 0x3F000000#32 * nrm (mlp (fun k => norm (F := Ideal) X gp (ix2 i k)) _ _ _) _ j = _
  simp only [norm_at, hx]
  rfl

end Cert.Kernel2Ideal.Ffn
-- ==== Proof.FfnVal.lean ====
module

public import proofs.«01_k».proof.Proof.FfnPay

@[expose] public section
set_option maxRecDepth 16384
noncomputable section

/-! The feed-forward kernel's result array after the run. -/

namespace Cert.Kernel2Ideal.Ffn
open Cert.Kernel2Ideal Cert.Kernel2Ideal.Gen Cert.Ffn
open Idealize.ShloMosaic Idealize.ShloMosaic.TcCoe Idealize.ShloMosaic.Tactic
open Idealize.SL Idealize.SL.Sem

/-- An element of what a grid point leaves, over its blocks. -/
theorem out_at (x0 : FVec Ideal S1024x1024 .f32) (x1 x2 : FVec Ideal S1024x512 .bf16) (x3 x4 : FVec Ideal S512x1024 .bf16)
    (x5 x6 x7 : FVec Ideal S1x1024 .f32) (x8 x9 : FVec Ideal S1x1024x2816 .bf16) (x10 : FVec Ideal S1x2816x1024 .bf16) (a : Fin 1024) (j : Fin 1024) :
    out0_11 (F := Ideal) x0 x1 x2 x3 x4 x5 x6 x7 x8 x9 x10 (ix2 a j)
      = out (fun k => x0 (ix2 a k)) (fun k => x1 (ix2 a k)) (fun k => x2 (ix2 a k)) (fun k j => x3 (ix2 k j)) (fun k j => x4 (ix2 k j))
          (fun k => x5 (ix2 0 k)) (fun k => x6 (ix2 0 k)) (fun k => x7 (ix2 0 k))
          (fun k e => x8 (ix3 0 k e)) (fun k e => x9 (ix3 0 k e)) (fun e j => x10 (ix3 0 e j)) j := by
  rw [out_eq]
  canon_tiles x g
  · obtain ⟨p, q, rfl⟩ : ∃ (p : Fin 512) (q : Fin 1024), x = ix2 p q := ⟨x 0, x 1, (ix2_eta x).symm⟩
    have ea : a = ⟨512 + p.val, Nat.add_lt_add_left p.isLt 512⟩ := Fin.ext g0
    have ej : j = q := Fin.ext g1
    subst ea ej
    rw [tile_at]
    pointwise []
  · obtain ⟨p, q, rfl⟩ : ∃ (p : Fin 512) (q : Fin 1024), x = ix2 p q := ⟨x 0, x 1, (ix2_eta x).symm⟩
    have ea : a = ⟨p.val, p.isLt.trans (by norm_num)⟩ := Fin.ext g0
    have ej : j = q := Fin.ext g1
    subst ea ej
    rw [tile_at]
    pointwise []

variable (m : (ℓ : Loc nD τ sig) → Buf (Elt Ideal) ℓ) (ρ : Dev nD → PrngReg)

/-- Where the windows' blocks lie. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0] ∧ win0_7.index t = ![0, 0]
    ∧ win0_8.index t = ![1, 0, 0] ∧ win0_9.index t = ![1, 0, 0] ∧ win0_10.index t = ![1, 0, 0] ∧ win0_11.index t = ![t.val, 0]
    ∧ t.val < 16 := (by decide +kernel : ∀ t : Fin grid0.N, _)

/-- The arguments' contents. -/
abbrev A0 (c : Dev nD) : FVec Ideal S16384x1024 .f32 := m ((c : Thread nD τ).loc main_arg0)
abbrev A1 (c : Dev nD) : FVec Ideal S16384x512 .bf16 := m ((c : Thread nD τ).loc main_arg1)
abbrev A2 (c : Dev nD) : FVec Ideal S16384x512 .bf16 := m ((c : Thread nD τ).loc main_arg2)
abbrev A3 (c : Dev nD) : FVec Ideal S6x1024 .f32 := m ((c : Thread nD τ).loc main_arg3)
abbrev A4 (c : Dev nD) : FVec Ideal S2x1024x2816 .f32 := m ((c : Thread nD τ).loc main_arg4)
abbrev A5 (c : Dev nD) : FVec Ideal S2x1024x2816 .f32 := m ((c : Thread nD τ).loc main_arg5)
abbrev A6 (c : Dev nD) : FVec Ideal S2x2816x1024 .f32 := m ((c : Thread nD τ).loc main_arg6)
abbrev A7 (c : Dev nD) : FVec Ideal S1024x1024 .f32 := m ((c : Thread nD τ).loc main_arg7)

/-- The residual's block. -/
theorem blk0 (c : Dev nD) (t : Fin cfg0.N) (a : Fin 1024) (k : Fin 1024) (i : Fin 16384) (hi : i.val = t.val * 1024 + a.val) :
    (show FVec Ideal S1024x1024 .f32 from iblk m c 0 t) (ix2 a k) = (show FVec Ideal S16384x1024 .f32 from m ((c : Thread nD τ).loc main_arg0)) (ix2 i k) := by
  blk_ext [iblk, V, idx t]

/-- The recurrent mixer's block. -/
theorem blk1 (c : Dev nD) (t : Fin cfg0.N) (a : Fin 1024) (k : Fin 512) (i : Fin 16384) (hi : i.val = t.val * 1024 + a.val) :
    (show FVec Ideal S1024x512 .bf16 from iblk m c 1 t) (ix2 a k) = (show FVec Ideal S16384x512 .bf16 from m ((c : Thread nD τ).loc main_arg1)) (ix2 i k) := by
  blk_ext [iblk, V, idx t]

/-- The attention's block. -/
theorem blk2 (c : Dev nD) (t : Fin cfg0.N) (a : Fin 1024) (k : Fin 512) (i : Fin 16384) (hi : i.val = t.val * 1024 + a.val) :
    (show FVec Ideal S1024x512 .bf16 from iblk m c 2 t) (ix2 a k) = (show FVec Ideal S16384x512 .bf16 from m ((c : Thread nD τ).loc main_arg2)) (ix2 i k) := by
  blk_ext [iblk, V, idx t]

/-- The upper half of the output weights. -/
theorem blk3 (c : Dev nD) (t : Fin cfg0.N) (k : Fin 512) (j : Fin 1024) :
    (show FVec Ideal S512x1024 .bf16 from iblk m c 3 t) (ix2 k j)
      = (show FVec Ideal S1024x1024 .f32 from m ((c : Thread nD τ).loc main_arg7)) (ix2 ⟨k.val, by omega⟩ j) := by
  blk_simp [iblk, idx t]
  entry_read
  pointwise []
  blk_ext [V, idx t]

/-- The lower half of the output weights. -/
theorem blk4 (c : Dev nD) (t : Fin cfg0.N) (k : Fin 512) (j : Fin 1024) :
    (show FVec Ideal S512x1024 .bf16 from iblk m c 4 t) (ix2 k j)
      = (show FVec Ideal S1024x1024 .f32 from m ((c : Thread nD τ).loc main_arg7)) (ix2 ⟨512 + k.val, by omega⟩ j) := by
  blk_simp [iblk, idx t]
  entry_read
  pointwise []
  blk_ext [V, idx t]

/-- The scales of the three norms. -/
theorem blk5 (c : Dev nD) (t : Fin cfg0.N) (k : Fin 1024) :
    (show FVec Ideal S1x1024 .f32 from iblk m c 5 t) (ix2 0 k) = (show FVec Ideal S6x1024 .f32 from m ((c : Thread nD τ).loc main_arg3)) (ix2 3 k) := by
  blk_simp [iblk, idx t]
  entry_read
  pointwise []
  blk_ext [V, idx t]

theorem blk6 (c : Dev nD) (t : Fin cfg0.N) (k : Fin 1024) :
    (show FVec Ideal S1x1024 .f32 from iblk m c 6 t) (ix2 0 k) = (show FVec Ideal S6x1024 .f32 from m ((c : Thread nD τ).loc main_arg3)) (ix2 4 k) := by
  blk_simp [iblk, idx t]
  entry_read
  pointwise []
  blk_ext [V, idx t]

theorem blk7 (c : Dev nD) (t : Fin cfg0.N) (k : Fin 1024) :
    (show FVec Ideal S1x1024 .f32 from iblk m c 7 t) (ix2 0 k) = (show FVec Ideal S6x1024 .f32 from m ((c : Thread nD τ).loc main_arg3)) (ix2 5 k) := by
  blk_simp [iblk, idx t]
  entry_read
  pointwise []
  blk_ext [V, idx t]

/-- The feed-forward's weights: those of the layer's second use. -/
theorem blk8 (c : Dev nD) (t : Fin cfg0.N) (k : Fin 1024) (e : Fin 2816) :
    (show FVec Ideal S1x1024x2816 .bf16 from iblk m c 8 t) (ix3 0 k e) = (show FVec Ideal S2x1024x2816 .f32 from m ((c : Thread nD τ).loc main_arg4)) (ix3 1 k e) := by
  blk_simp [iblk, idx t]
  entry_read
  pointwise []
  blk_ext [V, idx t]

theorem blk9 (c : Dev nD) (t : Fin cfg0.N) (k : Fin 1024) (e : Fin 2816) :
    (show FVec Ideal S1x1024x2816 .bf16 from iblk m c 9 t) (ix3 0 k e) = (show FVec Ideal S2x1024x2816 .f32 from m ((c : Thread nD τ).loc main_arg5)) (ix3 1 k e) := by
  blk_simp [iblk, idx t]
  entry_read
  pointwise []
  blk_ext [V, idx t]

theorem blk10 (c : Dev nD) (t : Fin cfg0.N) (e : Fin 2816) (j : Fin 1024) :
    (show FVec Ideal S1x2816x1024 .bf16 from iblk m c 10 t) (ix3 0 e j) = (show FVec Ideal S2x2816x1024 .f32 from m ((c : Thread nD τ).loc main_arg6)) (ix3 1 e j) := by
  blk_simp [iblk, idx t]
  entry_read
  pointwise []
  blk_ext [V, idx t]

/-- The layer over whole arrays. -/
def layer (y0 : FVec Ideal S16384x1024 .f32) (y1 y2 : FVec Ideal S16384x512 .bf16) (y3 : FVec Ideal S6x1024 .f32)
    (y4 y5 : FVec Ideal S2x1024x2816 .f32) (y6 : FVec Ideal S2x2816x1024 .f32) (y7 : FVec Ideal S1024x1024 .f32) (i : Fin 16384) (j : Fin 1024) : EReal :=
  out (fun k => y0 (ix2 i k)) (fun k => y1 (ix2 i k)) (fun k => y2 (ix2 i k))
    (fun k j => y7 (ix2 ⟨k.val, by omega⟩ j)) (fun k j => y7 (ix2 ⟨512 + k.val, by omega⟩ j))
    (fun k => y3 (ix2 3 k)) (fun k => y3 (ix2 4 k)) (fun k => y3 (ix2 5 k))
    (fun k e => y4 (ix3 1 k e)) (fun k e => y5 (ix3 1 k e)) (fun e j => y6 (ix3 1 e j)) j

/-- What a grid point leaves, over blocks read from arrays, is the layer over the arrays. -/
theorem point_of (T : ℕ) (ht : T < 16) (x0 : FVec Ideal S1024x1024 .f32) (x1 x2 : FVec Ideal S1024x512 .bf16) (x3 x4 : FVec Ideal S512x1024 .bf16)
    (x5 x6 x7 : FVec Ideal S1x1024 .f32) (x8 x9 : FVec Ideal S1x1024x2816 .bf16) (x10 : FVec Ideal S1x2816x1024 .bf16)
    (y0 : FVec Ideal S16384x1024 .f32) (y1 y2 : FVec Ideal S16384x512 .bf16) (y3 : FVec Ideal S6x1024 .f32)
    (y4 y5 : FVec Ideal S2x1024x2816 .f32) (y6 : FVec Ideal S2x2816x1024 .f32) (y7 : FVec Ideal S1024x1024 .f32)
    (e0 : ∀ (a : Fin 1024) (k : Fin 1024), x0 (ix2 a k) = y0 (ix2 ⟨T * 1024 + a.val, by omega⟩ k))
    (e1 : ∀ (a : Fin 1024) (k : Fin 512), x1 (ix2 a k) = y1 (ix2 ⟨T * 1024 + a.val, by omega⟩ k))
    (e2 : ∀ (a : Fin 1024) (k : Fin 512), x2 (ix2 a k) = y2 (ix2 ⟨T * 1024 + a.val, by omega⟩ k))
    (e3 : ∀ (k : Fin 512) (j : Fin 1024), x3 (ix2 k j) = y7 (ix2 ⟨k.val, by omega⟩ j))
    (e4 : ∀ (k : Fin 512) (j : Fin 1024), x4 (ix2 k j) = y7 (ix2 ⟨512 + k.val, by omega⟩ j))
    (e5 : ∀ k : Fin 1024, x5 (ix2 0 k) = y3 (ix2 3 k)) (e6 : ∀ k : Fin 1024, x6 (ix2 0 k) = y3 (ix2 4 k))
    (e7 : ∀ k : Fin 1024, x7 (ix2 0 k) = y3 (ix2 5 k))
    (e8 : ∀ (k : Fin 1024) (e : Fin 2816), x8 (ix3 0 k e) = y4 (ix3 1 k e)) (e9 : ∀ (k : Fin 1024) (e : Fin 2816), x9 (ix3 0 k e) = y5 (ix3 1 k e))
    (e10 : ∀ (e : Fin 2816) (j : Fin 1024), x10 (ix3 0 e j) = y6 (ix3 1 e j)) (a : Fin 1024) (j : Fin 1024) :
    out0_11 (F := Ideal) x0 x1 x2 x3 x4 x5 x6 x7 x8 x9 x10 (ix2 a j) = layer y0 y1 y2 y3 y4 y5 y6 y7 ⟨T * 1024 + a.val, by omega⟩ j := by
  rw [out_at]
  simp only [e0, e1, e2, e3, e4, e5, e6, e7, e8, e9, e10]
  rfl

/-- The block written at a grid point is the layer at its rows. -/
theorem point (c : Dev nD) (t : Fin cfg0.N) (ht : t.val < 16) (a : Fin 1024) (j : Fin 1024) :
    out0_11 (F := Ideal) (iblk m c 0 t) (iblk m c 1 t) (iblk m c 2 t) (iblk m c 3 t) (iblk m c 4 t) (iblk m c 5 t) (iblk m c 6 t) (iblk m c 7 t)
        (iblk m c 8 t) (iblk m c 9 t) (iblk m c 10 t) (ix2 a j)
      = layer (A0 m c) (A1 m c) (A2 m c) (A3 m c) (A4 m c) (A5 m c) (A6 m c) (A7 m c) ⟨t.val * 1024 + a.val, by omega⟩ j :=
  point_of t.val ht _ _ _ _ _ _ _ _ _ _ _ (A0 m c) (A1 m c) (A2 m c) (A3 m c) (A4 m c) (A5 m c) (A6 m c) (A7 m c)
    (fun a k => blk0 m c t a k _ rfl) (fun a k => blk1 m c t a k _ rfl) (fun a k => blk2 m c t a k _ rfl) (blk3 m c t) (blk4 m c t)
    (blk5 m c t) (blk6 m c t) (blk7 m c t) (blk8 m c t) (blk9 m c t) (blk10 m c t) a j

/-- The result array after the run. -/
theorem final (c : Dev nD) : (dats m 0 c).arrAt 11 cfg0.N
    = (fun y => layer (A0 m c) (A1 m c) (A2 m c) (A3 m c) (A4 m c) (A5 m c) (A6 m c) (A7 m c) (y 0) (y 1) : FVec Ideal S16384x1024 .f32) := by
  refine (dats m 0 c).arrAt_eq_of_covers 11 _ (by decide +kernel) fun t hf y => ?_
  blk_simp
  rw [after0_11]
  have ht : t.val < 16 := (idx t).2.2.2.2.2.2.2.2.2.2.2.2
  have e : y = (ix2 (y 0 : Fin 1024) (y 1 : Fin 1024) : S1024x1024.Idx) := (ix2_eta (n0 := 1024) (n1 := 1024) y).symm
  generalize (y 0 : Fin 1024) = a at e
  generalize (y 1 : Fin 1024) = j at e
  subst e
  refine (point m c t ht a j).trans ?_
  refine congrArg₂ (layer (A0 m c) (A1 m c) (A2 m c) (A3 m c) (A4 m c) (A5 m c) (A6 m c) (A7 m c)) (Fin.ext ?_) (Fin.ext ?_)
  · blk_simp [idx t]
  · blk_simp [idx t]

end Cert.Kernel2Ideal.Ffn
-- ==== Proof.FfnRef.lean ====
module

public import proofs.«01_k».proof.Proof.FfnMath
public import proofs.«01_k».proof.Proof.Gen.Reference2Ideal.Read

@[expose] public section
set_option maxRecDepth 16384
noncomputable section

/-! The reference's feed-forward layer, read at an index. -/

namespace Cert.Reference2Ideal.Ffn
open Cert.Reference2Ideal Cert.Reference2Ideal.Read Cert.Ffn
open Idealize.ShloMosaic Idealize.ShloMosaic.TcCoe Idealize.ShloMosaic.Tactic

variable (x0 : FVec Ideal S16384x1024 .f32) (x1 x2 : FVec Ideal S16384x512 .bf16) (x3 : FVec Ideal S6x1024 .f32)
  (x4 x5 : FVec Ideal S2x1024x2816 .f32) (x6 : FVec Ideal S2x2816x1024 .f32) (x7 : FVec Ideal S1024x1024 .f32)

/-- The projection of the mixers' outputs. -/
theorem v3_at (i : Fin 16384) (j : Fin 1024) : val_main_v3 (F := Ideal) x1 x2 x7 (ix2 i j)
    = mix (fun k => x1 (ix2 i k)) (fun k => x2 (ix2 i k)) (fun k j => x7 (ix2 ⟨k.val, by omega⟩ j)) (fun k j => x7 (ix2 ⟨512 + k.val, by omega⟩ j)) j := by
  pointwise [val_main_v3, val_main_v2, val_main_v1, val_main_v0]
  rfl

/-- The residual rows. -/
theorem v19_at (i : Fin 16384) (j : Fin 1024) : val_main_v19 (F := Ideal) x0 x1 x2 x3 x7 (ix2 i j)
    = x0 (ix2 i j) + nrm (fun k => val_main_v3 (F := Ideal) x1 x2 x7 (ix2 i k)) (fun k => x3 (ix2 3 k)) j := by
  pointwise [val_main_v19, val_main_v18, val_main_v17, val_main_v16, val_main_v15, val_main_v14, val_main_v13, val_main_v12, val_main_v11, val_main_v10, val_main_v9, val_main_v8, val_main_v7, val_main_v6, val_main_v5, val_main_v4, val_main_cst, val_main_cst_0, val_main_cst_1]
  rfl

/-- The rows that go into the feed-forward. -/
theorem v34_at (i : Fin 16384) (j : Fin 1024) : val_main_v34 (F := Ideal) x0 x1 x2 x3 x7 (ix2 i j)
    = nrm (fun k => val_main_v19 (F := Ideal) x0 x1 x2 x3 x7 (ix2 i k)) (fun k => x3 (ix2 4 k)) j := by
  pointwise [val_main_v34, val_main_v33, val_main_v32, val_main_v31, val_main_v30, val_main_v29, val_main_v28, val_main_v27, val_main_v26, val_main_v25, val_main_v24, val_main_v23, val_main_v22, val_main_v21, val_main_v20, val_main_cst_2, val_main_cst_3, val_main_cst_4]
  rfl

/-- The hidden units. -/
theorem v44_at (i : Fin 16384) (e : Fin 2816) : val_main_v44 (F := Ideal) x0 x1 x2 x3 x4 x5 x7 (ix2 i e)
    = hid (fun k => val_main_v34 (F := Ideal) x0 x1 x2 x3 x7 (ix2 i k)) (fun k => x4 (ix3 1 k e)) (fun k => x5 (ix3 1 k e)) := by
  pointwise [val_main_v44, val_main_v43, val_main_v42, val_main_v41, val_main_v38, val_main_v37, val_main_v36, val_main_v35, val_main_call0_v5, val_main_call0_v4, val_main_call0_v3, val_main_call0_v2, val_main_call0_v1, val_main_call0_v0, val_main_call0_cst, val_main_call0_cst_0]
  simp only [hid, zero_sub]

/-- The feed-forward. -/
theorem v45_at (i : Fin 16384) (j : Fin 1024) : val_main_v45 (F := Ideal) x0 x1 x2 x3 x4 x5 x6 x7 (ix2 i j)
    = mlp (fun k => val_main_v34 (F := Ideal) x0 x1 x2 x3 x7 (ix2 i k)) (fun k e => x4 (ix3 1 k e)) (fun k e => x5 (ix3 1 k e)) (fun e j => x6 (ix3 1 e j)) j := by
  pointwise [val_main_v45, val_main_v40, val_main_v39]
  simp only [v44_at]
  rfl

/-- The last step. -/
theorem v63_at (i : Fin 16384) (j : Fin 1024) : val_main_v63 (F := Ideal) x0 x1 x2 x3 x4 x5 x6 x7 (ix2 i j)
    = val_main_v19 (F := Ideal) x0 x1 x2 x3 x7 (ix2 i j) + Ideal.ofBits .f32 0x3F000000#32
      * nrm (fun k => val_main_v45 (F := Ideal) x0 x1 x2 x3 x4 x5 x6 x7 (ix2 i k)) (fun k => x3 (ix2 5 k)) j := by
  pointwise [val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_cst_5, val_main_cst_6, val_main_cst_7, val_main_cst_8]
  rfl

/-- The result. -/
theorem result (i : Fin 16384) (j : Fin 1024) : val_main_v63 (F := Ideal) x0 x1 x2 x3 x4 x5 x6 x7 (ix2 i j)
    = out (fun k => x0 (ix2 i k)) (fun k => x1 (ix2 i k)) (fun k => x2 (ix2 i k))
        (fun k j => x7 (ix2 ⟨k.val, by omega⟩ j)) (fun k j => x7 (ix2 ⟨512 + k.val, by omega⟩ j))
        (fun k => x3 (ix2 3 k)) (fun k => x3 (ix2 4 k)) (fun k => x3 (ix2 5 k))
        (fun k e => x4 (ix3 1 k e)) (fun k e => x5 (ix3 1 k e)) (fun e j => x6 (ix3 1 e j)) j := by
  rw [v63_at]
  simp only [v45_at, v34_at, v19_at, v3_at]
  rfl

end Cert.Reference2Ideal.Ffn
-- ==== Proof.InMath.lean ====
module

public import Idealize.ShloMosaic.Lib.Pointwise
public import Idealize.ShloMosaic.Lib.Pipeline.ValueKit

@[expose] public section
noncomputable section

/-! One row of the combined projection, over the extended reals: the normalised row, the latents, the rotary keys and the queries. -/

namespace Cert.Inp
open Idealize.ShloMosaic

/-- A row of any width, divided by the root of its mean square (`w` is the width) and scaled. -/
def nrm {n : ℕ} (w : BitVec 32) (v g : Fin n → EReal) (j : Fin n) : EReal :=
  v j * Ideal.rsqrt (Ideal.div (∑ k, v k * v k) (Ideal.ofBits .f32 w) + Ideal.ofBits .f32 0x358637BD#32) * g j

/-- The angle of position `p` at frequency `i` of 32. -/
def ang (p : BitVec 32) (i : ℕ) : EReal :=
  ((p.toInt : ℝ) : EReal) * Ideal.pow (Ideal.ofBits .f32 0x461C4000#32)
    (Ideal.div (-((((BitVec.ofNat 32 i).toInt : ℝ)) : EReal)) (Ideal.ofBits .f32 0x42000000#32))

/-- A head's row turned by a position's angles: the two halves are the plane's coordinates. -/
def rot (v : Fin 64 → EReal) (p : BitVec 32) (j : Fin 64) : EReal :=
  if h : j.val < 32 then v j * Ideal.cos (ang p j.val) - v ⟨32 + j.val, by omega⟩ * Ideal.sin (ang p j.val)
  else v ⟨j.val - 32, by omega⟩ * Ideal.sin (ang p (j.val - 32)) + v j * Ideal.cos (ang p (j.val - 32))

/-- The turned row from the row and the row with its halves exchanged, the first negated. -/
theorem rot_eq (v w : Fin 64 → EReal) (p : BitVec 32) (h0 : ∀ e : Fin 32, w ⟨e.val, by omega⟩ = -v ⟨32 + e.val, by omega⟩)
    (h1 : ∀ e : Fin 32, w ⟨32 + e.val, by omega⟩ = v ⟨e.val, by omega⟩) (j : Fin 64) :
    v j * Ideal.cos (ang p (j.val % 32)) + w j * Ideal.sin (ang p (j.val % 32)) = rot v p j := by
  unfold rot
  split_ifs with h
  · have e := h0 ⟨j.val, h⟩
    rw [Nat.mod_eq_of_lt h, show w j = -v ⟨32 + j.val, by omega⟩ from e, EReal.neg_mul, sub_eq_add_neg]
  · obtain ⟨k, hk⟩ : ∃ k : Fin 32, j.val = 32 + k.val := ⟨⟨j.val - 32, by omega⟩, by simp only []; omega⟩
    have e := h1 k
    have ej : j = ⟨32 + k.val, Nat.add_lt_add_left k.isLt 32⟩ := Fin.ext hk
    subst ej
    have a : (32 + k.val) % 32 = k.val := by omega
    have b : 32 + k.val - 32 = k.val := by omega
    simp only [a, b]
    rw [e, add_comm]

/-- A sum of reals. -/
theorem coe_sum {n : ℕ} (f : Fin n → ℝ) : ((∑ k, f k : ℝ) : EReal) = ∑ k, (f k : EReal) :=
  map_sum (⟨⟨fun r : ℝ => (r : EReal), rfl⟩, fun _ _ => rfl⟩ : ℝ →+ EReal) f Finset.univ

/-- A sum of products of reals with the second factors negated. -/
theorem sum_neg {n : ℕ} (f g : Fin n → EReal) (hf : ∀ k, ∃ r : ℝ, f k = r) (hg : ∀ k, ∃ r : ℝ, g k = r) :
    ∑ k, f k * -g k = -∑ k, f k * g k := by
  choose a ha using hf
  choose b hb using hg
  simp only [ha, hb]
  rw [show (∑ k, (a k : EReal) * (b k : EReal)) = ((∑ k, a k * b k : ℝ) : EReal) from (coe_sum fun k => a k * b k).symm,
    show (∑ k, (a k : EReal) * -(b k : EReal)) = ((∑ k, a k * -b k : ℝ) : EReal) from (coe_sum fun k => a k * -b k).symm, ← EReal.coe_neg]
  simp

/-- A sum of squares is not negative. -/
theorem sq_nonneg' (x : EReal) : 0 ≤ x * x := by
  induction x with
  | bot => simp
  | top => simp
  | coe r => exact_mod_cast mul_self_nonneg r

/-- A normalised row is real when its scales are, whatever the row is. -/
theorem nrm_real {n : ℕ} (w : BitVec 32) (b : ℝ) (hb : 0 < b) (hw : Ideal.ofBits .f32 w = b) (v g : Fin n → EReal)
    (hg : ∀ k, ∃ r : ℝ, g k = r) (j : Fin n) : ∃ r : ℝ, nrm w v g j = r := by
  have he : ∃ e : ℝ, 0 < e ∧ Ideal.ofBits .f32 0x358637BD#32 = e := by
    refine ⟨(1 + 407485 / 8388608) * 2 ^ (-20 : ℤ), by positivity, ?_⟩
    simp [Ideal.ofBits, Ideal.ieee, -EReal.coe_mul]
    norm_num
  obtain ⟨e, e0, he⟩ := he
  obtain ⟨s, hs⟩ := hg j
  have hd : ∀ x : EReal, Ideal.div x (b : EReal) = x * ((b⁻¹ : ℝ) : EReal) := fun x => by
    unfold Ideal.div
    rw [if_neg (by exact_mod_cast hb.ne'), EReal.coe_inv]
  unfold nrm
  rw [hw, he, hs, hd]
  by_cases h : ∀ k, ∃ r : ℝ, v k = r
  · choose a ha using h
    simp only [ha]
    have h1 : (∑ k, (a k : EReal) * (a k : EReal)) = ((∑ k, a k * a k : ℝ) : EReal) := (coe_sum fun k => a k * a k).symm
    have h2 : 0 ≤ ∑ k, a k * a k := Finset.sum_nonneg fun k _ => mul_self_nonneg _
    have h3 : 0 < (∑ k, a k * a k) * b⁻¹ + e := by positivity
    rw [h1, ← EReal.coe_mul, ← EReal.coe_add]
    refine ⟨a j * (Real.sqrt ((∑ k, a k * a k) * b⁻¹ + e))⁻¹ * s, ?_⟩
    rw [show Ideal.rsqrt (((∑ k, a k * a k) * b⁻¹ + e : ℝ) : EReal) = (((Real.sqrt ((∑ k, a k * a k) * b⁻¹ + e))⁻¹ : ℝ) : EReal) from by
      show (if _ then _ else _) = _
      rw [if_neg (not_lt.mpr h3.le), if_neg h3.ne']]
    norm_cast
  · simp only [not_forall, not_exists] at h
    obtain ⟨k, hk⟩ := h
    have h1 : v k * v k = ⊤ := by
      by_cases ht : v k = ⊤
      · simp [ht]
      by_cases hn : v k = ⊥
      · simp [hn]
      exact absurd (EReal.coe_toReal ht hn).symm (hk _)
    have h2 : (∑ k, v k * v k) = ⊤ := by
      refine top_le_iff.mp (h1 ▸ ?_)
      exact Finset.single_le_sum (f := fun k => v k * v k) (fun k _ => sq_nonneg' _) (Finset.mem_univ k)
    have h3 : (⊤ : EReal) * ((b⁻¹ : ℝ) : EReal) = ⊤ := EReal.top_mul_coe_of_pos (by positivity)
    rw [h2, h3, EReal.top_add_coe]
    refine ⟨0, ?_⟩
    show v j * 0 * (s : EReal) = _
    simp

variable {N : ℕ} (y0 : Fin N → Fin 1024 → EReal) (pos : Fin N → BitVec 32) (y2 : Fin 1024 → EReal) (y3 : Fin 1024 → Fin 3136 → EReal)
  (y4 : Fin 768 → EReal) (y5 : Fin 768 → Fin 4 → Fin 192 → EReal) (y6 : Fin 256 → EReal) (y7 : Fin 256 → Fin 4 → Fin 256 → EReal) (i : Fin N)

/-- The normalised rows, their projections to the two latents and to the rotary key, the rotary and the absorbed queries. -/
def urow (k : Fin 1024) : EReal := nrm 0x44800000#32 (y0 i) y2 k
def qrow (c : Fin 768) : EReal := nrm 0x44400000#32 (fun j => ∑ k, urow y0 y2 i k * y3 k ⟨2048 + j.val, by omega⟩) y4 c
def lat (j : Fin 256) : EReal := nrm 0x43800000#32 (fun j => ∑ k, urow y0 y2 i k * y3 k ⟨2816 + j.val, by omega⟩) y6 j
def key (j : Fin 64) : EReal := rot (fun e => ∑ k, urow y0 y2 i k * y3 k ⟨3072 + e.val, by omega⟩) (pos i) j
def qrot (h : Fin 4) (e : Fin 64) : EReal := rot (fun e => ∑ c, qrow y0 y2 y3 y4 i c * y5 c h ⟨128 + e.val, by omega⟩) (pos i) e
def qlat (h : Fin 4) (r : Fin 256) : EReal := ∑ d : Fin 128, (∑ c, qrow y0 y2 y3 y4 i c * y5 c h ⟨d.val, by omega⟩) * y7 r h ⟨d.val, by omega⟩

section arrays
variable (x0 : FVec Ideal ⟨2, ![16384, 1024]⟩ .f32) (x1 : IVec ⟨1, ![2048]⟩ 32) (x2 : FVec Ideal ⟨2, ![6, 1024]⟩ .f32)
  (x3 : FVec Ideal ⟨2, ![1024, 3136]⟩ .f32) (x4 : FVec Ideal ⟨1, ![768]⟩ .f32) (x5 : FVec Ideal ⟨3, ![768, 4, 192]⟩ .f32)
  (x6 : FVec Ideal ⟨1, ![256]⟩ .f32) (x7 : FVec Ideal ⟨3, ![256, 4, 256]⟩ .f32) (i : Fin 16384)

/-- The arguments by their coordinates: the residual's rows, the position of a row, the scales and the weights. -/
abbrev a0 (i : Fin 16384) (k : Fin 1024) : EReal := x0 (ix2 i k)
abbrev a1 (i : Fin 16384) : BitVec 32 := x1 (ix1 ⟨i.val % 2048, Nat.mod_lt _ (by norm_num)⟩)
abbrev a2 (k : Fin 1024) : EReal := x2 (ix2 2 k)
abbrev a3 (k : Fin 1024) (j : Fin 3136) : EReal := x3 (ix2 k j)
abbrev a4 (c : Fin 768) : EReal := x4 (ix1 c)
abbrev a5 (c : Fin 768) (h : Fin 4) (d : Fin 192) : EReal := x5 (ix3 c h d)
abbrev a6 (r : Fin 256) : EReal := x6 (ix1 r)
abbrev a7 (r : Fin 256) (h : Fin 4) (d : Fin 256) : EReal := x7 (ix3 r h d)

/-- The results over whole arrays: the normalised rows, the latents, the rotary keys, the absorbed and the rotary queries. -/
def URow (j : Fin 1024) : EReal := urow (a0 x0) (a2 x2) i j
def Lat (j : Fin 256) : EReal := lat (a0 x0) (a2 x2) (a3 x3) (a6 x6) i j
def Key (j : Fin 64) : EReal := key (a0 x0) (a1 x1) (a2 x2) (a3 x3) i j
def QLat (j : Fin 1024) : EReal :=
  qlat (a0 x0) (a2 x2) (a3 x3) (a4 x4) (a5 x5) (a7 x7) i ⟨j.val / 256, by omega⟩ ⟨j.val % 256, by omega⟩
def QRot (j : Fin 256) : EReal :=
  qrot (a0 x0) (a1 x1) (a2 x2) (a3 x3) (a4 x4) (a5 x5) i ⟨j.val / 64, by omega⟩ ⟨j.val % 64, by omega⟩

end arrays

end Cert.Inp
-- ==== Proof.InPay.lean ====
module

public import proofs.«01_k».proof.Proof.Gen.Kernel3Ideal.Value
public import proofs.«01_k».proof.Proof.InMath
public import Idealize.ShloMosaic.Lib.ValueIdx
public import Idealize.ShloMosaic.Lib.Pointwise

@[expose] public section
set_option maxRecDepth 16384
noncomputable section

/-! What a grid point of the combined projection leaves in its windows, read at an index of its blocks. -/

namespace Cert.Kernel3Ideal.Inp
open Cert.Kernel3Ideal Cert.Kernel3Ideal.Gen
open Idealize.ShloMosaic Idealize.ShloMosaic.TcCoe Idealize.ShloMosaic.Tactic Cert.Inp

/-- The normalised row. -/
theorem u_at (x : FVec Ideal S1024x1024 .f32) (g : FVec Ideal S1x1024 .f32) (i : Fin 1024) (j : Fin 1024) :
    k0_pay3 (F := Ideal) x g (ix2 i j) = nrm 0x44800000#32 (fun k => x (ix2 i k)) (fun k => g (ix2 0 k)) j := by
  pointwise [k0_pay3]
  rfl

/-- Its projections. -/
theorem cq_at (x : FVec Ideal S1024x1024 .f32) (g : FVec Ideal S1x1024 .f32) (w : FVec Ideal S1024x768 .bf16) (i : Fin 1024) (j : Fin 768) :
    k0_pay4 (F := Ideal) x g w (ix2 i j) = ∑ k : Fin 1024, k0_pay3 (F := Ideal) x g (ix2 i k) * w (ix2 k j) := by
  pointwise [k0_pay4]

theorem ckv_at (x : FVec Ideal S1024x1024 .f32) (g : FVec Ideal S1x1024 .f32) (w : FVec Ideal S1024x256 .bf16) (i : Fin 1024) (j : Fin 256) :
    k0_pay5 (F := Ideal) x g w (ix2 i j) = ∑ k : Fin 1024, k0_pay3 (F := Ideal) x g (ix2 i k) * w (ix2 k j) := by
  pointwise [k0_pay5]

theorem kz_at (x : FVec Ideal S1024x1024 .f32) (g : FVec Ideal S1x1024 .f32) (w : FVec Ideal S1024x128 .bf16) (i : Fin 1024) (j : Fin 128) :
    k0_pay6 (F := Ideal) x g w (ix2 i j) = ∑ k : Fin 1024, k0_pay3 (F := Ideal) x g (ix2 i k) * w (ix2 k j) := by
  pointwise [k0_pay6]

/-- The normalised query latent. -/
theorem cqn_at (x : FVec Ideal S1024x1024 .f32) (g : FVec Ideal S1x1024 .f32) (w : FVec Ideal S1024x768 .bf16) (q : FVec Ideal S1x768 .f32)
    (i : Fin 1024) (j : Fin 768) : k0_pay9 (F := Ideal) (k0_pay4 x g w) (k0_pay7 q) (k0_pay8 x g w) (ix2 i j)
      = nrm 0x44400000#32 (fun k => k0_pay4 (F := Ideal) x g w (ix2 i k)) (fun k => q (ix2 0 k)) j := by
  pointwise [k0_pay9, k0_pay8, k0_pay7]
  rfl

/-- Its products. -/
theorem qn_at (v19 : FVec Ideal S1024x768 .f32) (v27 : FVec Ideal S1x768 .f32) (v34 : FVec Ideal S1024x1 .f32) (w : FVec Ideal S768x512 .bf16)
    (i : Fin 1024) (j : Fin 512) : k0_pay12 (F := Ideal) v19 v27 v34 w (ix2 i j)
      = ∑ k : Fin 768, k0_pay9 (F := Ideal) v19 v27 v34 (ix2 i k) * w (ix2 k j) := by
  pointwise [k0_pay12]

theorem qa_at (v19 : FVec Ideal S1024x768 .f32) (v27 : FVec Ideal S1x768 .f32) (v34 : FVec Ideal S1024x1 .f32) (w : FVec Ideal S768x256 .bf16)
    (i : Fin 1024) (j : Fin 256) : k0_pay10 (F := Ideal) v19 v27 v34 w (ix2 i j)
      = ∑ k : Fin 768, k0_pay9 (F := Ideal) v19 v27 v34 (ix2 i k) * w (ix2 k j) := by
  pointwise [k0_pay10]

theorem qb_at (v19 : FVec Ideal S1024x768 .f32) (v27 : FVec Ideal S1x768 .f32) (v34 : FVec Ideal S1024x1 .f32) (w : FVec Ideal S768x256 .bf16)
    (i : Fin 1024) (j : Fin 256) : k0_pay11 (F := Ideal) v19 v27 v34 w (ix2 i j)
      = ∑ k : Fin 768, k0_pay9 (F := Ideal) v19 v27 v34 (ix2 i k) * w (ix2 k j) := by
  pointwise [k0_pay11]

/-- The normalised latent. -/
theorem lat_at (v : FVec Ideal S1024x256 .f32) (g : FVec Ideal S1x256 .f32) (i : Fin 1024) (j : Fin 256) :
    k0_pay17 (F := Ideal) v g (ix2 i j) = nrm 0x43800000#32 (fun k => v (ix2 i k)) (fun k => g (ix2 0 k)) j := by
  pointwise [k0_pay17]
  rfl

/-- The rotary key. -/
theorem key_at (v : FVec Ideal S1024x128 .f32) (t : FVec Ideal S1024x128 .f32) (i : Fin 1024) (j : Fin 64) :
    k0_pay19 (F := Ideal) v t (ix2 i j) = v (ix2 i ⟨j.val, by omega⟩) * t (ix2 i ⟨j.val, by omega⟩)
      + v (ix2 i ⟨64 + j.val, by omega⟩) * t (ix2 i ⟨64 + j.val, by omega⟩) := by
  pointwise [k0_pay19]

/-- The rotary query. -/
theorem rot_at (a b c s : FVec Ideal S1024x256 .f32) (i : Fin 1024) (j : Fin 256) :
    k0_pay2 (F := Ideal) a b c s (ix2 i j) = a (ix2 i j) * c (ix2 i j) + b (ix2 i j) * s (ix2 i j) := by
  pointwise [k0_pay2]

/-- The absorbed queries of the four heads. -/
theorem abs0_at (v19 : FVec Ideal S1024x768 .f32) (v27 : FVec Ideal S1x768 .f32) (v34 : FVec Ideal S1024x1 .f32) (w : FVec Ideal S768x512 .bf16)
    (k : FVec Ideal S1x128x256 .bf16) (i : Fin 1024) (j : Fin 256) : k0_pay13 (F := Ideal) v19 v27 v34 w k (ix2 i j)
      = ∑ d : Fin 128, k0_pay12 (F := Ideal) v19 v27 v34 w (ix2 i ⟨d.val, by omega⟩) * k (ix3 0 d j) := by
  pointwise [k0_pay13]

theorem abs1_at (v19 : FVec Ideal S1024x768 .f32) (v27 : FVec Ideal S1x768 .f32) (v34 : FVec Ideal S1024x1 .f32) (w : FVec Ideal S768x512 .bf16)
    (k : FVec Ideal S1x128x256 .bf16) (i : Fin 1024) (j : Fin 256) : k0_pay14 (F := Ideal) v19 v27 v34 w k (ix2 i j)
      = ∑ d : Fin 128, k0_pay12 (F := Ideal) v19 v27 v34 w (ix2 i ⟨128 + d.val, by omega⟩) * k (ix3 0 d j) := by
  pointwise [k0_pay14]

theorem abs2_at (v19 : FVec Ideal S1024x768 .f32) (v27 : FVec Ideal S1x768 .f32) (v34 : FVec Ideal S1024x1 .f32) (w : FVec Ideal S768x512 .bf16)
    (k : FVec Ideal S1x128x256 .bf16) (i : Fin 1024) (j : Fin 256) : k0_pay15 (F := Ideal) v19 v27 v34 w k (ix2 i j)
      = ∑ d : Fin 128, k0_pay12 (F := Ideal) v19 v27 v34 w (ix2 i ⟨256 + d.val, by omega⟩) * k (ix3 0 d j) := by
  pointwise [k0_pay15]

theorem abs3_at (y : FVec Ideal S1024x512 .bf16) (k : FVec Ideal S1x128x256 .bf16) (i : Fin 1024) (j : Fin 256) :
    k0_pay16 (F := Ideal) y k (ix2 i j) = ∑ d : Fin 128, y (ix2 i ⟨384 + d.val, by omega⟩) * k (ix3 0 d j) := by
  pointwise [k0_pay16]

variable (x0 : FVec Ideal S1024x1024 .f32) (x1 : FVec Ideal S1x1024 .f32) (x2 : FVec Ideal S1024x128 .f32) (x3 x4 : FVec Ideal S1024x256 .f32)
  (x5 : FVec Ideal S1024x768 .bf16) (x6 : FVec Ideal S1024x256 .bf16) (x7 : FVec Ideal S1024x128 .bf16) (x8 : FVec Ideal S1x768 .f32)
  (x9 : FVec Ideal S1x256 .f32) (x10 : FVec Ideal S768x512 .bf16) (x11 x12 : FVec Ideal S768x256 .bf16) (x13 : FVec Ideal S4x128x256 .bf16) (a : Fin 1024)

/-- The normalised row of a block. -/
abbrev U (k : Fin 1024) : EReal := nrm 0x44800000#32 (fun k => x0 (ix2 a k)) (fun k => x1 (ix2 0 k)) k

/-- The normalised query latent of a block's row. -/
abbrev Q (c : Fin 768) : EReal := nrm 0x44400000#32 (fun j => ∑ k, U x0 x1 a k * x5 (ix2 k j)) (fun k => x8 (ix2 0 k)) c

/-- The latents a grid point leaves. -/
theorem out14_at (j : Fin 256) : out0_14 (F := Ideal) x0 x1 x2 x3 x4 x5 x6 x7 x8 x9 x10 x11 x12 x13 (ix2 a j)
    = nrm 0x43800000#32 (fun j => ∑ k, U x0 x1 a k * x6 (ix2 k j)) (fun k => x9 (ix2 0 k)) j := by
  unfold out0_14 k0_pay21
  canon_tiles x g
  obtain ⟨p, q, rfl⟩ : ∃ (p : Fin 1024) (q : Fin 256), x = ix2 p q := ⟨x 0, x 1, (ix2_eta x).symm⟩
  have ea : a = p := Fin.ext g0
  have ej : j = q := Fin.ext g1
  subst ea ej
  simp only [lat_at, ckv_at, u_at]
  pointwise []

/-- The rotary keys. -/
theorem out15_at (j : Fin 64) : out0_15 (F := Ideal) x0 x1 x2 x3 x4 x5 x6 x7 x8 x9 x10 x11 x12 x13 (ix2 a j)
    = (∑ k, U x0 x1 a k * x7 (ix2 k ⟨j.val, by omega⟩)) * x2 (ix2 a ⟨j.val, by omega⟩)
      + (∑ k, U x0 x1 a k * x7 (ix2 k ⟨64 + j.val, by omega⟩)) * x2 (ix2 a ⟨64 + j.val, by omega⟩) := by
  unfold out0_15 k0_pay22
  canon_tiles x g
  obtain ⟨p, q, rfl⟩ : ∃ (p : Fin 1024) (q : Fin 64), x = ix2 p q := ⟨x 0, x 1, (ix2_eta x).symm⟩
  have ea : a = p := Fin.ext g0
  have ej : j = q := Fin.ext g1
  subst ea ej
  simp only [key_at, kz_at, u_at]
  pointwise []

/-- The latents, narrowed. -/
theorem out16_at (j : Fin 256) : out0_16 (F := Ideal) x0 x1 x2 x3 x4 x5 x6 x7 x8 x9 x10 x11 x12 x13 (ix2 a j)
    = nrm 0x43800000#32 (fun j => ∑ k, U x0 x1 a k * x6 (ix2 k j)) (fun k => x9 (ix2 0 k)) j := by
  unfold out0_16 k0_pay21 k0_pay18
  canon_tiles x g
  obtain ⟨p, q, rfl⟩ : ∃ (p : Fin 1024) (q : Fin 256), x = ix2 p q := ⟨x 0, x 1, (ix2_eta x).symm⟩
  have ea : a = p := Fin.ext g0
  have ej : j = q := Fin.ext g1
  subst ea ej
  change k0_pay17 (F := Ideal) _ _ _ = _
  simp only [lat_at, ckv_at, u_at]
  pointwise []

/-- The rotary keys, narrowed. -/
theorem out17_at (j : Fin 64) : out0_17 (F := Ideal) x0 x1 x2 x3 x4 x5 x6 x7 x8 x9 x10 x11 x12 x13 (ix2 a j)
    = (∑ k, U x0 x1 a k * x7 (ix2 k ⟨j.val, by omega⟩)) * x2 (ix2 a ⟨j.val, by omega⟩)
      + (∑ k, U x0 x1 a k * x7 (ix2 k ⟨64 + j.val, by omega⟩)) * x2 (ix2 a ⟨64 + j.val, by omega⟩) := by
  unfold out0_17 k0_pay22 k0_pay1
  canon_tiles x g
  obtain ⟨p, q, rfl⟩ : ∃ (p : Fin 1024) (q : Fin 64), x = ix2 p q := ⟨x 0, x 1, (ix2_eta x).symm⟩
  have ea : a = p := Fin.ext g0
  have ej : j = q := Fin.ext g1
  subst ea ej
  change k0_pay19 (F := Ideal) _ _ _ = _
  simp only [key_at, kz_at, u_at]
  pointwise []

/-- The rotary queries. -/
theorem out19_at (j : Fin 256) : out0_19 (F := Ideal) x0 x1 x2 x3 x4 x5 x6 x7 x8 x9 x10 x11 x12 x13 (ix2 a j)
    = (∑ c, Q x0 x1 x5 x8 a c * x11 (ix2 c j)) * x3 (ix2 a j) + (∑ c, Q x0 x1 x5 x8 a c * x12 (ix2 c j)) * x4 (ix2 a j) := by
  unfold out0_19 k0_pay20 k0_pay23 k0_pay24
  canon_tiles x g
  obtain ⟨p, q, rfl⟩ : ∃ (p : Fin 1024) (q : Fin 256), x = ix2 p q := ⟨x 0, x 1, (ix2_eta x).symm⟩
  have ea : a = p := Fin.ext g0
  have ej : j = q := Fin.ext g1
  subst ea ej
  simp only [rot_at, qa_at, qb_at, cqn_at, cq_at, u_at]
  pointwise []

/-- The normalised rows. -/
theorem out20_at (j : Fin 1024) : out0_20 (F := Ideal) x0 x1 x2 x3 x4 x5 x6 x7 x8 x9 x10 x11 x12 x13 (ix2 a j)
    = U x0 x1 a j := by
  unfold out0_20
  canon_tiles x g
  obtain ⟨p, q, rfl⟩ : ∃ (p : Fin 1024) (q : Fin 1024), x = ix2 p q := ⟨x 0, x 1, (ix2_eta x).symm⟩
  have ea : a = p := Fin.ext g0
  have ej : j = q := Fin.ext g1
  subst ea ej
  simp only [u_at]
  pointwise []

/-- The absorbed queries. -/
theorem out18_at (h : Fin 4) (r : Fin 256) : out0_18 (F := Ideal) x0 x1 x2 x3 x4 x5 x6 x7 x8 x9 x10 x11 x12 x13 (ix2 a ⟨256 * h.val + r.val, by omega⟩)
    = ∑ d : Fin 128, (∑ c, Q x0 x1 x5 x8 a c * x10 (ix2 c ⟨128 * h.val + d.val, by omega⟩)) * x13 (ix3 h d r) := by
  unfold out0_18 k0_pay20 k0_pay23 k0_pay24
  canon_tiles x g
  · obtain ⟨p, q, rfl⟩ : ∃ (p : Fin 1024) (q : Fin 256), x = ix2 p q := ⟨x 0, x 1, (ix2_eta x).symm⟩
    have ea : a = p := Fin.ext g0
    have g2 : 256 * h.val + r.val = 768 + q.val := g1
    have eh : h = 3 := Fin.ext (by have h1 := r.isLt; have h2 := q.isLt; change h.val = 3; clear g0 g1; omega)
    have er : r = q := Fin.ext (by subst eh; change 256 * 3 + r.val = _ at g2; clear g0 g1; omega)
    clear g0 g1 g2 x0_lt x1_lt
    subst ea eh er
    simp only [abs3_at, qn_at, cqn_at, cq_at, u_at]
    pointwise []
  · obtain ⟨p, q, rfl⟩ : ∃ (p : Fin 1024) (q : Fin 256), x = ix2 p q := ⟨x 0, x 1, (ix2_eta x).symm⟩
    have ea : a = p := Fin.ext g0
    have g2 : 256 * h.val + r.val = 512 + q.val := g1
    have eh : h = 2 := Fin.ext (by have h1 := r.isLt; have h2 := q.isLt; change h.val = 2; clear g0 g1; omega)
    have er : r = q := Fin.ext (by subst eh; change 256 * 2 + r.val = _ at g2; clear g0 g1; omega)
    clear g0 g1 g2 x0_lt x1_lt
    subst ea eh er
    simp only [abs2_at, qn_at, cqn_at, cq_at, u_at]
    pointwise []
  · obtain ⟨p, q, rfl⟩ : ∃ (p : Fin 1024) (q : Fin 256), x = ix2 p q := ⟨x 0, x 1, (ix2_eta x).symm⟩
    have ea : a = p := Fin.ext g0
    have g2 : 256 * h.val + r.val = 256 + q.val := g1
    have eh : h = 1 := Fin.ext (by have h1 := r.isLt; have h2 := q.isLt; change h.val = 1; clear g0 g1; omega)
    have er : r = q := Fin.ext (by subst eh; change 256 * 1 + r.val = _ at g2; clear g0 g1; omega)
    clear g0 g1 g2 x0_lt x1_lt
    subst ea eh er
    simp only [abs1_at, qn_at, cqn_at, cq_at, u_at]
    pointwise []
  · obtain ⟨p, q, rfl⟩ : ∃ (p : Fin 1024) (q : Fin 256), x = ix2 p q := ⟨x 0, x 1, (ix2_eta x).symm⟩
    have ea : a = p := Fin.ext g0
    have g2 : 256 * h.val + r.val = q.val := g1
    have eh : h = 0 := Fin.ext (by have h1 := r.isLt; have h2 := q.isLt; change h.val = 0; clear g0 g1; omega)
    have er : r = q := Fin.ext (by subst eh; change 256 * 0 + r.val = _ at g2; clear g0 g1; omega)
    clear g0 g1 g2 x0_lt x1_lt
    subst ea eh er
    simp only [abs0_at, qn_at, cqn_at, cq_at, u_at]
    pointwise []

end Cert.Kernel3Ideal.Inp
-- ==== Proof.InVal.lean ====
module

public import proofs.«01_k».proof.Proof.InPay

@[expose] public section
set_option maxRecDepth 16384
noncomputable section

/-! The combined projection's result arrays after the run. -/

namespace Cert.Kernel3Ideal.Inp
open Cert.Kernel3Ideal Cert.Kernel3Ideal.Gen Cert.Inp
open Idealize.ShloMosaic Idealize.ShloMosaic.TcCoe Idealize.ShloMosaic.Tactic
open Idealize.SL Idealize.SL.Sem

variable (m : (ℓ : Loc nD τ sig) → Buf (Elt Ideal) ℓ) (ρ : Dev nD → PrngReg)

/-- Where the windows' blocks lie. -/
theorem idx : ∀ t : Fin cfg0.N, win0_0.index t = ![t.val, 0] ∧ win0_1.index t = ![0, 0] ∧ win0_2.index t = ![t.val % 2, 0]
    ∧ win0_3.index t = ![t.val % 2, 0] ∧ win0_4.index t = ![t.val % 2, 0] ∧ win0_5.index t = ![0, 0] ∧ win0_6.index t = ![0, 0] ∧ win0_7.index t = ![0, 0]
    ∧ win0_8.index t = ![0, 0] ∧ win0_9.index t = ![0, 0] ∧ win0_10.index t = ![0, 0] ∧ win0_11.index t = ![0, 0] ∧ win0_12.index t = ![0, 0]
    ∧ win0_13.index t = ![0, 0, 0] ∧ win0_14.index t = ![t.val, 0] ∧ win0_15.index t = ![t.val, 0] ∧ win0_16.index t = ![t.val, 0]
    ∧ win0_17.index t = ![t.val, 0] ∧ win0_18.index t = ![t.val, 0] ∧ win0_19.index t = ![t.val, 0] ∧ win0_20.index t = ![t.val, 0]
    ∧ t.val < 16 := (by decide +kernel : ∀ t : Fin grid0.N, _)

/-- The residual's block. -/
theorem blk0
    (c : Dev nD) (t : Fin cfg0.N) (a : Fin 1024) (k : Fin 1024) (i : Fin 16384) (hi : i.val = t.val * 1024 + a.val) :
    (show FVec Ideal S1024x1024 .f32 from iblk m c 0 t) (ix2 a k) = (show FVec Ideal S16384x1024 .f32 from m ((c : Thread nD τ).loc main_arg0)) (ix2 i k) := by
  blk_ext [iblk, V, idx t]

/-- The scales of the norm. -/
theorem blk1
    (c : Dev nD) (t : Fin cfg0.N) (k : Fin 1024) :
    (show FVec Ideal S1x1024 .f32 from iblk m c 1 t) (ix2 0 k) = (show FVec Ideal S6x1024 .f32 from m ((c : Thread nD τ).loc main_arg2)) (ix2 2 k) := by
  blk_simp [iblk, idx t]
  entry_read
  pointwise []
  blk_ext [V, idx t]

/-- A table of the angles. -/
theorem blk3
    (c : Dev nD) (t : Fin cfg0.N) (a : Fin 1024) (j : Fin 256) (p : Fin 2048) (hp : p.val = t.val % 2 * 1024 + a.val) :
    (show FVec Ideal S1024x256 .f32 from iblk m c 3 t) (ix2 a j) = Ideal.cos (ang ((show IVec S2048 32 from m ((c : Thread nD τ).loc main_arg1)) (ix1 p)) (j.val % 32)) := by
  blk_simp [iblk, idx t]
  entry_read
  pointwise []
  refine congrArg Ideal.cos (congrArg₂ ang ?_ ?_)
  · blk_ext [V, idx t]
  · blk_simp [idx t] <;> (show j.val % 64 % 32 = _; omega)

/-- A table of the angles. -/
theorem blk4
    (c : Dev nD) (t : Fin cfg0.N) (a : Fin 1024) (j : Fin 256) (p : Fin 2048) (hp : p.val = t.val % 2 * 1024 + a.val) :
    (show FVec Ideal S1024x256 .f32 from iblk m c 4 t) (ix2 a j) = Ideal.sin (ang ((show IVec S2048 32 from m ((c : Thread nD τ).loc main_arg1)) (ix1 p)) (j.val % 32)) := by
  blk_simp [iblk, idx t]
  entry_read
  pointwise []
  refine congrArg Ideal.sin (congrArg₂ ang ?_ ?_)
  · blk_ext [V, idx t]
  · blk_simp [idx t] <;> (show j.val % 64 % 32 = _; omega)

set_option maxHeartbeats 1000000 in
/-- A table of the angles. -/
theorem blk2a
    (c : Dev nD) (t : Fin cfg0.N) (a : Fin 1024) (j : Fin 64) (p : Fin 2048) (hp : p.val = t.val % 2 * 1024 + a.val) :
    (show FVec Ideal S1024x128 .f32 from iblk m c 2 t) (ix2 a ⟨j.val, by omega⟩) = Ideal.cos (ang ((show IVec S2048 32 from m ((c : Thread nD τ).loc main_arg1)) (ix1 p)) (j.val % 32)) := by
  blk_simp [iblk, idx t]
  entry_read
  pointwise []
  refine (dif_pos ?_).trans (congrArg Ideal.cos (congrArg₂ ang ?_ ?_))
  · blk_simp [idx t] <;> (show j.val < 64; omega)
  · blk_ext [V, idx t]
  · blk_simp [idx t] <;> (show j.val % 32 = _; omega)

set_option maxHeartbeats 1000000 in
/-- A table of the angles. -/
theorem blk2b
    (c : Dev nD) (t : Fin cfg0.N) (a : Fin 1024) (j : Fin 64) (p : Fin 2048) (hp : p.val = t.val % 2 * 1024 + a.val) :
    (show FVec Ideal S1024x128 .f32 from iblk m c 2 t) (ix2 a ⟨64 + j.val, by omega⟩) = Ideal.sin (ang ((show IVec S2048 32 from m ((c : Thread nD τ).loc main_arg1)) (ix1 p)) (j.val % 32)) := by
  blk_simp [iblk, idx t]
  entry_read
  pointwise []
  refine (dif_neg ?_).trans (congrArg Ideal.sin (congrArg₂ ang ?_ ?_))
  · blk_simp [idx t] <;> (show ¬ 64 + j.val < 64; omega)
  · blk_ext [V, idx t]
  · blk_simp [idx t] <;> (show (64 + j.val - 64) % 32 = _; omega)

/-- The latent queries' weights. -/
theorem blk5
    (c : Dev nD) (t : Fin cfg0.N) (k : Fin 1024) (j : Fin 768) :
    (show FVec Ideal S1024x768 .bf16 from iblk m c 5 t) (ix2 k j) = (show FVec Ideal S1024x3136 .f32 from m ((c : Thread nD τ).loc main_arg3)) (ix2 k ⟨2048 + j.val, by omega⟩) := by
  blk_simp [iblk, idx t]
  entry_read
  pointwise []
  blk_ext [V, idx t]

/-- The latents' weights. -/
theorem blk6
    (c : Dev nD) (t : Fin cfg0.N) (k : Fin 1024) (j : Fin 256) :
    (show FVec Ideal S1024x256 .bf16 from iblk m c 6 t) (ix2 k j) = (show FVec Ideal S1024x3136 .f32 from m ((c : Thread nD τ).loc main_arg3)) (ix2 k ⟨2816 + j.val, by omega⟩) := by
  blk_simp [iblk, idx t]
  entry_read
  pointwise []
  blk_ext [V, idx t]

/-- The rotary keys' weights. -/
theorem blk7a
    (c : Dev nD) (t : Fin cfg0.N) (k : Fin 1024) (j : Fin 64) :
    (show FVec Ideal S1024x128 .bf16 from iblk m c 7 t) (ix2 k ⟨j.val, by omega⟩) = (show FVec Ideal S1024x3136 .f32 from m ((c : Thread nD τ).loc main_arg3)) (ix2 k ⟨3072 + j.val, by omega⟩) := by
  blk_simp [iblk, idx t]
  entry_read
  pointwise []
  refine (dif_pos ?_).trans ?_
  · blk_simp [idx t] <;> (show j.val < 64; omega)
  blk_ext [V, idx t]

/-- The rotary keys' weights, turned. -/
theorem blk7b
    (c : Dev nD) (t : Fin cfg0.N) (k : Fin 1024) (j : Fin 32) :
    (show FVec Ideal S1024x128 .bf16 from iblk m c 7 t) (ix2 k ⟨64 + j.val, by omega⟩) = -(show FVec Ideal S1024x3136 .f32 from m ((c : Thread nD τ).loc main_arg3)) (ix2 k ⟨3072 + (32 + j.val), by omega⟩) := by
  blk_simp [iblk, idx t]
  entry_read
  pointwise []
  refine (dif_neg ?_).trans ((dif_pos ?_).trans (congrArg Neg.neg ?_))
  · blk_simp [idx t] <;> (show ¬ 64 + j.val < 64; omega)
  · blk_simp [idx t] <;> (show 64 + j.val - 64 < 32; omega)
  blk_ext [V, idx t]

/-- The rotary keys' weights, turned. -/
theorem blk7c
    (c : Dev nD) (t : Fin cfg0.N) (k : Fin 1024) (j : Fin 32) :
    (show FVec Ideal S1024x128 .bf16 from iblk m c 7 t) (ix2 k ⟨64 + (32 + j.val), by omega⟩) = (show FVec Ideal S1024x3136 .f32 from m ((c : Thread nD τ).loc main_arg3)) (ix2 k ⟨3072 + j.val, by omega⟩) := by
  blk_simp [iblk, idx t]
  entry_read
  pointwise []
  refine (dif_neg ?_).trans ((dif_neg ?_).trans ?_)
  · blk_simp [idx t] <;> (show ¬ 64 + (32 + j.val) < 64; omega)
  · blk_simp [idx t] <;> (show ¬ 64 + (32 + j.val) - 64 < 32; omega)
  blk_ext [V, idx t]

/-- The scales of the query norm. -/
theorem blk8
    (c : Dev nD) (t : Fin cfg0.N) (j : Fin 768) :
    (show FVec Ideal S1x768 .f32 from iblk m c 8 t) (ix2 0 j) = (show FVec Ideal S768 .f32 from m ((c : Thread nD τ).loc main_arg4)) (ix1 j) := by
  blk_simp [iblk, idx t]
  entry_read
  pointwise []
  blk_ext [V, idx t]

/-- The scales of the latent norm. -/
theorem blk9
    (c : Dev nD) (t : Fin cfg0.N) (j : Fin 256) :
    (show FVec Ideal S1x256 .f32 from iblk m c 9 t) (ix2 0 j) = (show FVec Ideal S256 .f32 from m ((c : Thread nD τ).loc main_arg6)) (ix1 j) := by
  blk_simp [iblk, idx t]
  entry_read
  pointwise []
  blk_ext [V, idx t]

/-- The query weights' plain part. -/
theorem blk10
    (c : Dev nD) (t : Fin cfg0.N) (c' : Fin 768) (h : Fin 4) (d : Fin 128) :
    (show FVec Ideal S768x512 .bf16 from iblk m c 10 t) (ix2 c' ⟨128 * h.val + d.val, by omega⟩) = (show FVec Ideal S768x4x192 .f32 from m ((c : Thread nD τ).loc main_arg5)) (ix3 c' h ⟨d.val, by omega⟩) := by
  blk_simp [iblk, idx t]
  entry_read
  pointwise []
  blk_ext [V, idx t]

/-- The query weights' rotary part. -/
theorem blk11
    (c : Dev nD) (t : Fin cfg0.N) (c' : Fin 768) (h : Fin 4) (e : Fin 64) :
    (show FVec Ideal S768x256 .bf16 from iblk m c 11 t) (ix2 c' ⟨64 * h.val + e.val, by omega⟩) = (show FVec Ideal S768x4x192 .f32 from m ((c : Thread nD τ).loc main_arg5)) (ix3 c' h ⟨128 + e.val, by omega⟩) := by
  blk_simp [iblk, idx t]
  entry_read
  pointwise []
  blk_ext [V, idx t]

set_option maxHeartbeats 1000000 in
/-- The rotary part, turned. -/
theorem blk12a
    (c : Dev nD) (t : Fin cfg0.N) (c' : Fin 768) (h : Fin 4) (e : Fin 32) :
    (show FVec Ideal S768x256 .bf16 from iblk m c 12 t) (ix2 c' ⟨64 * h.val + e.val, by omega⟩) = -(show FVec Ideal S768x4x192 .f32 from m ((c : Thread nD τ).loc main_arg5)) (ix3 c' h ⟨128 + (32 + e.val), by omega⟩) := by
  blk_simp [iblk, idx t]
  entry_read
  pointwise []
  refine (dif_pos ?_).trans (congrArg Neg.neg ?_)
  · blk_simp [idx t] <;> (show (64 * h.val + e.val) % 64 < 32; omega)
  blk_ext [V, idx t]

set_option maxHeartbeats 1000000 in
/-- The rotary part, turned. -/
theorem blk12b
    (c : Dev nD) (t : Fin cfg0.N) (c' : Fin 768) (h : Fin 4) (e : Fin 32) :
    (show FVec Ideal S768x256 .bf16 from iblk m c 12 t) (ix2 c' ⟨64 * h.val + (32 + e.val), by omega⟩) = (show FVec Ideal S768x4x192 .f32 from m ((c : Thread nD τ).loc main_arg5)) (ix3 c' h ⟨128 + e.val, by omega⟩) := by
  blk_simp [iblk, idx t]
  entry_read
  pointwise []
  refine (dif_neg ?_).trans ?_
  · blk_simp [idx t] <;> (show ¬ (64 * h.val + (32 + e.val)) % 64 < 32; omega)
  blk_ext [V, idx t]

/-- The key weights. -/
theorem blk13
    (c : Dev nD) (t : Fin cfg0.N) (h : Fin 4) (d : Fin 128) (r : Fin 256) :
    (show FVec Ideal S4x128x256 .bf16 from iblk m c 13 t) (ix3 h d r) = (show FVec Ideal S256x4x256 .f32 from m ((c : Thread nD τ).loc main_arg7)) (ix3 r h ⟨d.val, by omega⟩) := by
  blk_simp [iblk, idx t]
  entry_read
  pointwise []
  blk_ext [V, idx t]

end Cert.Kernel3Ideal.Inp
-- ==== Proof.InOut.lean ====
module

public import proofs.«01_k».proof.Proof.InVal

@[expose] public section
set_option maxRecDepth 16384
noncomputable section

/-! The combined projection's result arrays as functions of its arguments. -/

namespace Cert.Kernel3Ideal.Inp
open Cert.Kernel3Ideal Cert.Kernel3Ideal.Gen Cert.Inp
open Idealize.ShloMosaic Idealize.ShloMosaic.TcCoe Idealize.ShloMosaic.Tactic
open Idealize.SL Idealize.SL.Sem

/-- The widths of the two normalised rows that meet negated weights, as reals. -/
theorem w1024 : Ideal.ofBits .f32 0x44800000#32 = ((1024 : ℝ) : EReal) := by simp [Ideal.ofBits, Ideal.ieee, -EReal.coe_mul]; norm_num
theorem w768 : Ideal.ofBits .f32 0x44400000#32 = ((768 : ℝ) : EReal) := by simp [Ideal.ofBits, Ideal.ieee, -EReal.coe_mul]; norm_num

section points
variable (x0 : FVec Ideal S1024x1024 .f32) (x1 : FVec Ideal S1x1024 .f32) (x2 : FVec Ideal S1024x128 .f32) (x3 x4 : FVec Ideal S1024x256 .f32)
  (x5 : FVec Ideal S1024x768 .bf16) (x6 : FVec Ideal S1024x256 .bf16) (x7 : FVec Ideal S1024x128 .bf16) (x8 : FVec Ideal S1x768 .f32)
  (x9 : FVec Ideal S1x256 .f32) (x10 : FVec Ideal S768x512 .bf16) (x11 x12 : FVec Ideal S768x256 .bf16) (x13 : FVec Ideal S4x128x256 .bf16) (a : Fin 1024)
  (y0 : Fin 16384 → Fin 1024 → EReal) (pos : Fin 16384 → BitVec 32) (y2 : Fin 1024 → EReal) (y3 : Fin 1024 → Fin 3136 → EReal)
  (y4 : Fin 768 → EReal) (y5 : Fin 768 → Fin 4 → Fin 192 → EReal) (y6 : Fin 256 → EReal) (y7 : Fin 256 → Fin 4 → Fin 256 → EReal) (i : Fin 16384)
  (e0 : ∀ k, x0 (ix2 a k) = y0 i k) (e1 : ∀ k, x1 (ix2 0 k) = y2 k)

include e0 e1 in
/-- A block's normalised row is the array's. -/
theorem pU (k : Fin 1024) : U x0 x1 a k = urow y0 y2 i k := by
  unfold U urow
  simp only [e0, e1]

/-- A normalised row with real scales is real. -/
theorem urow_real (h2 : ∀ k, ∃ r : ℝ, y2 k = r) (k : Fin 1024) : ∃ r : ℝ, urow y0 y2 i k = r :=
  nrm_real _ 1024 (by norm_num) w1024 _ _ h2 k

/-- So is the query's. -/
theorem qrow_real (h4 : ∀ k, ∃ r : ℝ, y4 k = r) (k : Fin 768) : ∃ r : ℝ, qrow y0 y2 y3 y4 i k = r :=
  nrm_real _ 768 (by norm_num) w768 _ _ h4 k

include e0 e1 in
/-- The latents. -/
theorem p14 (e6 : ∀ k (j : Fin 256), x6 (ix2 k j) = y3 k ⟨2816 + j.val, by omega⟩) (e9 : ∀ k, x9 (ix2 0 k) = y6 k) (j : Fin 256) :
    nrm 0x43800000#32 (fun j => ∑ k, U x0 x1 a k * x6 (ix2 k j)) (fun k => x9 (ix2 0 k)) j = lat y0 y2 y3 y6 i j := by
  simp only [pU x0 x1 a y0 y2 i e0 e1, e6, e9]
  rfl

include e0 e1 in
/-- The rotary keys. -/
theorem p15 (h2 : ∀ k, ∃ r : ℝ, y2 k = r) (h3 : ∀ k j, ∃ r : ℝ, y3 k j = r)
    (e2a : ∀ j : Fin 64, x2 (ix2 a ⟨j.val, by omega⟩) = Ideal.cos (ang (pos i) (j.val % 32)))
    (e2b : ∀ j : Fin 64, x2 (ix2 a ⟨64 + j.val, by omega⟩) = Ideal.sin (ang (pos i) (j.val % 32)))
    (e7a : ∀ k (j : Fin 64), x7 (ix2 k ⟨j.val, by omega⟩) = y3 k ⟨3072 + j.val, by omega⟩)
    (e7b : ∀ k (j : Fin 32), x7 (ix2 k ⟨64 + j.val, by omega⟩) = -y3 k ⟨3072 + (32 + j.val), by omega⟩)
    (e7c : ∀ k (j : Fin 32), x7 (ix2 k ⟨64 + (32 + j.val), by omega⟩) = y3 k ⟨3072 + j.val, by omega⟩) (j : Fin 64) :
    (∑ k, U x0 x1 a k * x7 (ix2 k ⟨j.val, by omega⟩)) * x2 (ix2 a ⟨j.val, by omega⟩)
      + (∑ k, U x0 x1 a k * x7 (ix2 k ⟨64 + j.val, by omega⟩)) * x2 (ix2 a ⟨64 + j.val, by omega⟩) = key y0 pos y2 y3 i j := by
  simp only [pU x0 x1 a y0 y2 i e0 e1, e2a, e2b, e7a]
  refine rot_eq (fun e => ∑ k, urow y0 y2 i k * y3 k ⟨3072 + e.val, by omega⟩) (fun e => ∑ k, urow y0 y2 i k * x7 (ix2 k ⟨64 + e.val, by omega⟩)) (pos i)
    (fun e => ?_) (fun e => ?_) j
  · simp only [e7b]
    exact sum_neg _ _ (urow_real y0 y2 i h2) fun k => h3 k _
  · simp only [e7c]

include e0 e1 in
/-- The normalised query latent. -/
theorem pQ (e5 : ∀ k (j : Fin 768), x5 (ix2 k j) = y3 k ⟨2048 + j.val, by omega⟩) (e8 : ∀ k, x8 (ix2 0 k) = y4 k) (c : Fin 768) :
    Q x0 x1 x5 x8 a c = qrow y0 y2 y3 y4 i c := by
  unfold Q
  simp only [pU x0 x1 a y0 y2 i e0 e1, e5, e8]
  rfl

include e0 e1 in
/-- The absorbed queries. -/
theorem p18 (e5 : ∀ k (j : Fin 768), x5 (ix2 k j) = y3 k ⟨2048 + j.val, by omega⟩) (e8 : ∀ k, x8 (ix2 0 k) = y4 k)
    (e10 : ∀ c (h : Fin 4) (d : Fin 128), x10 (ix2 c ⟨128 * h.val + d.val, by omega⟩) = y5 c h ⟨d.val, by omega⟩)
    (e13 : ∀ h (d : Fin 128) r, x13 (ix3 h d r) = y7 r h ⟨d.val, by omega⟩) (h : Fin 4) (r : Fin 256) :
    ∑ d : Fin 128, (∑ c, Q x0 x1 x5 x8 a c * x10 (ix2 c ⟨128 * h.val + d.val, by omega⟩)) * x13 (ix3 h d r) = qlat y0 y2 y3 y4 y5 y7 i h r := by
  simp only [pQ x0 x1 x5 x8 a y0 y2 y3 y4 i e0 e1 e5 e8, e10, e13]
  rfl

include e0 e1 in
/-- The rotary queries. -/
theorem p19 (h4 : ∀ k, ∃ r : ℝ, y4 k = r) (h5 : ∀ c h d, ∃ r : ℝ, y5 c h d = r)
    (e5 : ∀ k (j : Fin 768), x5 (ix2 k j) = y3 k ⟨2048 + j.val, by omega⟩) (e8 : ∀ k, x8 (ix2 0 k) = y4 k)
    (e3 : ∀ j : Fin 256, x3 (ix2 a j) = Ideal.cos (ang (pos i) (j.val % 32))) (e4 : ∀ j : Fin 256, x4 (ix2 a j) = Ideal.sin (ang (pos i) (j.val % 32)))
    (e11 : ∀ c (h : Fin 4) (e : Fin 64), x11 (ix2 c ⟨64 * h.val + e.val, by omega⟩) = y5 c h ⟨128 + e.val, by omega⟩)
    (e12a : ∀ c (h : Fin 4) (e : Fin 32), x12 (ix2 c ⟨64 * h.val + e.val, by omega⟩) = -y5 c h ⟨128 + (32 + e.val), by omega⟩)
    (e12b : ∀ c (h : Fin 4) (e : Fin 32), x12 (ix2 c ⟨64 * h.val + (32 + e.val), by omega⟩) = y5 c h ⟨128 + e.val, by omega⟩) (h : Fin 4) (e : Fin 64) :
    (∑ c, Q x0 x1 x5 x8 a c * x11 (ix2 c ⟨64 * h.val + e.val, by omega⟩)) * x3 (ix2 a ⟨64 * h.val + e.val, by omega⟩)
      + (∑ c, Q x0 x1 x5 x8 a c * x12 (ix2 c ⟨64 * h.val + e.val, by omega⟩)) * x4 (ix2 a ⟨64 * h.val + e.val, by omega⟩)
      = qrot y0 pos y2 y3 y4 y5 i h e := by
  have hm : (64 * h.val + e.val) % 32 = e.val % 32 := by omega
  simp only [pQ x0 x1 x5 x8 a y0 y2 y3 y4 i e0 e1 e5 e8, e3, e4, e11, hm]
  refine rot_eq (fun e => ∑ c, qrow y0 y2 y3 y4 i c * y5 c h ⟨128 + e.val, by omega⟩)
    (fun e => ∑ c, qrow y0 y2 y3 y4 i c * x12 (ix2 c ⟨64 * h.val + e.val, by omega⟩)) (pos i) (fun e => ?_) (fun e => ?_) e
  · simp only [e12a]
    exact sum_neg _ _ (qrow_real y0 y2 y3 y4 i h4) fun c => h5 c _ _
  · simp only [e12b]

end points

variable (m : (ℓ : Loc nD τ sig) → Buf (Elt Ideal) ℓ)

/-- The arguments' contents. -/
abbrev A0 (c : Dev nD) : FVec Ideal S16384x1024 .f32 := m ((c : Thread nD τ).loc main_arg0)
abbrev A1 (c : Dev nD) : IVec S2048 32 := m ((c : Thread nD τ).loc main_arg1)
abbrev A2 (c : Dev nD) : FVec Ideal S6x1024 .f32 := m ((c : Thread nD τ).loc main_arg2)
abbrev A3 (c : Dev nD) : FVec Ideal S1024x3136 .f32 := m ((c : Thread nD τ).loc main_arg3)
abbrev A4 (c : Dev nD) : FVec Ideal S768 .f32 := m ((c : Thread nD τ).loc main_arg4)
abbrev A5 (c : Dev nD) : FVec Ideal S768x4x192 .f32 := m ((c : Thread nD τ).loc main_arg5)
abbrev A6 (c : Dev nD) : FVec Ideal S256 .f32 := m ((c : Thread nD τ).loc main_arg6)
abbrev A7 (c : Dev nD) : FVec Ideal S256x4x256 .f32 := m ((c : Thread nD τ).loc main_arg7)

/-- The row of the arrays that a block's row is, and its position. -/
theorem posRow (T : ℕ) (a : Fin 1024) : (T * 1024 + a.val) % 2048 = T % 2 * 1024 + a.val := by omega

/-- The latents that a grid point writes. -/
theorem point14 (c : Dev nD) (t : Fin cfg0.N) (ht : t.val < 16) (a : Fin 1024) (j : Fin 256) :
    out0_14 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 a j)
      = Lat (A0 m c) (A2 m c) (A3 m c) (A6 m c) ⟨t.val * 1024 + a.val, by omega⟩ j :=
  (out14_at _ _ _ _ _ _ _ _ _ _ _ _ _ _ a j).trans
    (p14 _ _ _ _ a (a0 (A0 m c)) (a2 (A2 m c)) (a3 (A3 m c)) (a6 (A6 m c)) _ (fun k => blk0 m c t a k _ rfl) (blk1 m c t) (blk6 m c t) (blk9 m c t) j)

/-- The array of the latents after the run. -/
theorem final14 (c : Dev nD) : (dats m 0 c).arrAt 14 cfg0.N
    = (fun y => Lat (A0 m c) (A2 m c) (A3 m c) (A6 m c) (y 0) (y 1) : FVec Ideal S16384x256 .f32) := by
  refine (dats m 0 c).arrAt_eq_of_covers 14 _ (by decide +kernel) fun t hf y => ?_
  blk_simp
  rw [after0_14]
  have ht : t.val < 16 := t.isLt
  have e : y = (ix2 (y 0 : Fin 1024) (y 1 : Fin 256) : S1024x256.Idx) := (ix2_eta (n0 := 1024) (n1 := 256) y).symm
  generalize (y 0 : Fin 1024) = a at e
  generalize (y 1 : Fin 256) = j at e
  subst e
  refine (point14 m c t ht a j).trans ?_
  refine congrArg₂ (Lat (A0 m c) (A2 m c) (A3 m c) (A6 m c)) (Fin.ext ?_) (Fin.ext ?_)
  · blk_simp [idx t]
  · blk_simp [idx t]

/-- The rotary keys that a grid point writes. -/
theorem point15 (c : Dev nD) (h2 : ∀ y, ∃ r : ℝ, A2 m c y = r) (h3 : ∀ y, ∃ r : ℝ, A3 m c y = r) (t : Fin cfg0.N) (ht : t.val < 16) (a : Fin 1024) (j : Fin 64) :
    out0_15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 a j)
      = Key (A0 m c) (A1 m c) (A2 m c) (A3 m c) ⟨t.val * 1024 + a.val, by omega⟩ j :=
  (out15_at _ _ _ _ _ _ _ _ _ _ _ _ _ _ a j).trans
    (p15 _ _ _ _ a (a0 (A0 m c)) (a1 (A1 m c)) (a2 (A2 m c)) (a3 (A3 m c)) _ (fun k => blk0 m c t a k _ rfl) (blk1 m c t) (fun k => h2 _) (fun k j => h3 _)
      (fun j => blk2a m c t a j _ (posRow t.val a)) (fun j => blk2b m c t a j _ (posRow t.val a)) (blk7a m c t) (blk7b m c t) (blk7c m c t) j)

/-- The array of the rotary keys after the run. -/
theorem final15 (c : Dev nD) (h2 : ∀ y, ∃ r : ℝ, A2 m c y = r) (h3 : ∀ y, ∃ r : ℝ, A3 m c y = r) : (dats m 0 c).arrAt 15 cfg0.N
    = (fun y => Key (A0 m c) (A1 m c) (A2 m c) (A3 m c) (y 0) (y 1) : FVec Ideal S16384x64 .f32) := by
  refine (dats m 0 c).arrAt_eq_of_covers 15 _ (by decide +kernel) fun t hf y => ?_
  blk_simp
  rw [after0_15]
  have ht : t.val < 16 := t.isLt
  have e : y = (ix2 (y 0 : Fin 1024) (y 1 : Fin 64) : S1024x64.Idx) := (ix2_eta (n0 := 1024) (n1 := 64) y).symm
  generalize (y 0 : Fin 1024) = a at e
  generalize (y 1 : Fin 64) = j at e
  subst e
  refine (point15 m c h2 h3 t ht a j).trans ?_
  refine congrArg₂ (Key (A0 m c) (A1 m c) (A2 m c) (A3 m c)) (Fin.ext ?_) (Fin.ext ?_)
  · blk_simp [idx t]
  · blk_simp [idx t]

/-- The latents that a grid point writes narrowed. -/
theorem point16 (c : Dev nD) (t : Fin cfg0.N) (ht : t.val < 16) (a : Fin 1024) (j : Fin 256) :
    out0_16 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 a j)
      = Lat (A0 m c) (A2 m c) (A3 m c) (A6 m c) ⟨t.val * 1024 + a.val, by omega⟩ j :=
  (out16_at _ _ _ _ _ _ _ _ _ _ _ _ _ _ a j).trans
    (p14 _ _ _ _ a (a0 (A0 m c)) (a2 (A2 m c)) (a3 (A3 m c)) (a6 (A6 m c)) _ (fun k => blk0 m c t a k _ rfl) (blk1 m c t) (blk6 m c t) (blk9 m c t) j)

/-- The array of the latents narrowed after the run. -/
theorem final16 (c : Dev nD) : (dats m 0 c).arrAt 16 cfg0.N
    = (fun y => Lat (A0 m c) (A2 m c) (A3 m c) (A6 m c) (y 0) (y 1) : FVec Ideal S16384x256 .bf16) := by
  refine (dats m 0 c).arrAt_eq_of_covers 16 _ (by decide +kernel) fun t hf y => ?_
  blk_simp
  rw [after0_16]
  have ht : t.val < 16 := t.isLt
  have e : y = (ix2 (y 0 : Fin 1024) (y 1 : Fin 256) : S1024x256.Idx) := (ix2_eta (n0 := 1024) (n1 := 256) y).symm
  generalize (y 0 : Fin 1024) = a at e
  generalize (y 1 : Fin 256) = j at e
  subst e
  refine (point16 m c t ht a j).trans ?_
  refine congrArg₂ (Lat (A0 m c) (A2 m c) (A3 m c) (A6 m c)) (Fin.ext ?_) (Fin.ext ?_)
  · blk_simp [idx t]
  · blk_simp [idx t]

/-- The rotary keys that a grid point writes narrowed. -/
theorem point17 (c : Dev nD) (h2 : ∀ y, ∃ r : ℝ, A2 m c y = r) (h3 : ∀ y, ∃ r : ℝ, A3 m c y = r) (t : Fin cfg0.N) (ht : t.val < 16) (a : Fin 1024) (j : Fin 64) :
    out0_17 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 a j)
      = Key (A0 m c) (A1 m c) (A2 m c) (A3 m c) ⟨t.val * 1024 + a.val, by omega⟩ j :=
  (out17_at _ _ _ _ _ _ _ _ _ _ _ _ _ _ a j).trans
    (p15 _ _ _ _ a (a0 (A0 m c)) (a1 (A1 m c)) (a2 (A2 m c)) (a3 (A3 m c)) _ (fun k => blk0 m c t a k _ rfl) (blk1 m c t) (fun k => h2 _) (fun k j => h3 _)
      (fun j => blk2a m c t a j _ (posRow t.val a)) (fun j => blk2b m c t a j _ (posRow t.val a)) (blk7a m c t) (blk7b m c t) (blk7c m c t) j)

/-- The array of the rotary keys narrowed after the run. -/
theorem final17 (c : Dev nD) (h2 : ∀ y, ∃ r : ℝ, A2 m c y = r) (h3 : ∀ y, ∃ r : ℝ, A3 m c y = r) : (dats m 0 c).arrAt 17 cfg0.N
    = (fun y => Key (A0 m c) (A1 m c) (A2 m c) (A3 m c) (y 0) (y 1) : FVec Ideal S16384x64 .bf16) := by
  refine (dats m 0 c).arrAt_eq_of_covers 17 _ (by decide +kernel) fun t hf y => ?_
  blk_simp
  rw [after0_17]
  have ht : t.val < 16 := t.isLt
  have e : y = (ix2 (y 0 : Fin 1024) (y 1 : Fin 64) : S1024x64.Idx) := (ix2_eta (n0 := 1024) (n1 := 64) y).symm
  generalize (y 0 : Fin 1024) = a at e
  generalize (y 1 : Fin 64) = j at e
  subst e
  refine (point17 m c h2 h3 t ht a j).trans ?_
  refine congrArg₂ (Key (A0 m c) (A1 m c) (A2 m c) (A3 m c)) (Fin.ext ?_) (Fin.ext ?_)
  · blk_simp [idx t]
  · blk_simp [idx t]

/-- The absorbed queries that a grid point writes. -/
theorem point18 (c : Dev nD) (t : Fin cfg0.N) (ht : t.val < 16) (a : Fin 1024) (j : Fin 1024) :
    out0_18 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 a j)
      = QLat (A0 m c) (A2 m c) (A3 m c) (A4 m c) (A5 m c) (A7 m c) ⟨t.val * 1024 + a.val, by omega⟩ j := by
  obtain ⟨h, r, rfl⟩ : ∃ (h : Fin 4) (r : Fin 256), j = ⟨256 * h.val + r.val, by omega⟩ :=
    ⟨⟨j.val / 256, by omega⟩, ⟨j.val % 256, by omega⟩, Fin.ext (Nat.div_add_mod j.val 256).symm⟩
  have eh : (⟨(256 * h.val + r.val) / 256, by omega⟩ : Fin 4) = h := Fin.ext (by show (256 * h.val + r.val) / 256 = h.val; omega)
  have er : (⟨(256 * h.val + r.val) % 256, by omega⟩ : Fin 256) = r := Fin.ext (by show (256 * h.val + r.val) % 256 = r.val; omega)
  refine (out18_at _ _ _ _ _ _ _ _ _ _ _ _ _ _ a h r).trans ?_
  unfold QLat
  simp only [eh, er]
  exact p18 _ _ _ _ _ _ a (a0 (A0 m c)) (a2 (A2 m c)) (a3 (A3 m c)) (a4 (A4 m c)) (a5 (A5 m c)) (a7 (A7 m c)) _ (fun k => blk0 m c t a k _ rfl) (blk1 m c t)
    (blk5 m c t) (blk8 m c t) (blk10 m c t) (blk13 m c t) h r

/-- The array of the absorbed queries after the run. -/
theorem final18 (c : Dev nD) : (dats m 0 c).arrAt 18 cfg0.N
    = (fun y => QLat (A0 m c) (A2 m c) (A3 m c) (A4 m c) (A5 m c) (A7 m c) (y 0) (y 1) : FVec Ideal S16384x1024 .bf16) := by
  refine (dats m 0 c).arrAt_eq_of_covers 18 _ (by decide +kernel) fun t hf y => ?_
  blk_simp
  rw [after0_18]
  have ht : t.val < 16 := t.isLt
  have e : y = (ix2 (y 0 : Fin 1024) (y 1 : Fin 1024) : S1024x1024.Idx) := (ix2_eta (n0 := 1024) (n1 := 1024) y).symm
  generalize (y 0 : Fin 1024) = a at e
  generalize (y 1 : Fin 1024) = j at e
  subst e
  refine (point18 m c t ht a j).trans ?_
  refine congrArg₂ (QLat (A0 m c) (A2 m c) (A3 m c) (A4 m c) (A5 m c) (A7 m c)) (Fin.ext ?_) (Fin.ext ?_)
  · blk_simp [idx t]
  · blk_simp [idx t]

/-- The rotary queries that a grid point writes. -/
theorem point19 (c : Dev nD) (h4 : ∀ y, ∃ r : ℝ, A4 m c y = r) (h5 : ∀ y, ∃ r : ℝ, A5 m c y = r) (t : Fin cfg0.N) (ht : t.val < 16) (a : Fin 1024) (j : Fin 256) :
    out0_19 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 a j)
      = QRot (A0 m c) (A1 m c) (A2 m c) (A3 m c) (A4 m c) (A5 m c) ⟨t.val * 1024 + a.val, by omega⟩ j := by
  obtain ⟨h, e, rfl⟩ : ∃ (h : Fin 4) (e : Fin 64), j = ⟨64 * h.val + e.val, by omega⟩ :=
    ⟨⟨j.val / 64, by omega⟩, ⟨j.val % 64, by omega⟩, Fin.ext (Nat.div_add_mod j.val 64).symm⟩
  have eh : (⟨(64 * h.val + e.val) / 64, by omega⟩ : Fin 4) = h := Fin.ext (by show (64 * h.val + e.val) / 64 = h.val; omega)
  have er : (⟨(64 * h.val + e.val) % 64, by omega⟩ : Fin 64) = e := Fin.ext (by show (64 * h.val + e.val) % 64 = e.val; omega)
  refine (out19_at _ _ _ _ _ _ _ _ _ _ _ _ _ _ a _).trans ?_
  unfold QRot
  simp only [eh, er]
  exact p19 _ _ _ _ _ _ _ _ a (a0 (A0 m c)) (a1 (A1 m c)) (a2 (A2 m c)) (a3 (A3 m c)) (a4 (A4 m c)) (a5 (A5 m c)) _ (fun k => blk0 m c t a k _ rfl) (blk1 m c t) (fun k => h4 _) (fun c h d => h5 _)
    (blk5 m c t) (blk8 m c t) (fun j => blk3 m c t a j _ (posRow t.val a)) (fun j => blk4 m c t a j _ (posRow t.val a))
    (blk11 m c t) (blk12a m c t) (blk12b m c t) h e

/-- The array of the rotary queries after the run. -/
theorem final19 (c : Dev nD) (h4 : ∀ y, ∃ r : ℝ, A4 m c y = r) (h5 : ∀ y, ∃ r : ℝ, A5 m c y = r) : (dats m 0 c).arrAt 19 cfg0.N
    = (fun y => QRot (A0 m c) (A1 m c) (A2 m c) (A3 m c) (A4 m c) (A5 m c) (y 0) (y 1) : FVec Ideal S16384x256 .bf16) := by
  refine (dats m 0 c).arrAt_eq_of_covers 19 _ (by decide +kernel) fun t hf y => ?_
  blk_simp
  rw [after0_19]
  have ht : t.val < 16 := t.isLt
  have e : y = (ix2 (y 0 : Fin 1024) (y 1 : Fin 256) : S1024x256.Idx) := (ix2_eta (n0 := 1024) (n1 := 256) y).symm
  generalize (y 0 : Fin 1024) = a at e
  generalize (y 1 : Fin 256) = j at e
  subst e
  refine (point19 m c h4 h5 t ht a j).trans ?_
  refine congrArg₂ (QRot (A0 m c) (A1 m c) (A2 m c) (A3 m c) (A4 m c) (A5 m c)) (Fin.ext ?_) (Fin.ext ?_)
  · blk_simp [idx t]
  · blk_simp [idx t]

/-- The normalised rows that a grid point writes. -/
theorem point20 (c : Dev nD) (t : Fin cfg0.N) (ht : t.val < 16) (a : Fin 1024) (j : Fin 1024) :
    out0_20 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 a j)
      = URow (A0 m c) (A2 m c) ⟨t.val * 1024 + a.val, by omega⟩ j :=
  (out20_at _ _ _ _ _ _ _ _ _ _ _ _ _ _ a j).trans
    (pU _ _ a (a0 (A0 m c)) (a2 (A2 m c)) _ (fun k => blk0 m c t a k _ rfl) (blk1 m c t) j)

/-- The array of the normalised rows after the run. -/
theorem final20 (c : Dev nD) : (dats m 0 c).arrAt 20 cfg0.N
    = (fun y => URow (A0 m c) (A2 m c) (y 0) (y 1) : FVec Ideal S16384x1024 .bf16) := by
  refine (dats m 0 c).arrAt_eq_of_covers 20 _ (by decide +kernel) fun t hf y => ?_
  blk_simp
  rw [after0_20]
  have ht : t.val < 16 := t.isLt
  have e : y = (ix2 (y 0 : Fin 1024) (y 1 : Fin 1024) : S1024x1024.Idx) := (ix2_eta (n0 := 1024) (n1 := 1024) y).symm
  generalize (y 0 : Fin 1024) = a at e
  generalize (y 1 : Fin 1024) = j at e
  subst e
  refine (point20 m c t ht a j).trans ?_
  refine congrArg₂ (URow (A0 m c) (A2 m c)) (Fin.ext ?_) (Fin.ext ?_)
  · blk_simp [idx t]
  · blk_simp [idx t]

end Cert.Kernel3Ideal.Inp
-- ==== Proof.InRef.lean ====
module

public import proofs.«01_k».proof.Proof.InMath
public import proofs.«01_k».proof.Proof.Gen.Reference3Ideal.Read

@[expose] public section
set_option maxRecDepth 16384
noncomputable section

/-! The reference's projection, read at an index. -/

namespace Cert.Reference3Ideal.Inp
open Cert.Reference3Ideal Cert.Reference3Ideal.Read Cert.Inp
open Idealize.ShloMosaic Idealize.ShloMosaic.TcCoe Idealize.ShloMosaic.Tactic

variable (x0 : FVec Ideal S16384x1024 .f32) (x1 : IVec S2048 32) (x2 : FVec Ideal S6x1024 .f32) (x3 : FVec Ideal S1024x3136 .f32)
  (x4 : FVec Ideal S768 .f32) (x5 : FVec Ideal S768x4x192 .f32) (x6 : FVec Ideal S256 .f32) (x7 : FVec Ideal S256x4x256 .f32)

/-- The normalised rows. -/
theorem v14_at (i : Fin 16384) (j : Fin 1024) :
    val_main_v14 (F := Ideal) x0 x2 (ix2 i j) = urow (a0 x0) (a2 x2) i j := by
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

/-- Their projection. -/
theorem v15_at (i : Fin 16384) (j : Fin 3136) :
    val_main_v15 (F := Ideal) x0 x2 x3 (ix2 i j) = ∑ k, urow (a0 x0) (a2 x2) i k * x3 (ix2 k j) := by
  pointwise [val_main_v15]
  simp only [v14_at]

/-- The normalised query latent. -/
theorem v31_at (i : Fin 16384) (j : Fin 768) :
    val_main_v31 (F := Ideal) x0 x2 x3 x4 (ix2 i j) = qrow (a0 x0) (a2 x2) (a3 x3) (a4 x4) i j := by
  pointwise [val_main_v31, val_main_v30, val_main_v29, val_main_v28, val_main_v27, val_main_v26, val_main_v25, val_main_v24, val_main_v23, val_main_v22, val_main_v21, val_main_v20, val_main_v19, val_main_cst_2, val_main_cst_3, val_main_cst_4, val_main_v16]
  simp only [v15_at]
  rfl

/-- The queries of the heads. -/
theorem v32_at (i : Fin 16384) (h : Fin 4) (d : Fin 192) :
    val_main_v32 (F := Ideal) x0 x2 x3 x4 x5 (ix3 i h d) = ∑ c, qrow (a0 x0) (a2 x2) (a3 x3) (a4 x4) i c * x5 (ix3 c h d) := by
  pointwise [val_main_v32]
  simp only [v31_at]

/-- The latents. -/
theorem v81_at (i : Fin 16384) (j : Fin 256) :
    val_main_v81 (F := Ideal) x0 x2 x3 x6 (ix2 i j) = Lat x0 x2 x3 x6 i j := by
  pointwise [val_main_v81, val_main_v80, val_main_v79, val_main_v78, val_main_v77, val_main_v76, val_main_v75, val_main_v74, val_main_v73, val_main_v72, val_main_v71, val_main_v70, val_main_v69, val_main_cst_7, val_main_cst_8, val_main_cst_9, val_main_v17]
  simp only [v15_at]
  rfl

/-- The absorbed queries. -/
theorem v121_at (i : Fin 16384) (j : Fin 1024) :
    val_main_v121 (F := Ideal) x0 x2 x3 x4 x5 x7 (ix2 i j) = QLat x0 x2 x3 x4 x5 x7 i j := by
  pointwise [val_main_v121, val_main_v120, val_main_v119, val_main_v118, val_main_v117]
  simp only [v32_at]
  exact Finset.sum_congr rfl fun d _ => mul_comm _ _

/-- The rotary keys. -/
theorem v116_at (i : Fin 16384) (j : Fin 64) :
    val_main_v116 (F := Ideal) x0 x1 x2 x3 (ix2 i j) = Key x0 x1 x2 x3 i j := by
  pointwise [val_main_v116, val_main_v115, val_main_v114, val_main_v113, val_main_v112, val_main_v111, val_main_v110, val_main_v109, val_main_v108, val_main_v107, val_main_v106, val_main_v105, val_main_v104, val_main_v103, val_main_v102, val_main_v101, val_main_v100, val_main_v99, val_main_v98, val_main_v97, val_main_v96, val_main_v95, val_main_v94, val_main_v93, val_main_v92, val_main_v91, val_main_v90, val_main_v89, val_main_v88, val_main_v87, val_main_v86, val_main_v85, val_main_v84, val_main_v83, val_main_v82, val_main_cst_10, val_main_cst_11, val_main_v18]
  simp only [v15_at]
  unfold Key key rot
  split_ifs with h
  · rfl
  all_goals
    have e : 32 + (j.val - 32) = j.val := by omega
    simp only [e]
    rfl

/-- The rotary queries. -/
theorem v68_at (i : Fin 16384) (j : Fin 256) :
    val_main_v68 (F := Ideal) x0 x1 x2 x3 x4 x5 (ix2 i j) = QRot x0 x1 x2 x3 x4 x5 i j := by
  pointwise [val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_cst_5, val_main_cst_6]
  simp only [v32_at]
  unfold QRot qrot rot
  split_ifs with h
  · rfl
  all_goals
    have e : 32 + (j.val % 64 - 32) = j.val % 64 := by omega
    simp only [e]
    rfl

end Cert.Reference3Ideal.Inp
-- ==== Proof.InFinite.lean ====
module

public import proofs.«01_k».proof.Proof.Finite
public import proofs.«01_k».proof.Pre_finite_weights

@[expose] public section
set_option maxRecDepth 16384
noncomputable section

/-! What the precondition on the projection says: the scales and the weights are real numbers. -/

namespace Cert.Pre_finite_weights
open Idealize.ShloMosaic

/-- The side conditions of the precondition's operations. -/
instance facts : Cert.Pre_finite_weights.Facts where
  bcast_S_S6x1024 := by decide
  reducesTo_S6x1024_S_d0_1 := by decide
  h_S_ := by decide
  bcast_S_S1024x3136 := by decide
  reducesTo_S1024x3136_S_d0_1 := by decide
  bcast_S_S768 := by decide
  reducesTo_S768_S_d0 := by decide
  bcast_S_S768x4x192 := by decide
  reducesTo_S768x4x192_S_d0_1_2 := by decide

/-- A comparison `|x| < ∞` that came out true says that `x` is a real number. -/
theorem real_of {s : Shape} {φ : FTy} (x u : FVec Ideal s φ) (hu : ∀ i, u i = (⊤ : EReal)) (i : s.Idx)
    (h : cmpf .olt (Host.absf x) u i = 1#1) : ∃ r : ℝ, x i = (r : EReal) := by
  have h' : Ideal.cmp .olt (max (x i : EReal) (-(x i : EReal))) (u i) = 1#1 := h
  rw [hu] at h'
  have h2 : max (x i : EReal) (-(x i : EReal)) < ⊤ := by
    by_contra hn
    unfold Ideal.cmp at h'
    simp [hn] at h'
  have h3 := max_lt_iff.1 h2
  refine ⟨(x i : EReal).toReal, (EReal.coe_toReal (ne_of_lt h3.1) fun e => ?_).symm⟩
  rw [e] at h3
  exact absurd h3.2 (by simp)

/-- The norm's scales, the input weights, the query norm's scales and the query weights are real numbers. -/
theorem reals (x0 : FVec Ideal S16384x1024 .f32) (x1 : IVec S2048 32) (x2 : FVec Ideal S6x1024 .f32) (x3 : FVec Ideal S1024x3136 .f32)
    (x4 : FVec Ideal S768 .f32) (x5 : FVec Ideal S768x4x192 .f32) (x6 : FVec Ideal S256 .f32) (x7 : FVec Ideal S256x4x256 .f32)
    (h : fn (F := Ideal) x0 x1 x2 x3 x4 x5 x6 x7 = fun _ => 1#1) :
    (∀ i, ∃ r : ℝ, x2 i = r) ∧ (∀ i, ∃ r : ℝ, x3 i = r) ∧ (∀ i, ∃ r : ℝ, x4 i = r) ∧ (∀ i, ∃ r : ℝ, x5 i = r) := by
  have h' := congrFun h (fun k => k.elim0)
  unfold fn fn_part1 at h'
  dsimp only at h'
  obtain ⟨ha, hd⟩ := IntOp.andi_eq_one.1 h'
  obtain ⟨ha, hc⟩ := IntOp.andi_eq_one.1 ha
  obtain ⟨ha, hb⟩ := IntOp.andi_eq_one.1 ha
  have : Subsingleton (Shape.Idx S_) := ⟨fun a b => funext fun k => k.elim0⟩
  refine ⟨fun i => real_of _ _ (fun i => ?_) i (Host.reduce_andi_all _ _ _ _ _ ha i), fun i => real_of _ _ (fun i => ?_) i (Host.reduce_andi_all _ _ _ _ _ hb i),
    fun i => real_of _ _ (fun i => ?_) i (Host.reduce_andi_all _ _ _ _ _ hc i), fun i => real_of _ _ (fun i => ?_) i (Host.reduce_andi_all _ _ _ _ _ hd i)⟩
  all_goals pointwise []
  all_goals simp [Ideal.ofBits, Ideal.ieee]

end Cert.Pre_finite_weights
end
-- ==== Proof.HgOps.lean ====
module

public import proofs.«01_k».proof.Proof.Gen.Kernel4Ideal.Value
public import Idealize.ShloMosaic.Lib.ValueIdx
public import Idealize.ShloMosaic.Lib.Pointwise
public import Idealize.ShloMosaic.Lib.Pipeline.ReadBack

@[expose] public section
set_option maxRecDepth 16384
noncomputable section

/-! The state's step of one head of one sequence, as array operations: every unit of the block computes these. -/

namespace Cert.Kernel4Ideal.Hg
open Cert.Kernel4Ideal Cert.Kernel4Ideal.Gen
open Idealize.ShloMosaic Idealize.ShloMosaic.TcCoe Idealize.ShloMosaic.Tactic

/-- An array of eight rows of one head. -/
abbrev A8 : Type := FVec Ideal S8x128 .f32

/-- An array of one value. -/
def cst (b : BitVec 32) : A8 := broadcast S8x128 (Scalar.ofBits (F := Ideal) .f32 b)

/-- The logistic function. -/
def sg (z : A8) : A8 := divf (cst 0x3F800000#32) (addf (cst 0x3F800000#32) (exp (subf (cst 0x00000000#32) z)))

/-- The rows of a block of one sequence. -/
def rows (z : FVec Ideal S1x8x128 .f32) : A8 := shapeCast S8x128 z shapeCasts_S1x8x128_S8x128

/-- The lower bounds of the forget gates. -/
def lbs (z : FVec Ideal S2x512 .f32) : FVec Ideal S1x512 .f32 :=
  have e : FVec Ideal S2x512 .f32 := exp (subf z (broadcastTo S2x512 (shapeCast S1x512
    (multiReduction .maximumf [0] S512 z 0xFF800000#32 reduces_S2x512_S512 (.inl rfl) rfl) shapeCasts_S512_S1x512) broadcasts_S1x512_S2x512))
  divf (extractStridedSlice S1x512 ![0, 0] e slices_S2x512_o0_0_S1x512)
    (shapeCast S1x512 (multiReduction .add [0] S512 e 0x00000000#32 reduces_S2x512_S512 (.inl rfl) rfl) shapeCasts_S512_S1x512)

/-- The forget gates. -/
def fg (lb : FVec Ideal S1x128 .f32) (z : FVec Ideal S1x8x128 .f32) : A8 :=
  addf (broadcastTo S8x128 lb broadcasts_S1x128_S8x128)
    (mulf (broadcastTo S8x128 (subf (broadcast S1x128 (Scalar.ofBits (F := Ideal) .f32 0x3F800000#32)) lb) broadcasts_S1x128_S8x128) (sg (rows z)))

/-- Which rows are positions. -/
def pos (w : BitVec 32) : IVec S8x128 1 :=
  cmpi .slt (addi (iota .tc S8x128 32 [0] iota_S8x128_d0_w32) (broadcast S8x128 (Scalar.addi (Scalar.muli w 8#32) 0#32))) (broadcast S8x128 4#32)

/-- The rows that are positions, zero elsewhere. -/
def msk (w : BitVec 32) (z : A8) : A8 := select (pos w) z (cst 0x00000000#32)

/-- The running sums. -/
def sums (z : A8) : A8 :=
  have t : FVec Ideal S8x8 .f32 := sitofp .f32 (extui 32 (cmpi .sle (iota .tc S8x8 32 [1] iota_S8x8_d1_w32) (iota .tc S8x8 32 [0] iota_S8x8_d0_w32)) natLt_1_32)
  have z1 : A8 := extf .f32 (truncf .bf16 z bitsLt_bf16_f32) bitsLt_bf16_f32
  have r1 : A8 := subf z z1
  have z2 : A8 := extf .f32 (truncf .bf16 r1 bitsLt_bf16_f32) bitsLt_bf16_f32
  have z3 : A8 := extf .f32 (truncf .bf16 (subf r1 z2) bitsLt_bf16_f32) bitsLt_bf16_f32
  addf (addf (matmul dot_S8x8_S8x128_S8x128_1_0_0_1_n_n none t z1 (constant S8x128 .f32 0x00000000#32))
    (matmul dot_S8x8_S8x128_S8x128_1_0_0_1_n_n none t z2 (constant S8x128 .f32 0x00000000#32)))
    (matmul dot_S8x8_S8x128_S8x128_1_0_0_1_n_n none t z3 (constant S8x128 .f32 0x00000000#32))

/-- The base-two logarithm's scale. -/
def l2 : A8 := broadcast S8x128 (Named.named (F := Ideal) κ "log2e" 0x3FB8AA3B#32)

/-- The rows' exponents. -/
def bb (g : A8) : A8 := mulf (sums g) l2

/-- The state after the positions. -/
def next (k v b : A8) (s : FVec Ideal S1x128x128 .f32) : FVec Ideal S128x128 .f32 :=
  have l : FVec Ideal S1x128 .f32 := extractStridedSlice S1x128 ![7, 0] b slices_S8x128_o7_0_S1x128
  addf (mulf (shapeCast S128x128 s shapeCasts_S1x128x128_S128x128) (broadcastTo S128x128 (exp2 l) broadcasts_S1x128_S128x128))
    (matmul dot_S8x128_S8x128_S128x128_0_0_1_1_n_n none (truncf .bf16 v bitsLt_bf16_f32)
      (truncf .bf16 (mulf k (exp2 (subf (broadcastTo S8x128 l broadcasts_S1x128_S8x128) b))) bitsLt_bf16_f32) (constant S128x128 .f32 0x00000000#32))

/-- A state, values by keys. -/
def flip (s : FVec Ideal S1x1x128x128 .f32) : FVec Ideal S1x128x128 .f32 :=
  shapeCast S1x128x128 (transpose S128x128 [1, 0] (shapeCast S128x128 s shapeCasts_S1x1x128x128_S128x128) transposes_S128x128_p1_0_S128x128) shapeCasts_S128x128_S1x128x128

/-- A state, keys by values. -/
def flop (s : FVec Ideal S1x128x128 .f32) : FVec Ideal S1x1x128x128 .f32 :=
  shapeCast S1x1x128x128 (transpose S128x128 [1, 0] (shapeCast S128x128 s shapeCasts_S1x128x128_S128x128) transposes_S128x128_p1_0_S128x128) shapeCasts_S128x128_S1x1x128x128

/-- One unit's state. -/
def unitS (w : BitVec 32) (lb : FVec Ideal S1x128 .f32) (zf zi : FVec Ideal S1x8x128 .f32) (s : FVec Ideal S1x1x128x128 .f32) : FVec Ideal S1x1x128x128 .f32 :=
  have f : A8 := fg lb zf
  have b : A8 := bb (msk w (log f))
  have k : A8 := msk w (subf (cst 0x3F800000#32) f)
  flop (shapeCast S1x128x128 (next k (msk w (rows zi)) b (flip s)) shapeCasts_S128x128_S1x128x128)

end Cert.Kernel4Ideal.Hg

end
-- ==== Proof.HgPiece.lean ====
module

public import proofs.«01_k».proof.Proof.HgOps
public import Idealize.ShloMosaic.Lib.Pipeline.ValueKit.Tiles

@[expose] public section
set_option maxRecDepth 16384
noncomputable section

namespace Cert.Kernel4Ideal.Hg
open Cert.Kernel4Ideal Cert.Kernel4Ideal.Gen Cert.Kernel4Ideal.Gen.kernelRun0_A.sl
open Idealize.ShloMosaic Idealize.ShloMosaic.TcCoe Idealize.ShloMosaic.Tactic
open Idealize.SL Idealize.SL.Sem

variable (c : Dev nD) (i : grid0.Coords) (arg2 : Memref sig .tc .vmem S4x8x512 .f32) (harg2 : arg2.IsWhole) (arg3 : Memref sig .tc .vmem S4x8x512 .f32) (harg3 : arg3.IsWhole) (arg4 : Memref sig .tc .vmem S4x8x512 .f32) (harg4 : arg4.IsWhole) (arg5 : Memref sig .tc .vmem S4x8x512 .f32) (harg5 : arg5.IsWhole) (arg6 : Memref sig .tc .vmem S2x512 .f32) (harg6 : arg6.IsWhole) (arg7 : Memref sig .tc .vmem S1x128 .f32) (harg7 : arg7.IsWhole) (arg8 : Memref sig .tc .vmem S4x4x128x128 .f32) (harg8 : arg8.IsWhole) (arg9 : Memref sig .tc .vmem S4x8x512 .bf16) (harg9 : arg9.IsWhole) (arg10 : Memref sig .tc .vmem S4x4x128x128 .f32) (harg10 : arg10.IsWhole) (arg11 : Memref sig .tc .vmem S16x128x128 .f32) (harg11 : arg11.IsWhole) (arg12 : Memref sig .tc .vmem S16x8x128 .f32) (harg12 : arg12.IsWhole) (arg13 : Memref sig .tc .vmem S16x8x128 .f32) (harg13 : arg13.IsWhole) (hc0 : cond0_0 i) (hc1 : cond0_1 i)
    (x0 : Vec Ideal S4x8x512 .f32) (x1 : Vec Ideal S4x8x512 .f32) (x2 : Vec Ideal S4x8x512 .f32) (x3 : Vec Ideal S4x8x512 .f32) (x4 : Vec Ideal S2x512 .f32) (x5 : Vec Ideal S1x128 .f32) (x6 : Vec Ideal S4x4x128x128 .f32)

/-- A head's lanes of one sequence. -/
def cut (x : Vec Ideal S4x8x512 .f32) (e h : Fin 4) : FVec Ideal S1x8x128 .f32 :=
  View.ld x (Rect.unit (s := S4x8x512) ![e.val, 0, 128 * h.val] S1x8x128.size (fun a => match a with
    | ⟨0, _⟩ => by show e.val + 1 ≤ 4; omega
    | ⟨1, _⟩ => by show 0 + 8 ≤ 8; omega
    | ⟨2, _⟩ => by show 128 * h.val + 128 ≤ 512; omega))

/-- A head's lower bounds. -/
def lbAt (x : Vec Ideal S2x512 .f32) (h : Fin 4) : FVec Ideal S1x128 .f32 :=
  extractStridedSlice S1x128 ![0, 128 * h.val] (lbs x) (by revert h; decide)

/-- A head's state of one sequence. -/
def stAt (x : Vec Ideal S4x4x128x128 .f32) (e h : Fin 4) : FVec Ideal S1x1x128x128 .f32 :=
  View.ld x (Rect.unit (s := S4x4x128x128) ![e.val, h.val, 0, 0] S1x1x128x128.size (fun a => match a with
    | ⟨0, _⟩ => by show e.val + 1 ≤ 4; omega
    | ⟨1, _⟩ => by show h.val + 1 ≤ 4; omega
    | ⟨2, _⟩ => by show 0 + 128 ≤ 128; omega
    | ⟨3, _⟩ => by show 0 + 128 ≤ 128; omega))

set_option maxHeartbeats 4000000 in
theorem s_at (e h : Fin 4) (a b : Fin 128) :
    out0_A_8 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 (ix4 e h a b)
      = unitS (BitVec.ofNat 32 (i 1).val) (lbAt x4 h) (cut x1 e h) (cut x2 e h) (stAt x6 e h) (ix4 0 0 a b) := by
  unfold out0_A_8 kernelRun0_A
  rw [View.read_writes_junk_eq_canon]
  dsimp only
  canon_tiles x g
  all_goals
    obtain ⟨x'0, x'1, p, q, rfl⟩ : ∃ (x0' x1' : Fin 1) (p q : Fin 128), x = ix4 x0' x1' p q := ⟨x 0, x 1, x 2, x 3, (ix4_eta x).symm⟩
    fin_cases e <;> fin_cases h <;> try (exfalso; simp at g0 g1; done)
    obtain rfl : p = a := (Fin.ext g2).symm
    obtain rfl : q = b := (Fin.ext g3).symm
    obtain rfl : x'0 = 0 := Subsingleton.elim _ _
    obtain rfl : x'1 = 0 := Subsingleton.elim _ _
    refine congrFun ?_ (ix4 0 0 p q)
    iterate 3 (
      try simp (disch := decide) only [
    kernelRun0_A.sl.v, v1026, v1032, v1042, v1052, v1062, v1072, v1082, v1092, v1105, v1137, v1143, v1153, v1163, v1173, v1183, v1193, v1203, v1216,
    v1248, v1254, v1264, v1274, v1284, v1294, v1304, v1314, v1327, v1359, v1365, v1375, v1385, v1395, v1405, v1415, v1425, v1438, v1470, v1476, v1486,
    v1496, v1506, v1516, v1526, v1536, v1549, v1581, v1587, v1597, v1607, v1617, v1627, v1637, v1647, v1660, v1692, v1698, v1708, v1718, v1728, v1738,
    v1748, v1758, v1771, v1803, v1809, v1819, v1829, v1839, v1849, v1859, v1869, v1882, v1914, v1920, v1930, v1940, v1950, v1960, v1970, v1980, v1993,
    v2025, v2031, v2041, v2051, v2061, v2071, v2081, v2091, v2104, v2136, v2142, v2152, v2162, v2172, v2182, v2192, v2202, v2215, v2247, v2253, v2263,
    v2273, v2283, v2293, v2303, v2313, v2326, v2358, v2364, v2374, v2384, v2394, v2404, v2414, v2424, v2437, v2469, v2475, v2485, v2495, v2505, v2515,
    v2525, v2535, v2548, v2580, v2586, v2596, v2606, v2616, v2626, v2636, v2646, v2659, v2691, v2697, v2707, v2717, v2727, v2737, v2747, v2757, v2770,
    v2793, v2799, v2805, v2811, v2817, v2823, v2829, v2835, v2870, v2876, v2882, v2888, v2894, v2900, v2906, v2912, v2947, v2953, v2959, v2965, v2971,
    v2977, v2983, v2989, v3024, v3030, v3036, v3042, v3048, v3054, v3060, v3066, v3101, v3107, v3113, v3119, v3125, v3131, v3137, v3143, v3178, v3184,
    v3190, v3196, v3202, v3208, v3214, v3220, v3255, v3261, v3267, v3273, v3279, v3285, v3291, v3297, v3332, v3338, v3344, v3350, v3356, v3362, v3368,
    v3374, v3409, v3415, v3421, v3427, v3433, v3439, v3445, v3451, v3486, v3492, v3498, v3504, v3510, v3516, v3522, v3528, v3563, v3569, v3575, v3581,
    v3587, v3593, v3599, v3605, v3640, v3646, v3652, v3658, v3664, v3670, v3676, v3682, v3717, v3723, v3729, v3735, v3741, v3747, v3753, v3759, v3794,
    v3800, v3806, v3812, v3818, v3824, v3830, v3836, v3871, v3877, v3883, v3889, v3895, v3901, v3907, v3913, v3948, v3954, v3960, v3966, v3972, v3978,
    v3984, v3990, v4027, v4033, v4039, v4045, v4057, v4063, v4069, v4075, v4081, v4087, v4093, v4099, v4105, v4111, v4117,
    HS0_16, HS0_17, HS0_18, HS0_19, HS0_20, HS0_21, HS0_22, HS0_23, HS0_24, HS0_25, HS0_26, HS0_27, HS0_28, HS0_29, HS0_30, HS0_31, HS0_32, HS1_1, HS1_2,
    HS1_3, HS1_4, HS1_5, HS1_6, HS1_7, HS1_8, HS1_9, HS1_10, HS1_11, HS1_12, HS1_13, HS1_14, HS1_15, HS1_16, HS2_16,
    ↓View.readCov_skip, ↓View.readCov_cons_toLoadRect]
      try simp only [cst, cst_2, cst_5, cst_9, cst_10, cst_25, cst_431, kernelRun0_A.sl.r, r_1, r_2, r_3, r_4, r_5, r_6, r_7, r_8, r_9, r_10, r_11, r_12, r_13, r_14, r_15,
    r_16, r_17, r_18, r_19, r_20, r_21, r_22, r_23, r_24, r_25, r_26, r_27, r_28, r_29, r_30, r_31, r_32, r_33, r_34, r_35, r_36, r_37, r_38, r_39, r_40,
    r_41, r_42, r_43, r_44, r_45, r_46, r_47, r_48, r_49, r_50, r_51, r_52, r_53, r_54, r_55, r_56, r_57, r_58, r_59, r_60, r_61, r_62, r_63, r_64, r_65,
    r_66, r_67, r_68, r_69, r_70, r_71, r_72, r_73, r_74, r_75, r_76, r_77, r_78, r_79, r_80, r_81, r_82, r_83, r_84, r_85, r_86, r_87, r_88, r_89, r_90,
    r_91, r_92, r_93, r_94, r_95, r_96, r_97, r_98, r_99, r_100, r_101, r_102, r_103, r_104, r_105, r_106, r_107, r_108, r_109, r_110, r_111, r_112,
    r_113, r_114, r_115, r_116, r_117, r_118, r_119, r_120, r_121, r_122, r_123, r_124, r_125, r_126, r_127, r_128, r_129, r_130, r_131, r_132, r_133,
    r_134, r_135, r_136, r_137, r_138, r_139, r_140, r_141, r_142, r_143, r_144, r_145, r_146, r_147, r_148, r_149, r_150, r_151, r_152, r_153, r_154,
    r_155, r_156, r_157, r_158, r_159, r_160, r_161, r_162, r_163, r_164, r_165, r_166, r_167, r_168, r_169, r_170, r_171, r_172, r_173, r_174, r_175,
    r_176, r_177, r_178, r_179, r_180, r_181, r_182, r_183, r_184, r_185, r_186, r_187, r_188, r_189, r_190, r_191, r_192, r_193, r_194, r_195, r_196,
    r_197, r_198, r_199, r_200, r_201, r_202, r_203, r_204, r_205, r_206, r_207, r_208, r_209, r_210, r_211, r_212, r_213, r_214, r_215, r_216, r_217,
    r_218, r_219, r_220, r_221, r_222, r_223, r_224, r_225, r_226, r_227, r_228, r_229, r_230, r_231, r_232, r_233, r_234, r_235, r_236, r_237, r_238,
    r_239, r_240, r_241, r_242, r_243, r_244, r_245, r_246, r_247, r_248, r_249, r_250, r_251, r_252, r_253, r_254, r_255, r_256, r_257, r_258, r_259,
    r_260, r_261, r_262, r_263, r_264, r_265, r_266, r_267, r_268, r_269, r_270, r_271, r_272, r_273, r_274, r_275, r_276, r_277, r_278, r_279, r_280,
    r_281, r_282, r_283, r_284, r_285, r_286, r_287, r_288, r_289, r_290, r_291, r_292, r_293, r_294, r_295, r_296, r_297, r_298, r_299, r_300, r_301,
    r_302, v0, v1, v2, v4, v5, v6, v7, v8, v9, v10, v11, v12, v13, v14, v16, v17, v18, v20, v21, v24, v27, v28, v29, v30, v31, v32, v34, v35, v36, v37,
    v40, v42, v43, v45, v47, v48, v49, v50, v51, v52, v54, v57, v59, v60, v61, v62, v63, v64, v66, v68, v70, v71, v72, v73, v74, v75, v76, v77, v78, v79,
    v80, v81, v82, v83, v215, v216, v218, v220, v221, v223, v226, v228, v229, v231, v233, v234, v235, v236, v237, v238, v240, v243, v252, v254, v256,
    v257, v347, v350, v352, v353, v355, v357, v358, v359, v360, v361, v362, v364, v367, v376, v378, v380, v381, v382, v383, v384, v385, v386, v387, v388,
    v389, v430, v523, v525, v526, v528, v530, v531, v533, v536, v538, v539, v541, v543, v544, v545, v546, v547, v548, v550, v553, v562, v652, v654, v655,
    v657, v660, v662, v663, v665, v667, v668, v669, v670, v671, v672, v674, v677, v686, v688, v690, v691, v692, v693, v694, v695, v696, v784, v786, v787,
    v789, v791, v792, v793, v794, v795, v796, v798, v801, v810, v812, v814, v815, v816, v817, v818, v819, v820, v821, v822, v823, v824, v825, v826, v827,
    v959, v960, v962, v964, v965, v967, v970, v972, v973, v975, v977, v978, v979, v980, v981, v982, v984, v987, v996, v998, v1000, v1001, v4028, v4029,
    v4031, v4032, v4034, v4035, v4036, v4037, v4038, v4040, v4041, v4042, v4043, v4044, v4046, v4047, v4048, v4049, v4050, v4052, v4053, v4054, v4055,
    v4056, v4058, v4059, v4060, v4061, v4062, v4064, v4065, v4066, v4067, v4068, v4070, v4071, v4072, v4073, v4074, v4076, v4077, v4078, v4079, v4080,
    v4082, v4083, v4084, v4085, v4086, v4088, v4089, v4090, v4091, v4092, v4094, v4095, v4096, v4097, v4098, v4100, v4101, v4102, v4103, v4104, v4106,
    v4107, v4108, v4109, v4110, v4112, v4113, v4114, v4115, v4116, v4118, v4119, v4120, v4121, v4122])
    simp (disch := decide) only [View.readAt_eq_ld, Memref.IsWhole.read_unread, View.ld_unit_lit']
    rfl
-- ==== Proof.HgMath.lean ====
module

public import Idealize.ShloMosaic.Lib.Pointwise
public import Idealize.ShloMosaic.Lib.Pipeline.ValueKit

@[expose] public section
noncomputable section

/-! The recurrence's gates, decays and states over the extended reals. -/

namespace Cert.Hgrn
open Idealize.ShloMosaic

/-- The exponential of a logit less the greatest of the two. -/
def ex (z : Fin 2 → EReal) (k : Fin 2) : EReal := Ideal.exp (z k - Finset.univ.fold max (Ideal.ofBits .f32 4286578688#32) z)

/-- The lower bound of a forget gate: the first softmax value of its two logits. -/
def lb (z : Fin 2 → EReal) : EReal := Ideal.div (ex z 0) (∑ k, ex z k)

/-- A forget gate with a lower bound. -/
def gate (l z : EReal) : EReal := l + (1 - l) * Ideal.div 1 (1 + Ideal.exp (-z))

/-- The log-gates' running sum over four positions. -/
def cum (g : Fin 4 → EReal) (t : Fin 4) : EReal := ∑ s, if s ≤ t then g s else 0

/-- One entry of the state after four positions: gates `f`, values `v`, the entry before `s`. -/
def state (f v : Fin 4 → EReal) (s : EReal) : EReal :=
  Ideal.exp (cum (fun t => Ideal.log (f t)) 3) * s
    + ∑ t, (1 - f t) * Ideal.exp (cum (fun t => Ideal.log (f t)) 3 - cum (fun t => Ideal.log (f t)) t) * v t

/-- The greatest of the logits is the same when compared with minus infinity once more. -/
theorem max_bot (x : EReal) : max (Ideal.ofBits .f32 4286578688#32) x = x := by
  rw [show Ideal.ofBits .f32 4286578688#32 = ⊥ by simp [Ideal.ofBits, Ideal.ieee]]
  exact max_eq_right bot_le

/-- The exponential of a number that is not positive lies between zero and one. -/
theorem exp_unit (x : EReal) (h : x ≤ 0) : ∃ r : ℝ, 0 ≤ r ∧ Ideal.exp x = r := by
  induction x with
  | bot => exact ⟨0, le_rfl, rfl⟩
  | top => exact absurd h (by simp)
  | coe x => exact ⟨Real.exp x, (Real.exp_pos x).le, rfl⟩

/-- A number less one at least as great is not positive. -/
theorem sub_le_zero (x y : EReal) (h : x ≤ y) : x - y ≤ 0 := by
  induction x with
  | bot => simp
  | top => rw [top_le_iff.mp h]; simp
  | coe x =>
    induction y with
    | bot => simp at h
    | top => simp
    | coe y => rw [← EReal.coe_sub]; exact_mod_cast sub_nonpos.mpr (EReal.coe_le_coe_iff.mp h)

/-- The exponentials of the logits less their maximum are real. -/
theorem ex_real (z : Fin 2 → EReal) (k : Fin 2) : ∃ r : ℝ, 0 ≤ r ∧ ex z k = r :=
  exp_unit _ (sub_le_zero _ _ ((Finset.le_fold_max _).mpr (.inr ⟨k, Finset.mem_univ k, le_rfl⟩)))

/-- A lower bound is below infinity. -/
theorem lb_ne_top (z : Fin 2 → EReal) : lb z ≠ ⊤ := by
  obtain ⟨a, a0, ha⟩ := ex_real z 0
  obtain ⟨b, b0, hb⟩ := ex_real z 1
  unfold lb Ideal.div
  rw [Fin.sum_univ_two, ha, hb, ← EReal.coe_add]
  split_ifs with h h'
  · exfalso
    have h1 : a + b = 0 := by exact_mod_cast h
    have h2 : 0 < a := by exact_mod_cast h'
    linarith
  · exact bot_ne_top
  · rw [← EReal.coe_inv, ← EReal.coe_mul]
    exact EReal.coe_ne_top _

/-- The logistic function is real. -/
theorem sig_real (z : EReal) : ∃ r : ℝ, Ideal.div 1 (1 + Ideal.exp (-z)) = r := by
  have h : Ideal.exp (-z) = ⊤ ∨ ∃ e : ℝ, 0 ≤ e ∧ Ideal.exp (-z) = e := by
    induction -z with
    | bot => exact .inr ⟨0, le_rfl, rfl⟩
    | top => exact .inl rfl
    | coe x => exact .inr ⟨Real.exp x, (Real.exp_pos x).le, rfl⟩
  obtain h | ⟨e, e0, h⟩ := h
  · refine ⟨0, ?_⟩
    rw [h]
    simp [Ideal.div, show (1 : EReal) + ⊤ = ⊤ from EReal.coe_add_top 1]
  · refine ⟨(1 + e)⁻¹, ?_⟩
    rw [h, show (1 : EReal) + (e : EReal) = ((1 + e : ℝ) : EReal) by norm_cast]
    unfold Ideal.div
    rw [if_neg (by exact_mod_cast (by positivity : (1 + e : ℝ) ≠ 0)), one_mul, EReal.coe_inv]

/-- A gate is below infinity when its lower bound is. -/
theorem gate_ne_top (l z : EReal) (h : l ≠ ⊤) : gate l z ≠ ⊤ := by
  obtain ⟨r, hr⟩ := sig_real z
  unfold gate
  rw [hr]
  induction l with
  | bot => simp
  | top => exact absurd rfl h
  | coe l => norm_cast; exact EReal.coe_ne_top _

/-- So is its logarithm. -/
theorem log_ne_top (x : EReal) (h : x ≠ ⊤) : Ideal.log x ≠ ⊤ := by
  induction x with
  | bot => exact bot_ne_top
  | top => exact absurd rfl h
  | coe x => show (if x ≤ 0 then (⊥ : EReal) else (Real.log x : EReal)) ≠ ⊤; split_ifs; exacts [bot_ne_top, EReal.coe_ne_top _]

/-- A number below infinity and its two remainders: the number. -/
theorem split (x : EReal) (h : x ≠ ⊤) : x + (x - x) + (x - x - (x - x)) = x := by
  induction x with
  | bot => simp
  | top => exact absurd rfl h
  | coe x => norm_cast; simp

/-- The scale of a base-two exponent times any number. -/
theorem exp2_scale (x : EReal) : Ideal.exp2 (x * (((Real.log 2)⁻¹ : ℝ) : EReal)) = Ideal.exp x := by
  have p : 0 < (Real.log 2)⁻¹ := inv_pos.mpr (Real.log_pos (by norm_num))
  induction x with
  | bot => rw [EReal.bot_mul_coe_of_pos p]; rfl
  | top => rw [EReal.top_mul_coe_of_pos p]; rfl
  | coe x =>
    rw [← EReal.coe_mul]
    show ((Real.rpow 2 (x * (Real.log 2)⁻¹) : ℝ) : EReal) = (Real.exp x : EReal)
    congr 1
    show (2 : ℝ) ^ (x * (Real.log 2)⁻¹) = _
    rw [Real.rpow_def_of_pos (by norm_num)]
    have h : Real.log 2 ≠ 0 := (Real.log_pos (by norm_num)).ne'
    congr 1
    field_simp

/-- A difference of scaled numbers is the scaled difference. -/
theorem sub_scale (x y : EReal) (r : ℝ) (p : 0 < r) : x * (r : EReal) - y * (r : EReal) = (x - y) * (r : EReal) := by
  induction x with
  | bot =>
    induction y with
    | bot => simp [EReal.bot_mul_coe_of_pos p]
    | top => simp [EReal.bot_mul_coe_of_pos p, EReal.top_mul_coe_of_pos p]
    | coe y => rw [EReal.bot_mul_coe_of_pos p, ← EReal.coe_mul]; simp [EReal.bot_mul_coe_of_pos p]
  | top =>
    induction y with
    | bot => simp [EReal.bot_mul_coe_of_pos p, EReal.top_mul_coe_of_pos p]
    | top => simp [EReal.bot_mul_coe_of_pos p, EReal.top_mul_coe_of_pos p]
    | coe y => rw [EReal.top_mul_coe_of_pos p, ← EReal.coe_mul, EReal.top_sub_coe, EReal.top_sub_coe, EReal.top_mul_coe_of_pos p]
  | coe x =>
    induction y with
    | bot => rw [EReal.bot_mul_coe_of_pos p, ← EReal.coe_mul, EReal.coe_sub_bot, EReal.coe_sub_bot, EReal.top_mul_coe_of_pos p]
    | top => rw [EReal.top_mul_coe_of_pos p, ← EReal.coe_mul, sub_eq_add_neg, sub_eq_add_neg, EReal.neg_top, EReal.add_bot, EReal.add_bot, EReal.bot_mul_coe_of_pos p]
    | coe y => norm_cast; ring

/-- The running sums of eight rows, the last four of them zero, of which each is kept in three parts. -/
theorem sums_eq (c : Fin 8 → Fin 8 → EReal) (hc : ∀ t x, c t x = if x ≤ t then 1 else 0) (g : Fin 4 → EReal) (hg : ∀ t, g t ≠ ⊤)
    (z : Fin 8 → EReal) (h0 : ∀ t : Fin 4, z ⟨t.val, by omega⟩ = g t) (h1 : ∀ t : Fin 8, 4 ≤ t.val → z t = 0) (t : Fin 8) :
    (∑ x, c t x * z x + ∑ x, c t x * (z x - z x)) + ∑ x, c t x * (z x - z x - (z x - z x)) = cum g ⟨min t.val 3, by omega⟩ := by
  have hz : ∀ x, z x ≠ ⊤ := fun x => by
    by_cases hx : x.val < 4
    · rw [show z x = g ⟨x.val, hx⟩ from h0 ⟨x.val, hx⟩]; exact hg _
    · rw [h1 x (by omega)]; exact EReal.zero_ne_top
  rw [← Finset.sum_add_distrib, ← Finset.sum_add_distrib]
  have hs : ∀ x, c t x * z x + c t x * (z x - z x) + c t x * (z x - z x - (z x - z x)) = if x ≤ t then z x else 0 := fun x => by
    rw [hc]
    split_ifs
    · rw [one_mul, one_mul, one_mul, split _ (hz x)]
    · simp
  rw [Finset.sum_congr rfl fun x _ => hs x]
  unfold cum
  rw [Fin.sum_univ_eight, Fin.sum_univ_four, h1 4 (by decide), h1 5 (by decide), h1 6 (by decide), h1 7 (by decide)]
  simp only [ite_self, add_zero]
  have e : ∀ s : Fin 4, (s ≤ (⟨min t.val 3, by omega⟩ : Fin 4)) ↔ ((⟨s.val, by omega⟩ : Fin 8) ≤ t) := fun s => by
    simp only [Fin.le_def]; omega
  simp only [e, ← h0]
  rfl

end Cert.Hgrn

end
-- ==== Proof.HgPay.lean ====
module

public import proofs.«01_k».proof.Proof.HgOps
public import proofs.«01_k».proof.Proof.HgMath

@[expose] public section
set_option maxRecDepth 16384
noncomputable section

/-! One unit's operations, read at an index. -/

namespace Cert.Kernel4Ideal.Hg
open Cert.Kernel4Ideal Cert.Kernel4Ideal.Gen Cert.Hgrn
open Idealize.ShloMosaic Idealize.ShloMosaic.TcCoe Idealize.ShloMosaic.Tactic

/-- The named scale of the base-two exponents. -/
theorem named_log2e : (Named.named (F := Ideal) κ "log2e" (φ := .f32) 0x3FB8AA3B#32 : Ideal .f32) = (((Real.log 2)⁻¹ : ℝ) : EReal) :=
  rfl

/-- The state. -/
theorem next_at (k v b : A8) (s : FVec Ideal S1x1x128x128 .f32) (i j : Fin 128) :
    flop (shapeCast S1x128x128 (next k v b (flip s)) shapeCasts_S128x128_S1x128x128) (ix4 0 0 i j)
      = s (ix4 0 0 i j) * Ideal.exp2 (b (ix2 7 i)) + ∑ t : Fin 8, v (ix2 t j) * (k (ix2 t i) * Ideal.exp2 (b (ix2 7 i) - b (ix2 t i))) := by
  pointwise [next, flip, flop]
  rfl

/-- The forget gates. -/
theorem fg_at (lb : FVec Ideal S1x128 .f32) (z : FVec Ideal S1x8x128 .f32) (t : Fin 8) (j : Fin 128) :
    fg lb z (ix2 t j) = gate (lb (ix2 0 j)) (z (ix3 0 t j)) := by
  pointwise [fg, sg, rows, cst]
  rw [zero_sub]
  rfl

/-- Their lower bounds. -/
theorem lbs_at (z : FVec Ideal S2x512 .f32) (j : Fin 512) : lbs z (ix2 0 j) = Hgrn.lb (fun k => z (ix2 k j)) := by
  pointwise [lbs]
  rfl

/-- The rows that are positions. -/
theorem msk_at (z : A8) (t : Fin 8) (j : Fin 128) : msk 0#32 z (ix2 t j) = if t.val < 4 then z (ix2 t j) else 0 := by
  pointwise [msk, pos, cst]
  fin_cases t <;> rfl

/-- Which rows come no later. -/
theorem tril_at (t x : Fin 8) : (FloatOps.sitofp (F := Ideal) FTy.f32
    (BitVec.setWidth 32 (IntOp.cmpi CmpIPredicate.sle (BitVec.ofNat 32 ↑x) (BitVec.ofNat 32 ↑t))) : EReal) = if x ≤ t then 1 else 0 := by
  have h : BitVec.setWidth 32 (IntOp.cmpi CmpIPredicate.sle (BitVec.ofNat 32 ↑x) (BitVec.ofNat 32 ↑t)) = if x ≤ t then 1#32 else 0#32 := by
    revert t x; decide
  rw [h]
  split_ifs
  · show ((((1#32).toInt : ℤ) : ℝ) : EReal) = 1
    simp
  · show ((((0#32).toInt : ℤ) : ℝ) : EReal) = 0
    simp

/-- The exponents: the running sums of the rows, times the scale. -/
theorem bb_at (z : A8) (g : Fin 4 → EReal) (hg : ∀ t, g t ≠ ⊤) (j : Fin 128) (h0 : ∀ t : Fin 4, z (ix2 ⟨t.val, by omega⟩ j) = g t)
    (h1 : ∀ t : Fin 8, 4 ≤ t.val → z (ix2 t j) = 0) (t : Fin 8) :
    bb z (ix2 t j) = cum g ⟨min t.val 3, by omega⟩ * (((Real.log 2)⁻¹ : ℝ) : EReal) := by
  rw [← sums_eq (fun t x => if x ≤ t then 1 else 0) (fun _ _ => rfl) g hg (fun t => z (ix2 t j)) h0 h1 t]
  pointwise [sums, bb, l2]
  simp only [tril_at, named_log2e]

/-- One unit's state from its rows of gates and values, its lower bounds and its state before. -/
theorem unitS_at (lb : FVec Ideal S1x128 .f32) (zf zi : FVec Ideal S1x8x128 .f32) (s : FVec Ideal S1x1x128x128 .f32) (i j : Fin 128)
    (hl : lb (ix2 0 i) ≠ ⊤) : unitS 0#32 lb zf zi s (ix4 0 0 i j)
      = state (fun t => gate (lb (ix2 0 i)) (zf (ix3 0 ⟨t.val, by omega⟩ i))) (fun t => zi (ix3 0 ⟨t.val, by omega⟩ j)) (s (ix4 0 0 i j)) := by
  have p : 0 < (Real.log 2)⁻¹ := inv_pos.mpr (Real.log_pos (by norm_num))
  have hb := bb_at (msk 0#32 (log (fg lb zf))) (fun t => Ideal.log (gate (lb (ix2 0 i)) (zf (ix3 0 ⟨t.val, by omega⟩ i))))
    (fun t => log_ne_top _ (gate_ne_top _ _ hl)) i
    (fun t => by rw [msk_at, if_pos t.isLt]; exact congrArg Ideal.log (fg_at lb zf _ i)) (fun t ht => by rw [msk_at, if_neg (by omega)])
  unfold unitS
  rw [next_at, hb]
  simp only [hb, sub_scale _ _ _ p, exp2_scale]
  have hk : ∀ t : Fin 8, msk 0#32 (subf (cst 0x3F800000#32) (fg lb zf)) (ix2 t i) = if t.val < 4 then 1 - gate (lb (ix2 0 i)) (zf (ix3 0 t i)) else 0 := fun t => by
    rw [msk_at, ← fg_at]
    congr 1
    pointwise [cst]
  have hv : ∀ t : Fin 8, msk 0#32 (rows zi) (ix2 t j) = if t.val < 4 then zi (ix3 0 t j) else 0 := fun t => by
    rw [msk_at]
    congr 1
    pointwise [rows]
  simp only [hk, hv]
  unfold state
  rw [mul_comm (s _), Fin.sum_univ_eight, Fin.sum_univ_four]
  have e : ∀ t : Fin 8, 4 ≤ t.val → ∀ x y : EReal, (if t.val < 4 then x else 0) * y = 0 := fun t ht x y => by rw [if_neg (by omega), zero_mul]
  rw [e 4 (by decide), e 5 (by decide), e 6 (by decide), e 7 (by decide)]
  simp only [add_zero]
  refine congrArg₂ (· + ·) rfl ?_
  refine congrArg₂ (· + ·) (congrArg₂ (· + ·) (congrArg₂ (· + ·) ?_ ?_) ?_) ?_ <;> exact mul_comm _ _

end Cert.Kernel4Ideal.Hg

end
-- ==== Proof.HgVal.lean ====
module

public import proofs.«01_k».proof.Proof.HgPiece
public import proofs.«01_k».proof.Proof.HgPay
public import Idealize.ShloMosaic.Lib.KernelVsHost

@[expose] public section
set_option maxRecDepth 16384
noncomputable section

/-! The states' array after the run. -/

namespace Cert.Kernel4Ideal.Hg
open Cert.Kernel4Ideal Cert.Kernel4Ideal.Gen Cert.Hgrn
open Idealize.ShloMosaic Idealize.ShloMosaic.TcCoe Idealize.ShloMosaic.Tactic
open Idealize.SL Idealize.SL.Sem

variable (m : (ℓ : Loc nD τ sig) → Buf (Elt Ideal) ℓ) (ρ : Dev nD → PrngReg)

/-- The projected rows. -/
abbrev A0 (c : Dev nD) : FVec Ideal S128x2048 .f32 := m ((c : Thread nD τ).loc main_arg0)
/-- The states before the positions. -/
abbrev A1 (c : Dev nD) : FVec Ideal S32x4x128x128 .f32 := m ((c : Thread nD τ).loc main_arg1)
/-- The lower bounds' logits. -/
abbrev A2 (c : Dev nD) : FVec Ideal S2x512 .f32 := m ((c : Thread nD τ).loc main_arg2)

/-- One entry of the states after the four positions, from the arguments. -/
def State (x0 : FVec Ideal S128x2048 .f32) (x1 : FVec Ideal S32x4x128x128 .f32) (x2 : FVec Ideal S2x512 .f32) (n : Fin 32) (h : Fin 4) (i j : Fin 128) : EReal :=
  state (fun t => gate (Hgrn.lb (fun k => x2 (ix2 k ⟨h.val * 128 + i.val, by omega⟩)))
      (x0 (ix2 ⟨n.val * 4 + t.val, by omega⟩ ⟨512 + (h.val * 128 + i.val), by omega⟩)))
    (fun t => x0 (ix2 ⟨n.val * 4 + t.val, by omega⟩ ⟨1024 + (h.val * 128 + j.val), by omega⟩)) (x1 (ix4 n h i j))

/-- Where the windows' blocks lie. -/
theorem idx : ∀ t : Fin cfg0.N, win0_1.index t = ![t.val, 0, 1] ∧ win0_2.index t = ![t.val, 0, 2] ∧ win0_4.index t = ![0, 0]
    ∧ win0_6.index t = ![t.val, 0, 0, 0] ∧ win0_8.index t = ![t.val, 0, 0, 0] ∧ t.val < 8 := (by decide +kernel : ∀ t : Fin grid0.N, _)

/-- The second axis of the grid has one point. -/
theorem one : ∀ t : Fin cfg0.N, BitVec.ofNat 32 ((grid0.coords t) 1).val = 0#32 := (by decide +kernel : ∀ t : Fin grid0.N, _)

/-- The projected rows, padded to whole tiles. -/
theorem entry (c : Dev nD) : (show FVec Ideal S32x8x2048 .f32 from V m c main_v1)
    = pad S32x8x2048 ![0, 0, 0] ![0, 4, 0] ![0, 0, 0] (shapeCast S32x4x2048 (show FVec Ideal S128x2048 .f32 from m ((c : Thread nD τ).loc main_arg0)) shapeCasts_S128x2048_S32x4x2048)
      (sitofp (F := Ideal) .f32 (constantI S_ 32 0#32)) pads_S32x4x2048_S32x8x2048_000_040_000 h_S_ :=
  rfl

/-- Its rows that are positions. -/
theorem padded (c : Dev nD) (n : Fin 32) (p : Fin 4) (q : Fin 2048) (j : S32x8x2048.Idx) (h0 : (j 0).val = n.val) (h1 : (j 1).val = p.val) (h2 : (j 2).val = q.val) :
    (show FVec Ideal S32x8x2048 .f32 from V m c main_v1) j
      = (show FVec Ideal S128x2048 .f32 from m ((c : Thread nD τ).loc main_arg0)) (ix2 ⟨n.val * 4 + p.val, by omega⟩ q) := by
  rw [entry]
  refine (pad_apply_of_inside _ _ _ _ _ _ _ _ (ix3 n p q) fun a => ?_).trans ?_
  · match a with
    | ⟨0, _⟩ => show (j 0).val = 0 + n.val * 1; omega
    | ⟨1, _⟩ => show (j 1).val = 0 + p.val * 1; omega
    | ⟨2, _⟩ => show (j 2).val = 0 + q.val * 1; omega
  · pointwise []

/-- The forget gates' projections. -/
theorem blk1 (c : Dev nD) (t : Fin cfg0.N) (e p : Fin 4) (j : Fin 512) (n : Fin 32) (hn : n.val = t.val * 4 + e.val) :
    (show FVec Ideal S4x8x512 .f32 from iblk m c 1 t) (ix3 e ⟨p.val, by omega⟩ j)
      = (show FVec Ideal S128x2048 .f32 from m ((c : Thread nD τ).loc main_arg0)) (ix2 ⟨n.val * 4 + p.val, by omega⟩ ⟨512 + j.val, by omega⟩) := by
  blk_simp [iblk, idx t]
  refine padded m c n p _ _ ?_ ?_ ?_
  · blk_simp [idx t]; exact hn.symm
  · blk_simp [idx t]
  · blk_simp [idx t]

/-- The values' projections. -/
theorem blk2 (c : Dev nD) (t : Fin cfg0.N) (e p : Fin 4) (j : Fin 512) (n : Fin 32) (hn : n.val = t.val * 4 + e.val) :
    (show FVec Ideal S4x8x512 .f32 from iblk m c 2 t) (ix3 e ⟨p.val, by omega⟩ j)
      = (show FVec Ideal S128x2048 .f32 from m ((c : Thread nD τ).loc main_arg0)) (ix2 ⟨n.val * 4 + p.val, by omega⟩ ⟨1024 + j.val, by omega⟩) := by
  blk_simp [iblk, idx t]
  refine padded m c n p _ _ ?_ ?_ ?_
  · blk_simp [idx t]; exact hn.symm
  · blk_simp [idx t]
  · blk_simp [idx t]

/-- The logits. -/
theorem blk4 (c : Dev nD) (t : Fin cfg0.N) (k : Fin 2) (j : Fin 512) :
    (show FVec Ideal S2x512 .f32 from iblk m c 4 t) (ix2 k j) = (show FVec Ideal S2x512 .f32 from m ((c : Thread nD τ).loc main_arg2)) (ix2 k j) := by
  blk_ext [iblk, V, idx t]

/-- The states before. -/
theorem blk6 (c : Dev nD) (t : Fin cfg0.N) (e h : Fin 4) (a b : Fin 128) (n : Fin 32) (hn : n.val = t.val * 4 + e.val) :
    (show FVec Ideal S4x4x128x128 .f32 from iblk m c 6 t) (ix4 e h a b) = (show FVec Ideal S32x4x128x128 .f32 from m ((c : Thread nD τ).loc main_arg1)) (ix4 n h a b) := by
  blk_ext [iblk, V, idx t]

/-- One entry of a unit's projected rows. -/
theorem cut_at (x : Vec Ideal S4x8x512 .f32) (e h : Fin 4) (t : Fin 8) (j : Fin 128) : cut x e h (ix3 0 t j) = x (ix3 e t ⟨h.val * 128 + j.val, by omega⟩) := by
  refine congrArg x (funext fun a => Fin.ext ?_)
  match a with
  | ⟨0, _⟩ => show e.val + 1 * 0 = e.val; omega
  | ⟨1, _⟩ => show 0 + 1 * t.val = t.val; omega
  | ⟨2, _⟩ => show 128 * h.val + 1 * j.val = h.val * 128 + j.val; omega

/-- One entry of a unit's state. -/
theorem stAt_at (x : Vec Ideal S4x4x128x128 .f32) (e h : Fin 4) (a b : Fin 128) : stAt x e h (ix4 0 0 a b) = x (ix4 e h a b) := by
  refine congrArg x (funext fun d => Fin.ext ?_)
  match d with
  | ⟨0, _⟩ => show e.val + 1 * 0 = e.val; omega
  | ⟨1, _⟩ => show h.val + 1 * 0 = h.val; omega
  | ⟨2, _⟩ => show 0 + 1 * a.val = a.val; omega
  | ⟨3, _⟩ => show 0 + 1 * b.val = b.val; omega

/-- One of a unit's lower bounds. -/
theorem lbAt_at (x : Vec Ideal S2x512 .f32) (h : Fin 4) (j : Fin 128) : lbAt x h (ix2 0 j) = Hgrn.lb (fun k => x (ix2 k ⟨h.val * 128 + j.val, by omega⟩)) := by
  rw [← lbs_at]
  refine congrArg (lbs x) (funext fun d => Fin.ext ?_)
  match d with
  | ⟨0, _⟩ => rfl
  | ⟨1, _⟩ => show 128 * h.val + j.val = h.val * 128 + j.val; omega

/-- What a grid point writes. -/
theorem point (c : Dev nD) (t : Fin cfg0.N) (e h : Fin 4) (a b : Fin 128) (n : Fin 32) (hn : n.val = t.val * 4 + e.val) :
    out0_A_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (hcond0_0 t) (hcond0_1 t) (iblk m c 0 t) (iblk m c 1 t) (iblk m c 2 t) (iblk m c 3 t) (iblk m c 4 t) (iblk m c 5 t) (iblk m c 6 t) (ix4 e h a b)
      = State (A0 m c) (A1 m c) (A2 m c) n h a b := by
  have hl : lbAt (iblk m c 4 t) h (ix2 0 a) = Hgrn.lb (fun k => A2 m c (ix2 k ⟨h.val * 128 + a.val, by omega⟩)) := by
    rw [lbAt_at]
    exact congrArg Hgrn.lb (funext fun k => blk4 m c t k _)
  rw [s_at, one t, unitS_at _ _ _ _ _ _ (by rw [hl]; exact lb_ne_top _), hl, stAt_at]
  unfold State
  refine congr (congrArg₂ state (funext fun p => congrArg (gate _) ?_) (funext fun p => ?_)) (blk6 m c t e h a b n hn)
  · rw [cut_at]; exact blk1 m c t e p _ n hn
  · rw [cut_at]; exact blk2 m c t e p _ n hn

set_option maxHeartbeats 4000000 in
/-- The states' array after the run. -/
theorem final (c : Dev nD) : (dats m 0 c).arrAt 8 cfg0.N
    = (fun y => State (A0 m c) (A1 m c) (A2 m c) (y 0) (y 1) (y 2) (y 3) : FVec Ideal S32x4x128x128 .f32) := by
  refine (dats m 0 c).arrAt_eq_of_covers 8 _ (by decide +kernel) fun t hf y => ?_
  blk_simp
  rw [after0_8]
  unfold outsAt0
  have ht : t.val < 8 := t.isLt
  have e : y = (ix4 (y 0 : Fin 4) (y 1 : Fin 4) (y 2 : Fin 128) (y 3 : Fin 128) : S4x4x128x128.Idx) := (ix4_eta (n0 := 4) (n1 := 4) (n2 := 128) (n3 := 128) y).symm
  generalize (y 0 : Fin 4) = q at e
  generalize (y 1 : Fin 4) = h at e
  generalize (y 2 : Fin 128) = a at e
  generalize (y 3 : Fin 128) = b at e
  subst e
  have hq : q.val < 4 := q.isLt
  refine (point m c t q h a b ⟨t.val * 4 + q.val, by omega⟩ rfl).trans ?_
  refine congr (congr (congrArg₂ (State (A0 m c) (A1 m c) (A2 m c)) (Fin.ext ?_) (Fin.ext ?_)) (Fin.ext ?_)) (Fin.ext ?_)
  · blk_simp [idx t]
  · blk_simp [idx t]
  · blk_simp [idx t]
  · blk_simp [idx t]

end Cert.Kernel4Ideal.Hg

end
-- ==== Proof.HgRef.lean ====
module

public import proofs.«01_k».proof.Proof.HgMath
public import proofs.«01_k».proof.Proof.Gen.Reference4Ideal.Read
public import Idealize.ShloMosaic.Lib.ValueIdx

@[expose] public section
set_option maxRecDepth 16384
noncomputable section

/-! The reference's states, read at an index. -/

namespace Cert.Reference4Ideal.Hg
open Cert.Reference4Ideal Cert.Reference4Ideal.Read Cert.Hgrn
open Idealize.ShloMosaic Idealize.ShloMosaic.TcCoe Idealize.ShloMosaic.Tactic

variable (x0 : FVec Ideal S128x2048 .f32) (x1 : FVec Ideal S32x4x128x128 .f32) (x2 : FVec Ideal S2x512 .f32)

/-- What one position of the window over the positions reads: a row not before the first, or nothing. -/
theorem win4 (f : S32x4x4x128.Idx → EReal) (n : Fin 32) (h : Fin 4) (i : Fin 128) (p : Fin 4 → ℕ) (q : ℕ) (hq : q < 7) (h0 : p 0 = n.val) (h1 : p 1 = h.val)
    (h2 : p 2 = q) (h3 : p 3 = i.val) :
    (if hin : ∀ a : Fin 4, (![0, 0, 3, 0] : Fin 4 → ℕ) a ≤ p a ∧ p a - (![0, 0, 3, 0] : Fin 4 → ℕ) a < S32x4x4x128.size a then f (fun a => ⟨p a - (![0, 0, 3, 0] : Fin 4 → ℕ) a, (hin a).2⟩) else 0)
      = if 3 ≤ q then f (ix4 n h ⟨q - 3, by omega⟩ i) else 0 := by
  by_cases hk : 3 ≤ q
  · have hin : ∀ a : Fin 4, (![0, 0, 3, 0] : Fin 4 → ℕ) a ≤ p a ∧ p a - (![0, 0, 3, 0] : Fin 4 → ℕ) a < S32x4x4x128.size a := fun a => match a with
      | ⟨0, _⟩ => ⟨Nat.zero_le _, by show p 0 - 0 < 32; omega⟩
      | ⟨1, _⟩ => ⟨Nat.zero_le _, by show p 1 - 0 < 4; omega⟩
      | ⟨2, _⟩ => ⟨by show 3 ≤ p 2; omega, by show p 2 - 3 < 4; omega⟩
      | ⟨3, _⟩ => ⟨Nat.zero_le _, by show p 3 - 0 < 128; omega⟩
    rw [dif_pos hin, if_pos hk]
    refine congrArg f (funext fun a => Fin.ext ?_)
    match a with
    | ⟨0, _⟩ => show p 0 - 0 = n.val; omega
    | ⟨1, _⟩ => show p 1 - 0 = h.val; omega
    | ⟨2, _⟩ => show p 2 - 3 = q - 3; omega
    | ⟨3, _⟩ => show p 3 - 0 = i.val; omega
  · rw [if_neg hk, dif_neg]
    intro hin
    have := (hin 2).1
    have : 3 ≤ p 2 := this
    omega

/-- What one position of the window over two rows reads. -/
theorem win2 (f : S2x512.Idx → EReal) (j : Fin 512) (p : Fin 2 → ℕ) (q : ℕ) (hq : q < 3) (h0 : p 0 = q) (h1 : p 1 = j.val) :
    (if hin : ∀ a : Fin 2, (![1, 0] : Fin 2 → ℕ) a ≤ p a ∧ p a - (![1, 0] : Fin 2 → ℕ) a < S2x512.size a then f (fun a => ⟨p a - (![1, 0] : Fin 2 → ℕ) a, (hin a).2⟩) else 0)
      = if 1 ≤ q then f (ix2 ⟨q - 1, by omega⟩ j) else 0 := by
  by_cases hk : 1 ≤ q
  · have hin : ∀ a : Fin 2, (![1, 0] : Fin 2 → ℕ) a ≤ p a ∧ p a - (![1, 0] : Fin 2 → ℕ) a < S2x512.size a := fun a => match a with
      | ⟨0, _⟩ => ⟨by show 1 ≤ p 0; omega, by show p 0 - 1 < 2; omega⟩
      | ⟨1, _⟩ => ⟨Nat.zero_le _, by show p 1 - 0 < 512; omega⟩
    rw [dif_pos hin, if_pos hk]
    refine congrArg f (funext fun a => Fin.ext ?_)
    match a with
    | ⟨0, _⟩ => show p 0 - 1 = q - 1; omega
    | ⟨1, _⟩ => show p 1 - 0 = j.val; omega
  · rw [if_neg hk, dif_neg]
    intro hin
    have : 1 ≤ p 0 := (hin 0).1
    omega

/-- The first of two running sums is the first row. -/
theorem v11_at (j : Fin 512) : val_main_v11 (F := Ideal) x2 (ix2 0 j) = val_main_v10 (F := Ideal) x2 (ix2 0 j) := by
  have hz : (val_main_call0_call0_v0 (F := Ideal) (Shape.Idx.first Gen.h_S_) : EReal) = 0 := by pointwise [val_main_call0_call0_v0, val_main_call0_call0_cst]
  have w := fun (k : Fin 2) => win2 (val_main_v10 (F := Ideal) x2) j
    (fun a => ((ix2 0 j : S2x512.Idx) a).val * (![1, 1] : Fin 2 → ℕ) a + ((⟨2, ![2, 1]⟩ : Shape).rowMajor.symm ⟨k.val, k.isLt⟩ a).val) k.val (by omega)
    (by fin_cases k <;> rfl) (by fin_cases k <;> (show j.val * 1 + 0 = j.val; omega))
  unfold val_main_v11 Host.reduceWindowAdd
  rw [hz, Ideal.hostReduceWindowAdd_def]
  unfold Ideal.hostReduceWindowAdd Host.reduceWindow
  change List.foldl _ _ (List.finRange 2) = _
  simp only [List.finRange, List.ofFn_succ, List.ofFn_zero, List.foldl_cons, List.foldl_nil]
  refine (congrArg₂ (· + ·) (congrArg (0 + ·) (w 0)) (w 1)).trans ?_
  simp

/-- The running sums over the positions. -/
theorem v39_at (n : Fin 32) (h t : Fin 4) (i : Fin 128) :
    val_main_v39 (F := Ideal) x0 x2 (ix4 n h t i) = cum (fun s => val_main_v38 (F := Ideal) x0 x2 (ix4 n h s i)) t := by
  have hz : (val_main_call1_call0_v0 (F := Ideal) (Shape.Idx.first Gen.h_S_) : EReal) = 0 := by pointwise [val_main_call1_call0_v0, val_main_call1_call0_cst]
  have w := fun (k : Fin 4) => win4 (val_main_v38 (F := Ideal) x0 x2) n h i
    (fun a => ((ix4 n h t i : S32x4x4x128.Idx) a).val * (![1, 1, 1, 1] : Fin 4 → ℕ) a + ((⟨4, ![1, 1, 4, 1]⟩ : Shape).rowMajor.symm ⟨k.val, k.isLt⟩ a).val) (t.val + k.val) (by omega)
    (by fin_cases k <;> (show n.val * 1 + 0 = n.val; omega)) (by fin_cases k <;> (show h.val * 1 + 0 = h.val; omega))
    (by fin_cases k
        · show t.val * 1 + 0 = t.val + 0; omega
        · show t.val * 1 + 1 = t.val + 1; omega
        · show t.val * 1 + 2 = t.val + 2; omega
        · show t.val * 1 + 3 = t.val + 3; omega) (by fin_cases k <;> (show i.val * 1 + 0 = i.val; omega))
  unfold val_main_v39 Host.reduceWindowAdd
  rw [hz, Ideal.hostReduceWindowAdd_def]
  unfold Ideal.hostReduceWindowAdd Host.reduceWindow
  change List.foldl _ _ (List.finRange 4) = _
  simp only [List.finRange, List.ofFn_succ, List.ofFn_zero, List.foldl_cons, List.foldl_nil]
  refine (congrArg₂ (· + ·) (congrArg₂ (· + ·) (congrArg₂ (· + ·) (congrArg (0 + ·) (w 0)) (w 1)) (w 2)) (w 3)).trans ?_
  unfold cum
  rw [Fin.sum_univ_four]
  fin_cases t <;> simp [Fin.le_def] <;> rfl

/-- The softmax's first row. -/
theorem v10_at (j : Fin 512) : val_main_v10 (F := Ideal) x2 (ix2 0 j) = lb (fun k => x2 (ix2 k j)) := by
  pointwise [val_main_v10, val_main_v9, val_main_v8, val_main_v7, val_main_v6, val_main_v5, val_main_v4, val_main_v3, val_main_v2, val_main_v1, val_main_v0, val_main_cst, val_main_cst_0, val_main_cst_1]
  simp only [max_bot]
  rfl

/-- The gates. -/
theorem v29_at (i : Fin 128) (j : Fin 512) :
    val_main_v29 (F := Ideal) x0 x2 (ix2 i j) = gate (lb (fun k => x2 (ix2 k j))) (x0 (ix2 i ⟨512 + j.val, by omega⟩)) := by
  pointwise [val_main_v29, val_main_v28, val_main_v27, val_main_v26, val_main_v25, val_main_v24, val_main_v23, val_main_v22, val_main_v21, val_main_v20, val_main_v19, val_main_v18, val_main_v17, val_main_v16, val_main_v14, val_main_v13, val_main_v12, val_main_cst_2, val_main_cst_3, val_main_cst_4]
  rw [v11_at, v10_at]
  rfl

/-- The keys. -/
theorem v33_at (n : Fin 32) (h t : Fin 4) (i : Fin 128) : val_main_v33 (F := Ideal) x0 x2 (ix4 n h t i)
    = 1 - val_main_v29 (F := Ideal) x0 x2 (ix2 ⟨n.val * 4 + t.val, by omega⟩ ⟨h.val * 128 + i.val, by omega⟩) := by
  pointwise [val_main_v33, val_main_v32, val_main_v31, val_main_v30, val_main_cst_5]

/-- The gates' logarithms. -/
theorem v38_at (n : Fin 32) (h t : Fin 4) (i : Fin 128) : val_main_v38 (F := Ideal) x0 x2 (ix4 n h t i)
    = Ideal.log (val_main_v29 (F := Ideal) x0 x2 (ix2 ⟨n.val * 4 + t.val, by omega⟩ ⟨h.val * 128 + i.val, by omega⟩)) := by
  pointwise [val_main_v38, val_main_v37, val_main_v36]

/-- The values. -/
theorem v35_at (n : Fin 32) (h t : Fin 4) (i : Fin 128) : val_main_v35 (F := Ideal) x0 (ix4 n h t i)
    = x0 (ix2 ⟨n.val * 4 + t.val, by omega⟩ ⟨1024 + (h.val * 128 + i.val), by omega⟩) := by
  pointwise [val_main_v35, val_main_v34, val_main_v15]

/-- The states from the keys, the values and the running sums. -/
theorem v51_at (n : Fin 32) (h : Fin 4) (i j : Fin 128) : val_main_v51 (F := Ideal) x0 x1 x2 (ix4 n h i j)
    = Ideal.exp (val_main_v39 (F := Ideal) x0 x2 (ix4 n h 3 i)) * x1 (ix4 n h i j)
      + ∑ t : Fin 4, val_main_v33 (F := Ideal) x0 x2 (ix4 n h t i)
        * Ideal.exp (val_main_v39 (F := Ideal) x0 x2 (ix4 n h 3 i) - val_main_v39 (F := Ideal) x0 x2 (ix4 n h t i)) * val_main_v35 (F := Ideal) x0 (ix4 n h t j) := by
  pointwise [val_main_v51, val_main_v50, val_main_v49, val_main_v48, val_main_v47, val_main_v46, val_main_v45, val_main_v44, val_main_v43, val_main_v42, val_main_v41, val_main_v40]

/-- The states. -/
theorem out_at (n : Fin 32) (h : Fin 4) (i j : Fin 128) : val_main_v51 (F := Ideal) x0 x1 x2 (ix4 n h i j)
    = state (fun t => gate (lb (fun k => x2 (ix2 k ⟨h.val * 128 + i.val, by omega⟩)))
        (x0 (ix2 ⟨n.val * 4 + t.val, by omega⟩ ⟨512 + (h.val * 128 + i.val), by omega⟩)))
      (fun t => x0 (ix2 ⟨n.val * 4 + t.val, by omega⟩ ⟨1024 + (h.val * 128 + j.val), by omega⟩)) (x1 (ix4 n h i j)) := by
  rw [v51_at]
  simp only [v39_at, v38_at, v33_at, v35_at, v29_at]
  rfl

end Cert.Reference4Ideal.Hg

end
-- ==== Proof.lean ====
module

public import proofs.«01_k».proof.Defs
public import proofs.«01_k».proof.Proof.Run
public import proofs.«01_k».proof.Proof.KRun
public import proofs.«01_k».proof.Proof.Value
public import proofs.«01_k».proof.Proof.RVal
public import proofs.«01_k».proof.Proof.Finite
public import proofs.«01_k».proof.Proof.FfnVal
public import proofs.«01_k».proof.Proof.FfnRef
public import proofs.«01_k».proof.Proof.InOut
public import proofs.«01_k».proof.Proof.InRef
public import proofs.«01_k».proof.Proof.InFinite
public import proofs.«01_k».proof.Proof.HgVal
public import proofs.«01_k».proof.Proof.HgRef
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_inputs
public import proofs.«01_k».proof.Proof.Gen.Kernel2Ideal.Value
public import proofs.«01_k».proof.Proof.Gen.Kernel2Ideal
public import proofs.«01_k».proof.Proof.Gen.Kernel2
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel4Ideal.Value
public import proofs.«01_k».proof.Proof.Gen.Kernel4Ideal
public import proofs.«01_k».proof.Proof.Gen.Kernel4
public import proofs.«01_k».proof.Proof.Gen.Kernel4.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel3Ideal.Value
public import proofs.«01_k».proof.Proof.Gen.Kernel3Ideal
public import proofs.«01_k».proof.Proof.Gen.Kernel3
public import proofs.«01_k».proof.Proof.Gen.Reference3Ideal
public import proofs.«01_k».proof.Proof.Gen.Reference3Ideal.Run
public import proofs.«01_k».proof.Proof.Gen.Reference3Ideal.Read
public import Idealize.ShloMosaic.Adequacy
public import Idealize.ShloMosaic.Init

@[expose] public section

noncomputable section

namespace Cert.Proof

open Idealize.ShloMosaic Idealize.ShloMosaic.TcCoe Idealize.SL.Sem

/-- The reference's frame: it runs, its arguments end as they began and every counter is zero. -/
theorem frame_ri : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The named constants: the mask stands for minus infinity, the score's factor for one over the root of 192 and the logarithm of 2. -/
theorem preserves : Cert.preserves_Kernel_KernelIdeal := ⟨IdealRules.named_const.statement Cert.KernelIdeal.κ "mask" .f32 0xF149F2CA#32 ⊥ rfl,
  IdealRules.named_const.statement Cert.KernelIdeal.κ "scale2" .f32 0x3DD53B95#32 (((Real.sqrt 192)⁻¹ * (Real.log 2)⁻¹ : ℝ) : EReal) rfl⟩

/-- On real queries, keys and latents the kernel's result and the reference's are the same softmax attention. -/
theorem algebraic : Cert.algebraic_KernelIdeal_ReferenceIdeal_pre_finite_inputs := by
  intro m ρ m' ρ' hpre hagree
  have hr := fun c => Cert.Pre_finite_inputs.reals _ _ _ _ _ (hpre c)
  refine ⟨_, Cert.KernelIdeal.Attn.run m ρ (fun c => (hr c).1) (fun c => (hr c).2.1) (fun c => (hr c).2.2.1) (fun c => (hr c).2.2.2), ?_⟩
  refine (θ_run Cert.ReferenceIdeal.defs _ _).mono (fun _ h c => ⟨(h c).1.trans ?_, (h c).2⟩) (Cert.ReferenceIdeal.Value.run (F := Ideal) m' ρ')
  obtain ⟨e0, e1, e2, e3, e4⟩ := hagree c
  rw [Cert.ReferenceIdeal.Read.val_main_v40_eq m' c, e0, e1, e2, e3, e4]
  funext y
  obtain ⟨i, j, rfl⟩ : ∃ (i : Fin 16384) (j : Fin 512), y = ix2 i j := ⟨y 0, y 1, (ix2_eta y).symm⟩
  exact Cert.ReferenceIdeal.Attn.result _ _ _ _ _ (hr c).1 (hr c).2.1 (hr c).2.2.1 (hr c).2.2.2 i j

/-- The feed-forward kernel's body and its ideal program's are the same text. -/
theorem rows_eq2 : Cert.Kernel2.defs₀ (F := Bits) = Cert.Kernel2Ideal.defs₀ (F := Bits) :=
  congrArg (Defs.onTc (nD := Cert.Kernel2.nD) (τ := Cert.Kernel2.τ)) (funext fun l => funext fun a => match l, a with
    | 0, (_, _) => rfl)

/-- So are their tables of bodies. -/
theorem defs_eq2 : Cert.Kernel2.defs (F := Bits) = Cert.Kernel2Ideal.defs (F := Bits) := congrArg (Pipeline.defs Cert.Kernel2.pcfgs) rows_eq2

/-- The feed-forward kernel's frame on words: the ideal program's run, which is written over any floats, taken at words. -/
theorem frame_k2 : Cert.quiescent_Kernel2 := fun m ρ _ => by
  have h := Cert.Kernel2Ideal.Gen.frame (F := Bits) m ρ
  rw [← defs_eq2] at h
  exact h

/-- The feed-forward kernel's frame over the extended reals. -/
theorem frame_k2i : Cert.quiescent_Kernel2Ideal := fun m ρ _ => Cert.Kernel2Ideal.Gen.frame (F := Ideal) m ρ

/-- The frame of the feed-forward's reference. -/
theorem frame_r2i : Cert.quiescent_Reference2Ideal := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

/-- On any arguments the feed-forward kernel's result and its reference's are the same layer. -/
theorem algebraic2 : Cert.algebraic_Kernel2Ideal_Reference2Ideal := by
  intro m ρ m' ρ' _ hagree
  refine ⟨_, (θ_run Cert.Kernel2Ideal.defs _ _).mono (fun _ h c => ⟨(h c).1.trans (Cert.Kernel2Ideal.Ffn.final m c), (h c).2⟩)
    (Cert.Kernel2Ideal.Value.run_blocks (F := Ideal) m ρ), ?_⟩
  refine (θ_run Cert.Reference2Ideal.defs _ _).mono (fun _ h c => ⟨(h c).1.trans ?_, (h c).2⟩) (Cert.Reference2Ideal.Value.run (F := Ideal) m' ρ')
  obtain ⟨e0, e1, e2, e3, e4, e5, e6, e7⟩ := hagree c
  rw [Cert.Reference2Ideal.Read.val_main_v63_eq m' c, e0, e1, e2, e3, e4, e5, e6, e7]
  funext y
  obtain ⟨i, j, rfl⟩ : ∃ (i : Fin 16384) (j : Fin 1024), y = ix2 i j := ⟨y 0, y 1, (ix2_eta y).symm⟩
  exact Cert.Reference2Ideal.Ffn.result _ _ _ _ _ _ _ _ i j

set_option maxHeartbeats 1000000 in
/-- The projection's body and its ideal program's are the same text. -/
theorem rows_eq3 : Cert.Kernel3.defs₀ (F := Bits) = Cert.Kernel3Ideal.defs₀ (F := Bits) :=
  congrArg (Defs.onTc (nD := Cert.Kernel3.nD) (τ := Cert.Kernel3.τ)) (funext fun l => funext fun a => match l, a with
    | 0, (_, _) => rfl)

set_option maxHeartbeats 1000000 in
/-- So are their tables of bodies. -/
theorem defs_eq3 : Cert.Kernel3.defs (F := Bits) = Cert.Kernel3Ideal.defs (F := Bits) := congrArg (Pipeline.defs Cert.Kernel3.pcfgs) rows_eq3

set_option maxHeartbeats 1000000 in
/-- The projection's frame on words: the ideal program's run, which is written over any floats, taken at words. -/
theorem frame_k3 : Cert.quiescent_Kernel3 := fun m ρ _ => by
  have h := Cert.Kernel3Ideal.Gen.frame (F := Bits) m ρ
  rw [← defs_eq3] at h
  exact h

/-- The projection's frame over the extended reals. -/
theorem frame_k3i : Cert.quiescent_Kernel3Ideal := fun m ρ _ => Cert.Kernel3Ideal.Gen.frame (F := Ideal) m ρ

/-- The frame of the projection's reference. -/
theorem frame_r3i : Cert.quiescent_Reference3Ideal := fun m ρ _ =>
  (θ_run Cert.Reference3Ideal.defs _ _).mono
    (fun r h => ⟨fun c => (h c).2.2.2.2.2.2.2, Idealize.ShloMosaic.sem_eq_zero_of_no_sems (by decide) r.2⟩)
    (Cert.Reference3Ideal.Value.run (F := Ideal) m ρ)

/-- On real scales and weights the projection's seven results and its reference's are the same. -/
theorem algebraic3 : Cert.algebraic_Kernel3Ideal_Reference3Ideal_pre_finite_weights := by
  intro m ρ m' ρ' hpre hagree
  have hr := fun c => Cert.Pre_finite_weights.reals _ _ _ _ _ _ _ _ (hpre c)
  refine ⟨_, _, _, _, _, _, _, (θ_run Cert.Kernel3Ideal.defs _ _).mono (fun _ h c =>
    ⟨(h c).1.trans (Cert.Kernel3Ideal.Inp.final14 m c), (h c).2.1.trans (Cert.Kernel3Ideal.Inp.final15 m c (hr c).1 (hr c).2.1),
      (h c).2.2.1.trans (Cert.Kernel3Ideal.Inp.final16 m c), (h c).2.2.2.1.trans (Cert.Kernel3Ideal.Inp.final17 m c (hr c).1 (hr c).2.1),
      (h c).2.2.2.2.1.trans (Cert.Kernel3Ideal.Inp.final18 m c), (h c).2.2.2.2.2.1.trans (Cert.Kernel3Ideal.Inp.final19 m c (hr c).2.2.1 (hr c).2.2.2),
      (h c).2.2.2.2.2.2.1.trans (Cert.Kernel3Ideal.Inp.final20 m c), (h c).2.2.2.2.2.2.2⟩) (Cert.Kernel3Ideal.Value.run_blocks (F := Ideal) m ρ), ?_⟩
  refine (θ_run Cert.Reference3Ideal.defs _ _).mono (fun _ h c => ⟨(h c).1.trans ?_, (h c).2.1.trans ?_, (h c).2.2.1.trans ?_, (h c).2.2.2.1.trans ?_,
    (h c).2.2.2.2.1.trans ?_, (h c).2.2.2.2.2.1.trans ?_, (h c).2.2.2.2.2.2.1.trans ?_, (h c).2.2.2.2.2.2.2⟩)
    (Cert.Reference3Ideal.Value.run (F := Ideal) m' ρ')
  all_goals obtain ⟨e0, e1, e2, e3, e4, e5, e6, e7⟩ := hagree c
  · rw [Cert.Reference3Ideal.Read.val_main_v81_eq, e0, e2, e3, e6]
    funext y
    obtain ⟨i, j, rfl⟩ : ∃ (i : Fin 16384) (j : Fin 256), y = ix2 i j := ⟨y 0, y 1, (ix2_eta y).symm⟩
    exact Cert.Reference3Ideal.Inp.v81_at _ _ _ _ i j
  · rw [Cert.Reference3Ideal.Read.val_main_v116_eq m' c, e0, e1, e2, e3]
    funext y
    obtain ⟨i, j, rfl⟩ : ∃ (i : Fin 16384) (j : Fin 64), y = ix2 i j := ⟨y 0, y 1, (ix2_eta y).symm⟩
    exact Cert.Reference3Ideal.Inp.v116_at _ _ _ _ i j
  · rw [Cert.Reference3Ideal.Read.val_main_v122_eq, e0, e2, e3, e6]
    funext y
    obtain ⟨i, j, rfl⟩ : ∃ (i : Fin 16384) (j : Fin 256), y = ix2 i j := ⟨y 0, y 1, (ix2_eta y).symm⟩
    exact Cert.Reference3Ideal.Inp.v81_at _ _ _ _ i j
  · rw [Cert.Reference3Ideal.Read.val_main_v123_eq m' c, e0, e1, e2, e3]
    funext y
    obtain ⟨i, j, rfl⟩ : ∃ (i : Fin 16384) (j : Fin 64), y = ix2 i j := ⟨y 0, y 1, (ix2_eta y).symm⟩
    exact Cert.Reference3Ideal.Inp.v116_at _ _ _ _ i j
  · rw [Cert.Reference3Ideal.Read.val_main_v124_eq m' c, e0, e2, e3, e4, e5, e7]
    funext y
    obtain ⟨i, j, rfl⟩ : ∃ (i : Fin 16384) (j : Fin 1024), y = ix2 i j := ⟨y 0, y 1, (ix2_eta y).symm⟩
    exact Cert.Reference3Ideal.Inp.v121_at _ _ _ _ _ _ i j
  · rw [Cert.Reference3Ideal.Read.val_main_v125_eq m' c, e0, e1, e2, e3, e4, e5]
    funext y
    obtain ⟨i, j, rfl⟩ : ∃ (i : Fin 16384) (j : Fin 256), y = ix2 i j := ⟨y 0, y 1, (ix2_eta y).symm⟩
    exact Cert.Reference3Ideal.Inp.v68_at _ _ _ _ _ _ i j
  · rw [Cert.Reference3Ideal.Read.val_main_v126_eq, e0, e2]
    funext y
    obtain ⟨i, j, rfl⟩ : ∃ (i : Fin 16384) (j : Fin 1024), y = ix2 i j := ⟨y 0, y 1, (ix2_eta y).symm⟩
    exact Cert.Reference3Ideal.Inp.v14_at _ _ i j

set_option maxHeartbeats 1000000 in
/-- The recurrence's frame on words. -/
theorem frame_k4 : Cert.quiescent_Kernel4 := fun m ρ _ => Cert.Kernel4.Gen.frame m ρ

set_option maxHeartbeats 1000000 in
/-- The recurrence's frame over the extended reals. -/
theorem frame_k4i : Cert.quiescent_Kernel4Ideal := fun m ρ _ => Cert.Kernel4Ideal.Gen.frame m ρ

/-- The frame of the recurrence's reference. -/
theorem frame_r4i : Cert.quiescent_Reference4Ideal := fun m ρ _ =>
  (θ_run Cert.Reference4Ideal.defs _ _).mono (fun r h => ⟨fun c => (h c).2, Idealize.ShloMosaic.sem_eq_zero_of_no_sems (by decide) r.2⟩)
    (Cert.Reference4Ideal.Value.run (F := Ideal) m ρ)

/-- The recurrence's named constants: the logarithm's factor stands for one over the logarithm of 2 and the mask for minus infinity. -/
theorem preserves4 : Cert.preserves_Kernel4_Kernel4Ideal :=
  ⟨IdealRules.named_const.statement Cert.Kernel4Ideal.κ "log2e" .f32 0x3FB8AA3B#32 (((Real.log 2)⁻¹ : ℝ) : EReal) rfl,
    IdealRules.named_const.statement Cert.Kernel4Ideal.κ "mask" .f32 0xF149F2CA#32 ⊥ rfl⟩

/-- On any arguments the recurrence's states and its reference's are the same. -/
theorem algebraic4 : Cert.algebraic_Kernel4Ideal_Reference4Ideal := by
  intro m ρ m' ρ' _ hagree
  refine ⟨_, (θ_run Cert.Kernel4Ideal.defs _ _).mono (fun _ h c => ⟨(h c).2.1.trans (Cert.Kernel4Ideal.Hg.final m c), (h c).2.2⟩)
    (Cert.Kernel4Ideal.Value.run_blocks (F := Ideal) m ρ), ?_⟩
  refine (θ_run Cert.Reference4Ideal.defs _ _).mono (fun _ h c => ⟨(h c).1.trans ?_, (h c).2⟩) (Cert.Reference4Ideal.Value.run (F := Ideal) m' ρ')
  obtain ⟨e0, e1, e2, e3⟩ := hagree c
  rw [Cert.Reference4Ideal.Read.val_main_v51_eq m' c, e0, e1, e2]
  funext y
  obtain ⟨n, h, i, j, rfl⟩ : ∃ (n : Fin 32) (h : Fin 4) (i j : Fin 128), y = ix4 n h i j := ⟨y 0, y 1, y 2, y 3, (ix4_eta y).symm⟩
  exact Cert.Reference4Ideal.Hg.out_at _ _ _ n h i j

/-- Everything the certificate claims. -/
theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts, Cert.Pre_finite_inputs.Gen.facts, Cert.Pre_finite_weights.facts,
    fun m ρ _ => Cert.Kernel.Attn.frame m ρ, fun m ρ _ => Cert.KernelIdeal.Attn.frame m ρ, fun m ρ _ => Cert.KernelIdeal.Attn.frame m ρ,
    frame_ri, fun m ρ _ => frame_ri m ρ trivial, frame_k2, frame_k2i, frame_r2i,
    frame_k3, frame_k3i, fun m ρ _ => frame_k3i m ρ trivial, frame_r3i, fun m ρ _ => frame_r3i m ρ trivial, frame_k4, frame_k4i, frame_r4i,
    preserves, algebraic, trivial, algebraic2, trivial, algebraic3, preserves4, algebraic4⟩

end Cert.Proof

end
